-- ==== Defs.lean ====
def Pre_Kernel [hPre_roots_in_range : Cert.Pre_roots_in_range.Facts] (m : (ℓ : Loc Cert.Kernel.nD Cert.Kernel.τ Cert.Kernel.sig) → Buf (Elt Bits) ℓ) : Prop :=
  ∀ c : Dev Cert.Kernel.nD,
    (Cert.Pre_roots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_roots_in_range : Cert.Pre_roots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_roots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_roots_in_range : Cert.Pre_roots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_roots_in_range : Cert.Pre_roots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_roots_in_range : Cert.Pre_roots_in_range.Facts) (hPre_sorted_segments : Cert.Pre_sorted_segments.Facts),
    quiescent_Kernel (hKernel := hKernel) (hPre_roots_in_range := hPre_roots_in_range)
    ∧ quiescent_KernelIdeal (hKernelIdeal := hKernelIdeal) (hPre_roots_in_range := hPre_roots_in_range)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_roots_in_range.lean ====
abbrev S320000x128 : Shape := ⟨2, ![320000, 128]⟩
abbrev S320000 : Shape := ⟨1, ![320000]⟩
abbrev S4096 : Shape := ⟨1, ![4096]⟩
abbrev S384x128 : Shape := ⟨2, ![384, 128]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S320000x128 .f32) (main_arg1 : IVec S320000 32) (main_arg2 : IVec S4096 32) (main_arg3 : IVec S4096 32) (main_arg4 : FVec F S384x128 .f32) (main_arg5 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 320000#32
  let main_v3 : IVec S4096 32 := broadcastInDim S4096 ![] bcast_S_S4096 main_c_1
  let main_v4 : IVec S4096 1 := cmpi .slt main_arg2 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  main_v6
-- ==== Pre_sorted_segments.lean ====
abbrev S320000x128 : Shape := ⟨2, ![320000, 128]⟩
abbrev S320000 : Shape := ⟨1, ![320000]⟩
abbrev S4096 : Shape := ⟨1, ![4096]⟩
abbrev S384x128 : Shape := ⟨2, ![384, 128]⟩
abbrev S128 : Shape := ⟨1, ![128]⟩
abbrev S_ : Shape := ⟨0, ![]⟩
abbrev S319999 : Shape := ⟨1, ![319999]⟩

class Facts : Prop where
  bcast_S_S4096 : S_.BroadcastsInDim S4096 (![] : Fin 0 → Fin S4096.rank)
  reducesTo_S4096_S_d0 : S4096.ReducesTo [0] S_
  h_S_ : 0 < S_.numel
  bcast_S_S320000 : S_.BroadcastsInDim S320000 (![] : Fin 0 → Fin S320000.rank)
  reducesTo_S320000_S_d0 : S320000.ReducesTo [0] S_
  slices_S320000_S319999_0 : S320000.Slices ![0] S319999
  slices_S320000_S319999_1 : S320000.Slices ![1] S319999
  reducesTo_S319999_S_d0 : S319999.ReducesTo [0] S_

variable [Facts]

def fn_part1 {F : FTy → Type} [FloatOps F] (main_arg1 : IVec S320000 32) (main_arg3 : IVec S4096 32) (main_v14 : IVec S_ 1) (main_v15 : IVec S319999 32) : IVec S_ 1 :=
  let main_v16 : IVec S319999 32 := (extractStridedSlice S319999 ![1] · slices_S320000_S319999_1) main_arg1
  let main_v17 : IVec S319999 1 := cmpi .sle main_v15 main_v16
  let main_c_7 : IVec S_ 1 := constantI S_ 1 1#1
  let main_v18 : IVec S_ 1 := (fun x v => Host.reduce IntOp.andi x v reducesTo_S319999_S_d0 h_S_) main_v17 main_c_7
  let main_v19 : IVec S_ 1 := andi main_v14 main_v18
  let main_v20 : IVec S4096 32 := iotaInDim S4096 32 0
  let main_v21 : IVec S4096 1 := cmpi .eq main_arg3 main_v20
  let main_c_8 : IVec S_ 1 := constantI S_ 1 1#1
  let main_v22 : IVec S_ 1 := (fun x v => Host.reduce IntOp.andi x v reducesTo_S4096_S_d0 h_S_) main_v21 main_c_8
  let main_v23 : IVec S_ 1 := andi main_v19 main_v22
  main_v23

def fn {F : FTy → Type} [FloatOps F] (main_arg0 : FVec F S320000x128 .f32) (main_arg1 : IVec S320000 32) (main_arg2 : IVec S4096 32) (main_arg3 : IVec S4096 32) (main_arg4 : FVec F S384x128 .f32) (main_arg5 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 320000#32
  let main_v3 : IVec S4096 32 := broadcastInDim S4096 ![] bcast_S_S4096 main_c_1
  let main_v4 : IVec S4096 1 := cmpi .slt main_arg2 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 0#32
  let main_v7 : IVec S320000 32 := broadcastInDim S320000 ![] bcast_S_S320000 main_c_3
  let main_v8 : IVec S320000 1 := cmpi .sge main_arg1 main_v7
  let main_c_4 : IVec S_ 1 := constantI S_ 1 1#1
  let main_v9 : IVec S_ 1 := (fun x v => Host.reduce IntOp.andi x v reducesTo_S320000_S_d0 h_S_) main_v8 main_c_4
  let main_v10 : IVec S_ 1 := andi main_v6 main_v9
  let main_c_5 : IVec S_ 32 := constantI S_ 32 4096#32
  let main_v11 : IVec S320000 32 := broadcastInDim S320000 ![] bcast_S_S320000 main_c_5
  let main_v12 : IVec S320000 1 := cmpi .slt main_arg1 main_v11
  let main_c_6 : IVec S_ 1 := constantI S_ 1 1#1
  let main_v13 : IVec S_ 1 := (fun x v => Host.reduce IntOp.andi x v reducesTo_S320000_S_d0 h_S_) main_v12 main_c_6
  let main_v14 : IVec S_ 1 := andi main_v10 main_v13
  let main_v15 : IVec S319999 32 := (extractStridedSlice S319999 ![0] · slices_S320000_S319999_0) main_arg1
  fn_part1 (F := F) main_arg1 main_arg3 main_v14 main_v15
-- ==== Kernel.lean ====
abbrev S320000x128 : Shape := ⟨2, ![320000, 128]⟩
abbrev S320000 : Shape := ⟨1, ![320000]⟩
abbrev S4096 : Shape := ⟨1, ![4096]⟩
abbrev S384x128 : Shape := ⟨2, ![384, 128]⟩
abbrev S128 : Shape := ⟨1, ![128]⟩
abbrev S20000x16 : Shape := ⟨2, ![20000, 16]⟩
abbrev S524288 : Shape := ⟨1, ![524288]⟩
abbrev S4096x128 : Shape := ⟨2, ![4096, 128]⟩
abbrev S128x128 : Shape := ⟨2, ![128, 128]⟩
abbrev S1x16 : Shape := ⟨2, ![1, 16]⟩
abbrev S16384 : Shape := ⟨1, ![16384]⟩
abbrev S144 : Shape := ⟨1, ![144]⟩
abbrev S_ : Shape := ⟨0, ![]⟩
abbrev S16 : Shape := ⟨1, ![16]⟩
abbrev S1 : Shape := ⟨1, ![1]⟩
abbrev S1x128 : Shape := ⟨2, ![1, 128]⟩
abbrev S4096x1 : Shape := ⟨2, ![4096, 1]⟩

abbrev nBuf : Table → Nat
  | .hbm => 14
  | .local .tc .vmem => 6
  | .local .scVector .vmem => 7
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S4096, .i32⟩
  | .hbm, ⟨3, _⟩ => ⟨S4096, .i32⟩
  | .hbm, ⟨4, _⟩ => ⟨S384x128, .f32⟩
  | .hbm, ⟨5, _⟩ => ⟨S128, .f32⟩
  | .hbm, ⟨6, _⟩ => ⟨S20000x16, .i32⟩
  | .hbm, ⟨7, _⟩ => ⟨S524288, .f32⟩
  | .hbm, ⟨8, _⟩ => ⟨S524288, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S1x128, .f32⟩
  | .hbm, ⟨13, _⟩ => ⟨S4096x128, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S384x128, .f32⟩
  | .local .tc .vmem, ⟨4, _⟩ => ⟨S1x128, .f32⟩
  | .local .tc .vmem, ⟨5, _⟩ => ⟨S4096x128, .f32⟩
  | .local .scVector .vmem, ⟨0, _⟩ => ⟨S128x128, .f32⟩
  | .local .scVector .vmem, ⟨1, _⟩ => ⟨S1x16, .i32⟩
  | .local .scVector .vmem, ⟨2, _⟩ => ⟨S16384, .f32⟩
  | .local .scVector .vmem, ⟨3, _⟩ => ⟨S16384, .f32⟩
  | .local .scVector .vmem, ⟨4, _⟩ => ⟨S128, .i32⟩
  | .local .scVector .vmem, ⟨5, _⟩ => ⟨S128x128, .f32⟩
  | .local .scVector .vmem, ⟨6, _⟩ => ⟨S144, .i32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev main_arg2_scv : Ref sig .scVector := ⟨.hbm, 2, rfl⟩
abbrev main_v1_0_scv : Ref sig .scVector := ⟨.hbm, 7, rfl⟩
abbrev main_v1_1_scv : Ref sig .scVector := ⟨.hbm, 8, rfl⟩
abbrev main_v1_2_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_140_r1 : BitVec 32 := 0#32
  ![v2.toNat, 0]
@[reducible] def k0_t1_loop : Scf.Loop 32 :=
  let c0_i32_4 : BitVec 32 := 0#32
  let c128_i32_5 : BitVec 32 := 128#32
  let v6 : BitVec 32 := Scalar.addi c0_i32_4 c128_i32_5
  let c1_i32 : BitVec 32 := 1#32
  ⟨c0_i32_4, v6, c1_i32⟩
def k0_off3 (k0_t1 : Fin k0_t1_loop.trips) (c0_i32_141 : BitVec 32) : Fin 1 → Nat :=
  let c0_i32_4 : BitVec 32 := 0#32
  let c1_i32 : BitVec 32 := 1#32
  let arg17 : BitVec 32 := Scf.iv c0_i32_4 c1_i32 k0_t1
  let c128_i32_140 : BitVec 32 := 128#32
  let v261 : BitVec 32 := Scalar.muli arg17 c128_i32_140
  let v262 : BitVec 32 := Scalar.addi v261 c0_i32_141
  let v263 : Index := Scalar.indexCast v262
  ![v263.toNat]
@[reducible] def k0_t2_loop : Scf.Loop 32 :=
  let c0_i32_8 : BitVec 32 := 0#32
  let c16_i32 : BitVec 32 := 16#32
  let v7 : BitVec 32 := Scalar.addi c0_i32_8 c16_i32
  let c1_i32_9 : BitVec 32 := 1#32
  ⟨c0_i32_8, v7, c1_i32_9⟩
def k0_off4 (arg18 : BitVec 32) (arg19 : BitVec 32) : Fin 2 → Nat :=
  let v262 : BitVec 32 := Scalar.addi arg18 arg19
  let c0_i32_141 : BitVec 32 := 0#32
  let v264 : BitVec 1 := Scalar.cmpi .sgt v262 c0_i32_141
  let v265 : BitVec 32 := Scalar.extui v264
  let c0_i32_142 : BitVec 32 := 0#32
  let v266 : BitVec 1 := Scalar.cmpi .slt v262 c0_i32_142
  let v267 : BitVec 32 := Scalar.extui v266
  let v268 : BitVec 32 := Scalar.subi v265 v267
  let c2_i32_140 : BitVec 32 := 2#32
  let c0_i32_143 : BitVec 32 := 0#32
  let v269 : BitVec 1 := Scalar.cmpi .sgt c2_i32_140 c0_i32_143
  let v270 : BitVec 32 := Scalar.extui v269
  let c0_i32_144 : BitVec 32 := 0#32
  let v271 : BitVec 1 := Scalar.cmpi .slt c2_i32_140 c0_i32_144
  let v272 : BitVec 32 := Scalar.extui v271
  let v273 : BitVec 32 := Scalar.subi v270 v272
  let v274 : BitVec 1 := Scalar.cmpi .ne v268 v273
  let v275 : BitVec 32 := Scalar.remsi v262 c2_i32_140
  let c0_i32_145 : BitVec 32 := 0#32
  let v276 : BitVec 1 := Scalar.cmpi .ne v275 c0_i32_145
  let v277 : BitVec 1 := Scalar.andi v274 v276
  let v263 : BitVec 32 := Scalar.divsi v262 c2_i32_140
  let c1_i32_146 : BitVec 32 := 1#32
  let v278 : BitVec 32 := Scalar.subi v263 c1_i32_146
  let v279 : BitVec 32 := Scalar.select v277 v278 v263
  let c19999_i32 : BitVec 32 := 19999#32
  let v280 : BitVec 32 := Scalar.minsi v279 c19999_i32
  let c0_i32_150_r2 : BitVec 32 := 0#32
  ![v280.toNat, 0]

def k0_chk1 (arg18 : BitVec 32) (arg19 : BitVec 32) : Prop :=
  (∀ a, (k0_off4 arg18 arg19) a + S1x16.size a ≤ S20000x16.size a)
theorem k0_off4_inb : ∀ (arg18 : BitVec 32) (arg19 : BitVec 32) (k0_hw1 : k0_chk1 arg18 arg19), ∀ a, (k0_off4 arg18 arg19) a + S1x16.size a ≤ S20000x16.size a := fun arg18 arg19 k0_hw1 => k0_hw1

def k0_off5 (v8_0 : BitVec 32) : Fin 2 → Nat :=
  let c1_i32_11 : BitVec 32 := 1#32
  let v9 : BitVec 32 := Scalar.subi v8_0 c1_i32_11
  let c0_i32_12 : BitVec 32 := 0#32
  let v10 : BitVec 32 := Scalar.maxsi v9 c0_i32_12
  let c0_i32_140_r3 : BitVec 32 := 0#32
  ![v10.toNat, 0]

def k0_chk2 (v8_0 : BitVec 32) : Prop :=
  (∀ a, (k0_off5 v8_0) a + S1x16.size a ≤ S20000x16.size a)
theorem k0_off5_inb : ∀ (v8_0 : BitVec 32) (k0_hw2 : k0_chk2 v8_0), ∀ a, (k0_off5 v8_0) a + S1x16.size a ≤ S20000x16.size a := fun v8_0 k0_hw2 => k0_hw2

@[reducible] def k0_t3_loop : Scf.Loop 32 :=
  let c0_i32_54 : BitVec 32 := 0#32
  let c16_i32_55 : BitVec 32 := 16#32
  let v100 : BitVec 32 := Scalar.addi c0_i32_54 c16_i32_55
  let c1_i32_56 : BitVec 32 := 1#32
  ⟨c0_i32_54, v100, c1_i32_56⟩
def k0_off6 (arg18 : BitVec 32) (arg19 : BitVec 32) : Fin 2 → Nat :=
  let v262 : BitVec 32 := Scalar.addi arg18 arg19
  let c0_i32_141 : BitVec 32 := 0#32
  let v264 : BitVec 1 := Scalar.cmpi .sgt v262 c0_i32_141
  let v265 : BitVec 32 := Scalar.extui v264
  let c0_i32_142 : BitVec 32 := 0#32
  let v266 : BitVec 1 := Scalar.cmpi .slt v262 c0_i32_142
  let v267 : BitVec 32 := Scalar.extui v266
  let v268 : BitVec 32 := Scalar.subi v265 v267
  let c2_i32_140 : BitVec 32 := 2#32
  let c0_i32_143 : BitVec 32 := 0#32
  let v269 : BitVec 1 := Scalar.cmpi .sgt c2_i32_140 c0_i32_143
  let v270 : BitVec 32 := Scalar.extui v269
  let c0_i32_144 : BitVec 32 := 0#32
  let v271 : BitVec 1 := Scalar.cmpi .slt c2_i32_140 c0_i32_144
  let v272 : BitVec 32 := Scalar.extui v271
  let v273 : BitVec 32 := Scalar.subi v270 v272
  let v274 : BitVec 1 := Scalar.cmpi .ne v268 v273
  let v275 : BitVec 32 := Scalar.remsi v262 c2_i32_140
  let c0_i32_145 : BitVec 32 := 0#32
  let v276 : BitVec 1 := Scalar.cmpi .ne v275 c0_i32_145
  let v277 : BitVec 1 := Scalar.andi v274 v276
  let v263 : BitVec 32 := Scalar.divsi v262 c2_i32_140
  let c1_i32_146 : BitVec 32 := 1#32
  let v278 : BitVec 32 := Scalar.subi v263 c1_i32_146
  let v279 : BitVec 32 := Scalar.select v277 v278 v263
  let c19999_i32 : BitVec 32 := 19999#32
  let v280 : BitVec 32 := Scalar.minsi v279 c19999_i32
  let c0_i32_150_r4 : BitVec 32 := 0#32
  ![v280.toNat, 0]

def k0_chk3 (arg18 : BitVec 32) (arg19 : BitVec 32) : Prop :=
  (∀ a, (k0_off6 arg18 arg19) a + S1x16.size a ≤ S20000x16.size a)
theorem k0_off6_inb : ∀ (arg18 : BitVec 32) (arg19 : BitVec 32) (k0_hw3 : k0_chk3 arg18 arg19), ∀ a, (k0_off6 arg18 arg19) a + S1x16.size a ≤ S20000x16.size a := fun arg18 arg19 k0_hw3 => k0_hw3

def k0_off7 (v101_0 : BitVec 32) : Fin 2 → Nat :=
  let c1_i32_58 : BitVec 32 := 1#32
  let v102 : BitVec 32 := Scalar.subi v101_0 c1_i32_58
  let c0_i32_59 : BitVec 32 := 0#32
  let v103 : BitVec 32 := Scalar.maxsi v102 c0_i32_59
  let c0_i32_140_r5 : BitVec 32 := 0#32
  ![v103.toNat, 0]

def k0_chk4 (v101_0 : BitVec 32) : Prop :=
  (∀ a, (k0_off7 v101_0) a + S1x16.size a ≤ S20000x16.size a)
theorem k0_off7_inb : ∀ (v101_0 : BitVec 32) (k0_hw4 : k0_chk4 v101_0), ∀ a, (k0_off7 v101_0) a + S1x16.size a ≤ S20000x16.size a := fun v101_0 k0_hw4 => k0_hw4

@[reducible] def k0_t4_loop (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) : Scf.Loop 32 :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c0_i32_95 : BitVec 32 := 0#32
  let v187 : BitVec 1 := Scalar.cmpi .eq v101_0 c0_i32_95
  let c0_i32_98 : BitVec 32 := 0#32
  let c16_i32_97 : BitVec 32 := 16#32
  let c1_i32_96 : BitVec 32 := 1#32
  let v188 : BitVec 32 := Scalar.subi v101_0 c1_i32_96
  let v189 : BitVec 32 := Scalar.muli c16_i32_97 v188
  let c0_i32_64 : BitVec 32 := 0#32
  let c128_i32_51 : BitVec 32 := 128#32
  let v99 : BitVec 32 := Scalar.addi v2 c128_i32_51
  let v109 : BitVec 1 := Scalar.cmpi .slt v108 v99
  let c1_i32_62 : BitVec 32 := 1#32
  let c0_i32_63 : BitVec 32 := 0#32
  let v110 : BitVec 32 := Scalar.select v109 c1_i32_62 c0_i32_63
  let v111 : BitVec 32 := Scalar.addi c0_i32_64 v110
  let v114 : BitVec 1 := Scalar.cmpi .slt v113 v99
  let c1_i32_65 : BitVec 32 := 1#32
  let c0_i32_66 : BitVec 32 := 0#32
  let v115 : BitVec 32 := Scalar.select v114 c1_i32_65 c0_i32_66
  let v116 : BitVec 32 := Scalar.addi v111 v115
  let v119 : BitVec 1 := Scalar.cmpi .slt v118 v99
  let c1_i32_67 : BitVec 32 := 1#32
  let c0_i32_68 : BitVec 32 := 0#32
  let v120 : BitVec 32 := Scalar.select v119 c1_i32_67 c0_i32_68
  let v121 : BitVec 32 := Scalar.addi v116 v120
  let v124 : BitVec 1 := Scalar.cmpi .slt v123 v99
  let c1_i32_69 : BitVec 32 := 1#32
  let c0_i32_70 : BitVec 32 := 0#32
  let v125 : BitVec 32 := Scalar.select v124 c1_i32_69 c0_i32_70
  let v126 : BitVec 32 := Scalar.addi v121 v125
  let v129 : BitVec 1 := Scalar.cmpi .slt v128 v99
  let c1_i32_71 : BitVec 32 := 1#32
  let c0_i32_72 : BitVec 32 := 0#32
  let v130 : BitVec 32 := Scalar.select v129 c1_i32_71 c0_i32_72
  let v131 : BitVec 32 := Scalar.addi v126 v130
  let v134 : BitVec 1 := Scalar.cmpi .slt v133 v99
  let c1_i32_73 : BitVec 32 := 1#32
  let c0_i32_74 : BitVec 32 := 0#32
  let v135 : BitVec 32 := Scalar.select v134 c1_i32_73 c0_i32_74
  let v136 : BitVec 32 := Scalar.addi v131 v135
  let v139 : BitVec 1 := Scalar.cmpi .slt v138 v99
  let c1_i32_75 : BitVec 32 := 1#32
  let c0_i32_76 : BitVec 32 := 0#32
  let v140 : BitVec 32 := Scalar.select v139 c1_i32_75 c0_i32_76
  let v141 : BitVec 32 := Scalar.addi v136 v140
  let v144 : BitVec 1 := Scalar.cmpi .slt v143 v99
  let c1_i32_77 : BitVec 32 := 1#32
  let c0_i32_78 : BitVec 32 := 0#32
  let v145 : BitVec 32 := Scalar.select v144 c1_i32_77 c0_i32_78
  let v146 : BitVec 32 := Scalar.addi v141 v145
  let v149 : BitVec 1 := Scalar.cmpi .slt v148 v99
  let c1_i32_79 : BitVec 32 := 1#32
  let c0_i32_80 : BitVec 32 := 0#32
  let v150 : BitVec 32 := Scalar.select v149 c1_i32_79 c0_i32_80
  let v151 : BitVec 32 := Scalar.addi v146 v150
  let v154 : BitVec 1 := Scalar.cmpi .slt v153 v99
  let c1_i32_81 : BitVec 32 := 1#32
  let c0_i32_82 : BitVec 32 := 0#32
  let v155 : BitVec 32 := Scalar.select v154 c1_i32_81 c0_i32_82
  let v156 : BitVec 32 := Scalar.addi v151 v155
  let v159 : BitVec 1 := Scalar.cmpi .slt v158 v99
  let c1_i32_83 : BitVec 32 := 1#32
  let c0_i32_84 : BitVec 32 := 0#32
  let v160 : BitVec 32 := Scalar.select v159 c1_i32_83 c0_i32_84
  let v161 : BitVec 32 := Scalar.addi v156 v160
  let v164 : BitVec 1 := Scalar.cmpi .slt v163 v99
  let c1_i32_85 : BitVec 32 := 1#32
  let c0_i32_86 : BitVec 32 := 0#32
  let v165 : BitVec 32 := Scalar.select v164 c1_i32_85 c0_i32_86
  let v166 : BitVec 32 := Scalar.addi v161 v165
  let v169 : BitVec 1 := Scalar.cmpi .slt v168 v99
  let c1_i32_87 : BitVec 32 := 1#32
  let c0_i32_88 : BitVec 32 := 0#32
  let v170 : BitVec 32 := Scalar.select v169 c1_i32_87 c0_i32_88
  let v171 : BitVec 32 := Scalar.addi v166 v170
  let v174 : BitVec 1 := Scalar.cmpi .slt v173 v99
  let c1_i32_89 : BitVec 32 := 1#32
  let c0_i32_90 : BitVec 32 := 0#32
  let v175 : BitVec 32 := Scalar.select v174 c1_i32_89 c0_i32_90
  let v176 : BitVec 32 := Scalar.addi v171 v175
  let v179 : BitVec 1 := Scalar.cmpi .slt v178 v99
  let c1_i32_91 : BitVec 32 := 1#32
  let c0_i32_92 : BitVec 32 := 0#32
  let v180 : BitVec 32 := Scalar.select v179 c1_i32_91 c0_i32_92
  let v181 : BitVec 32 := Scalar.addi v176 v180
  let v184 : BitVec 1 := Scalar.cmpi .slt v183 v99
  let c1_i32_93 : BitVec 32 := 1#32
  let c0_i32_94 : BitVec 32 := 0#32
  let v185 : BitVec 32 := Scalar.select v184 c1_i32_93 c0_i32_94
  let v186 : BitVec 32 := Scalar.addi v181 v185
  let v190 : BitVec 32 := Scalar.addi v189 v186
  let v191 : BitVec 32 := Scalar.select v187 c0_i32_98 v190
  let c128_i32_106 : BitVec 32 := 128#32
  let v209 : BitVec 32 := Scalar.addi v191 c128_i32_106
  let c1_i32_107 : BitVec 32 := 1#32
  let v210 : BitVec 32 := Scalar.subi v209 c1_i32_107
  let c0_i32_109 : BitVec 32 := 0#32
  let v212 : BitVec 1 := Scalar.cmpi .sgt v210 c0_i32_109
  let v213 : BitVec 32 := Scalar.extui v212
  let c0_i32_110 : BitVec 32 := 0#32
  let v214 : BitVec 1 := Scalar.cmpi .slt v210 c0_i32_110
  let v215 : BitVec 32 := Scalar.extui v214
  let v216 : BitVec 32 := Scalar.subi v213 v215
  let c128_i32_108 : BitVec 32 := 128#32
  let c0_i32_111 : BitVec 32 := 0#32
  let v217 : BitVec 1 := Scalar.cmpi .sgt c128_i32_108 c0_i32_111
  let v218 : BitVec 32 := Scalar.extui v217
  let c0_i32_112 : BitVec 32 := 0#32
  let v219 : BitVec 1 := Scalar.cmpi .slt c128_i32_108 c0_i32_112
  let v220 : BitVec 32 := Scalar.extui v219
  let v221 : BitVec 32 := Scalar.subi v218 v220
  let v222 : BitVec 1 := Scalar.cmpi .ne v216 v221
  let v223 : BitVec 32 := Scalar.remsi v210 c128_i32_108
  let c0_i32_113 : BitVec 32 := 0#32
  let v224 : BitVec 1 := Scalar.cmpi .ne v223 c0_i32_113
  let v225 : BitVec 1 := Scalar.andi v222 v224
  let v211 : BitVec 32 := Scalar.divsi v210 c128_i32_108
  let c1_i32_114 : BitVec 32 := 1#32
  let v226 : BitVec 32 := Scalar.subi v211 c1_i32_114
  let v227 : BitVec 32 := Scalar.select v225 v226 v211
  let v244 : BitVec 32 := Scalar.subi v227 v208
  let c1_i32_132 : BitVec 32 := 1#32
  let v246 : BitVec 32 := Scalar.divsi v244 c1_i32_132
  let v247 : BitVec 32 := Scalar.muli v246 c1_i32_132
  let v248 : BitVec 32 := Scalar.addi v208 v247
  let c1_i32_133 : BitVec 32 := 1#32
  ⟨v208, v248, c1_i32_133⟩

def k0_off8 (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips) : Fin 2 → Nat :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c1_i32_133 : BitVec 32 := 1#32
  let arg17 : BitVec 32 := Scf.iv v208 c1_i32_133 k0_t4
  let c128_i32_140 : BitVec 32 := 128#32
  let v261 : BitVec 32 := Scalar.muli arg17 c128_i32_140
  let c0_i32_146_r6 : BitVec 32 := 0#32
  ![v261.toNat, 0]
def k0_off9 (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips) : Fin 1 → Nat :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c1_i32_133 : BitVec 32 := 1#32
  let arg17 : BitVec 32 := Scf.iv v208 c1_i32_133 k0_t4
  let c128_i32_141 : BitVec 32 := 128#32
  let v262 : BitVec 32 := Scalar.muli arg17 c128_i32_141
  ![v262.toNat]
@[reducible] def k0_t5_loop : Scf.Loop 32 :=
  let c0_i32_142 : BitVec 32 := 0#32
  let c128_i32_143 : BitVec 32 := 128#32
  let v263 : BitVec 32 := Scalar.addi c0_i32_142 c128_i32_143
  let c1_i32_144 : BitVec 32 := 1#32
  ⟨c0_i32_142, v263, c1_i32_144⟩
def k0_off10 (k0_t5 : Fin k0_t5_loop.trips) : Fin 1 → Nat :=
  let c0_i32_142 : BitVec 32 := 0#32
  let c1_i32_144 : BitVec 32 := 1#32
  let arg36 : BitVec 32 := Scf.iv c0_i32_142 c1_i32_144 k0_t5
  let v265 : Index := Scalar.indexCast arg36
  ![v265.toNat]
def k0_off11 (i : grid0.Coords) (arg37 : BitVec 32) (c0_i32_153 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v338 : BitVec 32 := Scalar.subi arg37 v2
  let c128_i32_152 : BitVec 32 := 128#32
  let v341 : BitVec 32 := Scalar.muli v338 c128_i32_152
  let v342 : BitVec 32 := Scalar.addi v341 c0_i32_153
  let v343 : Index := Scalar.indexCast v342
  ![v343.toNat]
def k0_cond1 (i : grid0.Coords) (arg37 : BitVec 32) (v269 : BitVec 32) (v276 : BitVec 1) : BitVec 1 :=
  let v270 : BitVec 1 := Scalar.cmpi .ne v269 arg37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v271 : BitVec 1 := Scalar.cmpi .sge arg37 v2
  let v272 : BitVec 1 := Scalar.andi v270 v271
  let c128_i32_146 : BitVec 32 := 128#32
  let v273 : BitVec 32 := Scalar.addi v2 c128_i32_146
  let v274 : BitVec 1 := Scalar.cmpi .slt arg37 v273
  let v275 : BitVec 1 := Scalar.andi v272 v274
  let v277 : BitVec 1 := Scalar.andi v275 v276
  let v278 : BitVec 32 := Scalar.extui v277
  let c0_i32_148 : BitVec 32 := 0#32
  let v279 : BitVec 1 := Scalar.cmpi .ne v278 c0_i32_148
  v279

def k0_chk6 (i : grid0.Coords) (arg37 : BitVec 32) (v269 : BitVec 32) (v276 : BitVec 1) : Prop :=
  (∀ (k0_h1 : k0_cond1 i arg37 v269 v276 = 1#1), ∀ (r : Fin 8), ∀ a, (k0_off11 i arg37 (BitVec.ofNat 32 (16 * r.val))) a + S16.size a ≤ S16384.size a)
theorem k0_off11_inb : ∀ (i : grid0.Coords) (arg37 : BitVec 32) (v269 : BitVec 32) (v276 : BitVec 1) (k0_hw6 : k0_chk6 i arg37 v269 v276), ∀ (k0_h1 : k0_cond1 i arg37 v269 v276 = 1#1), ∀ (r : Fin 8), ∀ a, (k0_off11 i arg37 (BitVec.ofNat 32 (16 * r.val))) a + S16.size a ≤ S16384.size a := fun i arg37 v269 v276 k0_hw6 k0_h1 r => k0_hw6 k0_h1 r

def k0_off12 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v280 : Index := Scalar.indexCast arg36
  let c0_149 : Index := 0#32
  ![v280.toNat, 0]
def k0_off13 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v283 : Index := Scalar.indexCast arg36
  let c16 : Index := 16#32
  ![v283.toNat, 16]
def k0_off14 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v286 : Index := Scalar.indexCast arg36
  let c32 : Index := 32#32
  ![v286.toNat, 32]
def k0_off15 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v289 : Index := Scalar.indexCast arg36
  let c48 : Index := 48#32
  ![v289.toNat, 48]
def k0_off16 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v292 : Index := Scalar.indexCast arg36
  let c64 : Index := 64#32
  ![v292.toNat, 64]
def k0_off17 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v295 : Index := Scalar.indexCast arg36
  let c80 : Index := 80#32
  ![v295.toNat, 80]
def k0_off18 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v298 : Index := Scalar.indexCast arg36
  let c96 : Index := 96#32
  ![v298.toNat, 96]
def k0_off19 (k0_t5 : Fin k0_t5_loop.trips) : Fin 2 → Nat :=
  let c0_i32_142 : BitVec 32 := 0#32
  let c1_i32_144 : BitVec 32 := 1#32
  let arg36 : BitVec 32 := Scf.iv c0_i32_142 c1_i32_144 k0_t5
  let v301 : Index := Scalar.indexCast arg36
  let c112 : Index := 112#32
  ![v301.toNat, 112]
@[reducible] def k0_t6_loop (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) : Scf.Loop 32 :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c0_i32_95 : BitVec 32 := 0#32
  let v187 : BitVec 1 := Scalar.cmpi .eq v101_0 c0_i32_95
  let c0_i32_98 : BitVec 32 := 0#32
  let c16_i32_97 : BitVec 32 := 16#32
  let c1_i32_96 : BitVec 32 := 1#32
  let v188 : BitVec 32 := Scalar.subi v101_0 c1_i32_96
  let v189 : BitVec 32 := Scalar.muli c16_i32_97 v188
  let c0_i32_64 : BitVec 32 := 0#32
  let c128_i32_51 : BitVec 32 := 128#32
  let v99 : BitVec 32 := Scalar.addi v2 c128_i32_51
  let v109 : BitVec 1 := Scalar.cmpi .slt v108 v99
  let c1_i32_62 : BitVec 32 := 1#32
  let c0_i32_63 : BitVec 32 := 0#32
  let v110 : BitVec 32 := Scalar.select v109 c1_i32_62 c0_i32_63
  let v111 : BitVec 32 := Scalar.addi c0_i32_64 v110
  let v114 : BitVec 1 := Scalar.cmpi .slt v113 v99
  let c1_i32_65 : BitVec 32 := 1#32
  let c0_i32_66 : BitVec 32 := 0#32
  let v115 : BitVec 32 := Scalar.select v114 c1_i32_65 c0_i32_66
  let v116 : BitVec 32 := Scalar.addi v111 v115
  let v119 : BitVec 1 := Scalar.cmpi .slt v118 v99
  let c1_i32_67 : BitVec 32 := 1#32
  let c0_i32_68 : BitVec 32 := 0#32
  let v120 : BitVec 32 := Scalar.select v119 c1_i32_67 c0_i32_68
  let v121 : BitVec 32 := Scalar.addi v116 v120
  let v124 : BitVec 1 := Scalar.cmpi .slt v123 v99
  let c1_i32_69 : BitVec 32 := 1#32
  let c0_i32_70 : BitVec 32 := 0#32
  let v125 : BitVec 32 := Scalar.select v124 c1_i32_69 c0_i32_70
  let v126 : BitVec 32 := Scalar.addi v121 v125
  let v129 : BitVec 1 := Scalar.cmpi .slt v128 v99
  let c1_i32_71 : BitVec 32 := 1#32
  let c0_i32_72 : BitVec 32 := 0#32
  let v130 : BitVec 32 := Scalar.select v129 c1_i32_71 c0_i32_72
  let v131 : BitVec 32 := Scalar.addi v126 v130
  let v134 : BitVec 1 := Scalar.cmpi .slt v133 v99
  let c1_i32_73 : BitVec 32 := 1#32
  let c0_i32_74 : BitVec 32 := 0#32
  let v135 : BitVec 32 := Scalar.select v134 c1_i32_73 c0_i32_74
  let v136 : BitVec 32 := Scalar.addi v131 v135
  let v139 : BitVec 1 := Scalar.cmpi .slt v138 v99
  let c1_i32_75 : BitVec 32 := 1#32
  let c0_i32_76 : BitVec 32 := 0#32
  let v140 : BitVec 32 := Scalar.select v139 c1_i32_75 c0_i32_76
  let v141 : BitVec 32 := Scalar.addi v136 v140
  let v144 : BitVec 1 := Scalar.cmpi .slt v143 v99
  let c1_i32_77 : BitVec 32 := 1#32
  let c0_i32_78 : BitVec 32 := 0#32
  let v145 : BitVec 32 := Scalar.select v144 c1_i32_77 c0_i32_78
  let v146 : BitVec 32 := Scalar.addi v141 v145
  let v149 : BitVec 1 := Scalar.cmpi .slt v148 v99
  let c1_i32_79 : BitVec 32 := 1#32
  let c0_i32_80 : BitVec 32 := 0#32
  let v150 : BitVec 32 := Scalar.select v149 c1_i32_79 c0_i32_80
  let v151 : BitVec 32 := Scalar.addi v146 v150
  let v154 : BitVec 1 := Scalar.cmpi .slt v153 v99
  let c1_i32_81 : BitVec 32 := 1#32
  let c0_i32_82 : BitVec 32 := 0#32
  let v155 : BitVec 32 := Scalar.select v154 c1_i32_81 c0_i32_82
  let v156 : BitVec 32 := Scalar.addi v151 v155
  let v159 : BitVec 1 := Scalar.cmpi .slt v158 v99
  let c1_i32_83 : BitVec 32 := 1#32
  let c0_i32_84 : BitVec 32 := 0#32
  let v160 : BitVec 32 := Scalar.select v159 c1_i32_83 c0_i32_84
  let v161 : BitVec 32 := Scalar.addi v156 v160
  let v164 : BitVec 1 := Scalar.cmpi .slt v163 v99
  let c1_i32_85 : BitVec 32 := 1#32
  let c0_i32_86 : BitVec 32 := 0#32
  let v165 : BitVec 32 := Scalar.select v164 c1_i32_85 c0_i32_86
  let v166 : BitVec 32 := Scalar.addi v161 v165
  let v169 : BitVec 1 := Scalar.cmpi .slt v168 v99
  let c1_i32_87 : BitVec 32 := 1#32
  let c0_i32_88 : BitVec 32 := 0#32
  let v170 : BitVec 32 := Scalar.select v169 c1_i32_87 c0_i32_88
  let v171 : BitVec 32 := Scalar.addi v166 v170
  let v174 : BitVec 1 := Scalar.cmpi .slt v173 v99
  let c1_i32_89 : BitVec 32 := 1#32
  let c0_i32_90 : BitVec 32 := 0#32
  let v175 : BitVec 32 := Scalar.select v174 c1_i32_89 c0_i32_90
  let v176 : BitVec 32 := Scalar.addi v171 v175
  let v179 : BitVec 1 := Scalar.cmpi .slt v178 v99
  let c1_i32_91 : BitVec 32 := 1#32
  let c0_i32_92 : BitVec 32 := 0#32
  let v180 : BitVec 32 := Scalar.select v179 c1_i32_91 c0_i32_92
  let v181 : BitVec 32 := Scalar.addi v176 v180
  let v184 : BitVec 1 := Scalar.cmpi .slt v183 v99
  let c1_i32_93 : BitVec 32 := 1#32
  let c0_i32_94 : BitVec 32 := 0#32
  let v185 : BitVec 32 := Scalar.select v184 c1_i32_93 c0_i32_94
  let v186 : BitVec 32 := Scalar.addi v181 v185
  let v190 : BitVec 32 := Scalar.addi v189 v186
  let v191 : BitVec 32 := Scalar.select v187 c0_i32_98 v190
  let c128_i32_106 : BitVec 32 := 128#32
  let v209 : BitVec 32 := Scalar.addi v191 c128_i32_106
  let c1_i32_107 : BitVec 32 := 1#32
  let v210 : BitVec 32 := Scalar.subi v209 c1_i32_107
  let c0_i32_109 : BitVec 32 := 0#32
  let v212 : BitVec 1 := Scalar.cmpi .sgt v210 c0_i32_109
  let v213 : BitVec 32 := Scalar.extui v212
  let c0_i32_110 : BitVec 32 := 0#32
  let v214 : BitVec 1 := Scalar.cmpi .slt v210 c0_i32_110
  let v215 : BitVec 32 := Scalar.extui v214
  let v216 : BitVec 32 := Scalar.subi v213 v215
  let c128_i32_108 : BitVec 32 := 128#32
  let c0_i32_111 : BitVec 32 := 0#32
  let v217 : BitVec 1 := Scalar.cmpi .sgt c128_i32_108 c0_i32_111
  let v218 : BitVec 32 := Scalar.extui v217
  let c0_i32_112 : BitVec 32 := 0#32
  let v219 : BitVec 1 := Scalar.cmpi .slt c128_i32_108 c0_i32_112
  let v220 : BitVec 32 := Scalar.extui v219
  let v221 : BitVec 32 := Scalar.subi v218 v220
  let v222 : BitVec 1 := Scalar.cmpi .ne v216 v221
  let v223 : BitVec 32 := Scalar.remsi v210 c128_i32_108
  let c0_i32_113 : BitVec 32 := 0#32
  let v224 : BitVec 1 := Scalar.cmpi .ne v223 c0_i32_113
  let v225 : BitVec 1 := Scalar.andi v222 v224
  let v211 : BitVec 32 := Scalar.divsi v210 c128_i32_108
  let c1_i32_114 : BitVec 32 := 1#32
  let v226 : BitVec 32 := Scalar.subi v211 c1_i32_114
  let v227 : BitVec 32 := Scalar.select v225 v226 v211
  let v244 : BitVec 32 := Scalar.subi v227 v208
  let c1_i32_132 : BitVec 32 := 1#32
  let v246 : BitVec 32 := Scalar.divsi v244 c1_i32_132
  let v247 : BitVec 32 := Scalar.muli v246 c1_i32_132
  let v248 : BitVec 32 := Scalar.addi v208 v247
  let v245 : BitVec 32 := Scalar.addi v208 v244
  let c1_i32_134 : BitVec 32 := 1#32
  ⟨v248, v245, c1_i32_134⟩
def k0_off20 (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips) : Fin 2 → Nat :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c0_i32_95 : BitVec 32 := 0#32
  let v187 : BitVec 1 := Scalar.cmpi .eq v101_0 c0_i32_95
  let c0_i32_98 : BitVec 32 := 0#32
  let c16_i32_97 : BitVec 32 := 16#32
  let c1_i32_96 : BitVec 32 := 1#32
  let v188 : BitVec 32 := Scalar.subi v101_0 c1_i32_96
  let v189 : BitVec 32 := Scalar.muli c16_i32_97 v188
  let c0_i32_64 : BitVec 32 := 0#32
  let c128_i32_51 : BitVec 32 := 128#32
  let v99 : BitVec 32 := Scalar.addi v2 c128_i32_51
  let v109 : BitVec 1 := Scalar.cmpi .slt v108 v99
  let c1_i32_62 : BitVec 32 := 1#32
  let c0_i32_63 : BitVec 32 := 0#32
  let v110 : BitVec 32 := Scalar.select v109 c1_i32_62 c0_i32_63
  let v111 : BitVec 32 := Scalar.addi c0_i32_64 v110
  let v114 : BitVec 1 := Scalar.cmpi .slt v113 v99
  let c1_i32_65 : BitVec 32 := 1#32
  let c0_i32_66 : BitVec 32 := 0#32
  let v115 : BitVec 32 := Scalar.select v114 c1_i32_65 c0_i32_66
  let v116 : BitVec 32 := Scalar.addi v111 v115
  let v119 : BitVec 1 := Scalar.cmpi .slt v118 v99
  let c1_i32_67 : BitVec 32 := 1#32
  let c0_i32_68 : BitVec 32 := 0#32
  let v120 : BitVec 32 := Scalar.select v119 c1_i32_67 c0_i32_68
  let v121 : BitVec 32 := Scalar.addi v116 v120
  let v124 : BitVec 1 := Scalar.cmpi .slt v123 v99
  let c1_i32_69 : BitVec 32 := 1#32
  let c0_i32_70 : BitVec 32 := 0#32
  let v125 : BitVec 32 := Scalar.select v124 c1_i32_69 c0_i32_70
  let v126 : BitVec 32 := Scalar.addi v121 v125
  let v129 : BitVec 1 := Scalar.cmpi .slt v128 v99
  let c1_i32_71 : BitVec 32 := 1#32
  let c0_i32_72 : BitVec 32 := 0#32
  let v130 : BitVec 32 := Scalar.select v129 c1_i32_71 c0_i32_72
  let v131 : BitVec 32 := Scalar.addi v126 v130
  let v134 : BitVec 1 := Scalar.cmpi .slt v133 v99
  let c1_i32_73 : BitVec 32 := 1#32
  let c0_i32_74 : BitVec 32 := 0#32
  let v135 : BitVec 32 := Scalar.select v134 c1_i32_73 c0_i32_74
  let v136 : BitVec 32 := Scalar.addi v131 v135
  let v139 : BitVec 1 := Scalar.cmpi .slt v138 v99
  let c1_i32_75 : BitVec 32 := 1#32
  let c0_i32_76 : BitVec 32 := 0#32
  let v140 : BitVec 32 := Scalar.select v139 c1_i32_75 c0_i32_76
  let v141 : BitVec 32 := Scalar.addi v136 v140
  let v144 : BitVec 1 := Scalar.cmpi .slt v143 v99
  let c1_i32_77 : BitVec 32 := 1#32
  let c0_i32_78 : BitVec 32 := 0#32
  let v145 : BitVec 32 := Scalar.select v144 c1_i32_77 c0_i32_78
  let v146 : BitVec 32 := Scalar.addi v141 v145
  let v149 : BitVec 1 := Scalar.cmpi .slt v148 v99
  let c1_i32_79 : BitVec 32 := 1#32
  let c0_i32_80 : BitVec 32 := 0#32
  let v150 : BitVec 32 := Scalar.select v149 c1_i32_79 c0_i32_80
  let v151 : BitVec 32 := Scalar.addi v146 v150
  let v154 : BitVec 1 := Scalar.cmpi .slt v153 v99
  let c1_i32_81 : BitVec 32 := 1#32
  let c0_i32_82 : BitVec 32 := 0#32
  let v155 : BitVec 32 := Scalar.select v154 c1_i32_81 c0_i32_82
  let v156 : BitVec 32 := Scalar.addi v151 v155
  let v159 : BitVec 1 := Scalar.cmpi .slt v158 v99
  let c1_i32_83 : BitVec 32 := 1#32
  let c0_i32_84 : BitVec 32 := 0#32
  let v160 : BitVec 32 := Scalar.select v159 c1_i32_83 c0_i32_84
  let v161 : BitVec 32 := Scalar.addi v156 v160
  let v164 : BitVec 1 := Scalar.cmpi .slt v163 v99
  let c1_i32_85 : BitVec 32 := 1#32
  let c0_i32_86 : BitVec 32 := 0#32
  let v165 : BitVec 32 := Scalar.select v164 c1_i32_85 c0_i32_86
  let v166 : BitVec 32 := Scalar.addi v161 v165
  let v169 : BitVec 1 := Scalar.cmpi .slt v168 v99
  let c1_i32_87 : BitVec 32 := 1#32
  let c0_i32_88 : BitVec 32 := 0#32
  let v170 : BitVec 32 := Scalar.select v169 c1_i32_87 c0_i32_88
  let v171 : BitVec 32 := Scalar.addi v166 v170
  let v174 : BitVec 1 := Scalar.cmpi .slt v173 v99
  let c1_i32_89 : BitVec 32 := 1#32
  let c0_i32_90 : BitVec 32 := 0#32
  let v175 : BitVec 32 := Scalar.select v174 c1_i32_89 c0_i32_90
  let v176 : BitVec 32 := Scalar.addi v171 v175
  let v179 : BitVec 1 := Scalar.cmpi .slt v178 v99
  let c1_i32_91 : BitVec 32 := 1#32
  let c0_i32_92 : BitVec 32 := 0#32
  let v180 : BitVec 32 := Scalar.select v179 c1_i32_91 c0_i32_92
  let v181 : BitVec 32 := Scalar.addi v176 v180
  let v184 : BitVec 1 := Scalar.cmpi .slt v183 v99
  let c1_i32_93 : BitVec 32 := 1#32
  let c0_i32_94 : BitVec 32 := 0#32
  let v185 : BitVec 32 := Scalar.select v184 c1_i32_93 c0_i32_94
  let v186 : BitVec 32 := Scalar.addi v181 v185
  let v190 : BitVec 32 := Scalar.addi v189 v186
  let v191 : BitVec 32 := Scalar.select v187 c0_i32_98 v190
  let c128_i32_106 : BitVec 32 := 128#32
  let v209 : BitVec 32 := Scalar.addi v191 c128_i32_106
  let c1_i32_107 : BitVec 32 := 1#32
  let v210 : BitVec 32 := Scalar.subi v209 c1_i32_107
  let c0_i32_109 : BitVec 32 := 0#32
  let v212 : BitVec 1 := Scalar.cmpi .sgt v210 c0_i32_109
  let v213 : BitVec 32 := Scalar.extui v212
  let c0_i32_110 : BitVec 32 := 0#32
  let v214 : BitVec 1 := Scalar.cmpi .slt v210 c0_i32_110
  let v215 : BitVec 32 := Scalar.extui v214
  let v216 : BitVec 32 := Scalar.subi v213 v215
  let c128_i32_108 : BitVec 32 := 128#32
  let c0_i32_111 : BitVec 32 := 0#32
  let v217 : BitVec 1 := Scalar.cmpi .sgt c128_i32_108 c0_i32_111
  let v218 : BitVec 32 := Scalar.extui v217
  let c0_i32_112 : BitVec 32 := 0#32
  let v219 : BitVec 1 := Scalar.cmpi .slt c128_i32_108 c0_i32_112
  let v220 : BitVec 32 := Scalar.extui v219
  let v221 : BitVec 32 := Scalar.subi v218 v220
  let v222 : BitVec 1 := Scalar.cmpi .ne v216 v221
  let v223 : BitVec 32 := Scalar.remsi v210 c128_i32_108
  let c0_i32_113 : BitVec 32 := 0#32
  let v224 : BitVec 1 := Scalar.cmpi .ne v223 c0_i32_113
  let v225 : BitVec 1 := Scalar.andi v222 v224
  let v211 : BitVec 32 := Scalar.divsi v210 c128_i32_108
  let c1_i32_114 : BitVec 32 := 1#32
  let v226 : BitVec 32 := Scalar.subi v211 c1_i32_114
  let v227 : BitVec 32 := Scalar.select v225 v226 v211
  let v244 : BitVec 32 := Scalar.subi v227 v208
  let c1_i32_132 : BitVec 32 := 1#32
  let v246 : BitVec 32 := Scalar.divsi v244 c1_i32_132
  let v247 : BitVec 32 := Scalar.muli v246 c1_i32_132
  let v248 : BitVec 32 := Scalar.addi v208 v247
  let c1_i32_134 : BitVec 32 := 1#32
  let arg17 : BitVec 32 := Scf.iv v248 c1_i32_134 k0_t6
  let c128_i32_140 : BitVec 32 := 128#32
  let v261 : BitVec 32 := Scalar.muli arg17 c128_i32_140
  let c0_i32_146_r8 : BitVec 32 := 0#32
  ![v261.toNat, 0]
def k0_off21 (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips) : Fin 1 → Nat :=
  let c0_i32_47 : BitVec 32 := 0#32
  let v94 : BitVec 1 := Scalar.cmpi .eq v8_0 c0_i32_47
  let c0_i32_50 : BitVec 32 := 0#32
  let c16_i32_49 : BitVec 32 := 16#32
  let c1_i32_48 : BitVec 32 := 1#32
  let v95 : BitVec 32 := Scalar.subi v8_0 c1_i32_48
  let v96 : BitVec 32 := Scalar.muli c16_i32_49 v95
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v16 : BitVec 1 := Scalar.cmpi .slt v15 v2
  let c1_i32_14 : BitVec 32 := 1#32
  let c0_i32_15 : BitVec 32 := 0#32
  let v17 : BitVec 32 := Scalar.select v16 c1_i32_14 c0_i32_15
  let v18 : BitVec 32 := Scalar.addi c0_i32_16 v17
  let v21 : BitVec 1 := Scalar.cmpi .slt v20 v2
  let c1_i32_17 : BitVec 32 := 1#32
  let c0_i32_18 : BitVec 32 := 0#32
  let v22 : BitVec 32 := Scalar.select v21 c1_i32_17 c0_i32_18
  let v23 : BitVec 32 := Scalar.addi v18 v22
  let v26 : BitVec 1 := Scalar.cmpi .slt v25 v2
  let c1_i32_19 : BitVec 32 := 1#32
  let c0_i32_20 : BitVec 32 := 0#32
  let v27 : BitVec 32 := Scalar.select v26 c1_i32_19 c0_i32_20
  let v28 : BitVec 32 := Scalar.addi v23 v27
  let v31 : BitVec 1 := Scalar.cmpi .slt v30 v2
  let c1_i32_21 : BitVec 32 := 1#32
  let c0_i32_22 : BitVec 32 := 0#32
  let v32 : BitVec 32 := Scalar.select v31 c1_i32_21 c0_i32_22
  let v33 : BitVec 32 := Scalar.addi v28 v32
  let v36 : BitVec 1 := Scalar.cmpi .slt v35 v2
  let c1_i32_23 : BitVec 32 := 1#32
  let c0_i32_24 : BitVec 32 := 0#32
  let v37 : BitVec 32 := Scalar.select v36 c1_i32_23 c0_i32_24
  let v38 : BitVec 32 := Scalar.addi v33 v37
  let v41 : BitVec 1 := Scalar.cmpi .slt v40 v2
  let c1_i32_25 : BitVec 32 := 1#32
  let c0_i32_26 : BitVec 32 := 0#32
  let v42 : BitVec 32 := Scalar.select v41 c1_i32_25 c0_i32_26
  let v43 : BitVec 32 := Scalar.addi v38 v42
  let v46 : BitVec 1 := Scalar.cmpi .slt v45 v2
  let c1_i32_27 : BitVec 32 := 1#32
  let c0_i32_28 : BitVec 32 := 0#32
  let v47 : BitVec 32 := Scalar.select v46 c1_i32_27 c0_i32_28
  let v48 : BitVec 32 := Scalar.addi v43 v47
  let v51 : BitVec 1 := Scalar.cmpi .slt v50 v2
  let c1_i32_29 : BitVec 32 := 1#32
  let c0_i32_30 : BitVec 32 := 0#32
  let v52 : BitVec 32 := Scalar.select v51 c1_i32_29 c0_i32_30
  let v53 : BitVec 32 := Scalar.addi v48 v52
  let v56 : BitVec 1 := Scalar.cmpi .slt v55 v2
  let c1_i32_31 : BitVec 32 := 1#32
  let c0_i32_32 : BitVec 32 := 0#32
  let v57 : BitVec 32 := Scalar.select v56 c1_i32_31 c0_i32_32
  let v58 : BitVec 32 := Scalar.addi v53 v57
  let v61 : BitVec 1 := Scalar.cmpi .slt v60 v2
  let c1_i32_33 : BitVec 32 := 1#32
  let c0_i32_34 : BitVec 32 := 0#32
  let v62 : BitVec 32 := Scalar.select v61 c1_i32_33 c0_i32_34
  let v63 : BitVec 32 := Scalar.addi v58 v62
  let v66 : BitVec 1 := Scalar.cmpi .slt v65 v2
  let c1_i32_35 : BitVec 32 := 1#32
  let c0_i32_36 : BitVec 32 := 0#32
  let v67 : BitVec 32 := Scalar.select v66 c1_i32_35 c0_i32_36
  let v68 : BitVec 32 := Scalar.addi v63 v67
  let v71 : BitVec 1 := Scalar.cmpi .slt v70 v2
  let c1_i32_37 : BitVec 32 := 1#32
  let c0_i32_38 : BitVec 32 := 0#32
  let v72 : BitVec 32 := Scalar.select v71 c1_i32_37 c0_i32_38
  let v73 : BitVec 32 := Scalar.addi v68 v72
  let v76 : BitVec 1 := Scalar.cmpi .slt v75 v2
  let c1_i32_39 : BitVec 32 := 1#32
  let c0_i32_40 : BitVec 32 := 0#32
  let v77 : BitVec 32 := Scalar.select v76 c1_i32_39 c0_i32_40
  let v78 : BitVec 32 := Scalar.addi v73 v77
  let v81 : BitVec 1 := Scalar.cmpi .slt v80 v2
  let c1_i32_41 : BitVec 32 := 1#32
  let c0_i32_42 : BitVec 32 := 0#32
  let v82 : BitVec 32 := Scalar.select v81 c1_i32_41 c0_i32_42
  let v83 : BitVec 32 := Scalar.addi v78 v82
  let v86 : BitVec 1 := Scalar.cmpi .slt v85 v2
  let c1_i32_43 : BitVec 32 := 1#32
  let c0_i32_44 : BitVec 32 := 0#32
  let v87 : BitVec 32 := Scalar.select v86 c1_i32_43 c0_i32_44
  let v88 : BitVec 32 := Scalar.addi v83 v87
  let v91 : BitVec 1 := Scalar.cmpi .slt v90 v2
  let c1_i32_45 : BitVec 32 := 1#32
  let c0_i32_46 : BitVec 32 := 0#32
  let v92 : BitVec 32 := Scalar.select v91 c1_i32_45 c0_i32_46
  let v93 : BitVec 32 := Scalar.addi v88 v92
  let v97 : BitVec 32 := Scalar.addi v96 v93
  let v98 : BitVec 32 := Scalar.select v94 c0_i32_50 v97
  let c0_i32_100 : BitVec 32 := 0#32
  let v193 : BitVec 1 := Scalar.cmpi .sgt v98 c0_i32_100
  let v194 : BitVec 32 := Scalar.extui v193
  let c0_i32_101 : BitVec 32 := 0#32
  let v195 : BitVec 1 := Scalar.cmpi .slt v98 c0_i32_101
  let v196 : BitVec 32 := Scalar.extui v195
  let v197 : BitVec 32 := Scalar.subi v194 v196
  let c128_i32_99 : BitVec 32 := 128#32
  let c0_i32_102 : BitVec 32 := 0#32
  let v198 : BitVec 1 := Scalar.cmpi .sgt c128_i32_99 c0_i32_102
  let v199 : BitVec 32 := Scalar.extui v198
  let c0_i32_103 : BitVec 32 := 0#32
  let v200 : BitVec 1 := Scalar.cmpi .slt c128_i32_99 c0_i32_103
  let v201 : BitVec 32 := Scalar.extui v200
  let v202 : BitVec 32 := Scalar.subi v199 v201
  let v203 : BitVec 1 := Scalar.cmpi .ne v197 v202
  let v204 : BitVec 32 := Scalar.remsi v98 c128_i32_99
  let c0_i32_104 : BitVec 32 := 0#32
  let v205 : BitVec 1 := Scalar.cmpi .ne v204 c0_i32_104
  let v206 : BitVec 1 := Scalar.andi v203 v205
  let v192 : BitVec 32 := Scalar.divsi v98 c128_i32_99
  let c1_i32_105 : BitVec 32 := 1#32
  let v207 : BitVec 32 := Scalar.subi v192 c1_i32_105
  let v208 : BitVec 32 := Scalar.select v206 v207 v192
  let c0_i32_95 : BitVec 32 := 0#32
  let v187 : BitVec 1 := Scalar.cmpi .eq v101_0 c0_i32_95
  let c0_i32_98 : BitVec 32 := 0#32
  let c16_i32_97 : BitVec 32 := 16#32
  let c1_i32_96 : BitVec 32 := 1#32
  let v188 : BitVec 32 := Scalar.subi v101_0 c1_i32_96
  let v189 : BitVec 32 := Scalar.muli c16_i32_97 v188
  let c0_i32_64 : BitVec 32 := 0#32
  let c128_i32_51 : BitVec 32 := 128#32
  let v99 : BitVec 32 := Scalar.addi v2 c128_i32_51
  let v109 : BitVec 1 := Scalar.cmpi .slt v108 v99
  let c1_i32_62 : BitVec 32 := 1#32
  let c0_i32_63 : BitVec 32 := 0#32
  let v110 : BitVec 32 := Scalar.select v109 c1_i32_62 c0_i32_63
  let v111 : BitVec 32 := Scalar.addi c0_i32_64 v110
  let v114 : BitVec 1 := Scalar.cmpi .slt v113 v99
  let c1_i32_65 : BitVec 32 := 1#32
  let c0_i32_66 : BitVec 32 := 0#32
  let v115 : BitVec 32 := Scalar.select v114 c1_i32_65 c0_i32_66
  let v116 : BitVec 32 := Scalar.addi v111 v115
  let v119 : BitVec 1 := Scalar.cmpi .slt v118 v99
  let c1_i32_67 : BitVec 32 := 1#32
  let c0_i32_68 : BitVec 32 := 0#32
  let v120 : BitVec 32 := Scalar.select v119 c1_i32_67 c0_i32_68
  let v121 : BitVec 32 := Scalar.addi v116 v120
  let v124 : BitVec 1 := Scalar.cmpi .slt v123 v99
  let c1_i32_69 : BitVec 32 := 1#32
  let c0_i32_70 : BitVec 32 := 0#32
  let v125 : BitVec 32 := Scalar.select v124 c1_i32_69 c0_i32_70
  let v126 : BitVec 32 := Scalar.addi v121 v125
  let v129 : BitVec 1 := Scalar.cmpi .slt v128 v99
  let c1_i32_71 : BitVec 32 := 1#32
  let c0_i32_72 : BitVec 32 := 0#32
  let v130 : BitVec 32 := Scalar.select v129 c1_i32_71 c0_i32_72
  let v131 : BitVec 32 := Scalar.addi v126 v130
  let v134 : BitVec 1 := Scalar.cmpi .slt v133 v99
  let c1_i32_73 : BitVec 32 := 1#32
  let c0_i32_74 : BitVec 32 := 0#32
  let v135 : BitVec 32 := Scalar.select v134 c1_i32_73 c0_i32_74
  let v136 : BitVec 32 := Scalar.addi v131 v135
  let v139 : BitVec 1 := Scalar.cmpi .slt v138 v99
  let c1_i32_75 : BitVec 32 := 1#32
  let c0_i32_76 : BitVec 32 := 0#32
  let v140 : BitVec 32 := Scalar.select v139 c1_i32_75 c0_i32_76
  let v141 : BitVec 32 := Scalar.addi v136 v140
  let v144 : BitVec 1 := Scalar.cmpi .slt v143 v99
  let c1_i32_77 : BitVec 32 := 1#32
  let c0_i32_78 : BitVec 32 := 0#32
  let v145 : BitVec 32 := Scalar.select v144 c1_i32_77 c0_i32_78
  let v146 : BitVec 32 := Scalar.addi v141 v145
  let v149 : BitVec 1 := Scalar.cmpi .slt v148 v99
  let c1_i32_79 : BitVec 32 := 1#32
  let c0_i32_80 : BitVec 32 := 0#32
  let v150 : BitVec 32 := Scalar.select v149 c1_i32_79 c0_i32_80
  let v151 : BitVec 32 := Scalar.addi v146 v150
  let v154 : BitVec 1 := Scalar.cmpi .slt v153 v99
  let c1_i32_81 : BitVec 32 := 1#32
  let c0_i32_82 : BitVec 32 := 0#32
  let v155 : BitVec 32 := Scalar.select v154 c1_i32_81 c0_i32_82
  let v156 : BitVec 32 := Scalar.addi v151 v155
  let v159 : BitVec 1 := Scalar.cmpi .slt v158 v99
  let c1_i32_83 : BitVec 32 := 1#32
  let c0_i32_84 : BitVec 32 := 0#32
  let v160 : BitVec 32 := Scalar.select v159 c1_i32_83 c0_i32_84
  let v161 : BitVec 32 := Scalar.addi v156 v160
  let v164 : BitVec 1 := Scalar.cmpi .slt v163 v99
  let c1_i32_85 : BitVec 32 := 1#32
  let c0_i32_86 : BitVec 32 := 0#32
  let v165 : BitVec 32 := Scalar.select v164 c1_i32_85 c0_i32_86
  let v166 : BitVec 32 := Scalar.addi v161 v165
  let v169 : BitVec 1 := Scalar.cmpi .slt v168 v99
  let c1_i32_87 : BitVec 32 := 1#32
  let c0_i32_88 : BitVec 32 := 0#32
  let v170 : BitVec 32 := Scalar.select v169 c1_i32_87 c0_i32_88
  let v171 : BitVec 32 := Scalar.addi v166 v170
  let v174 : BitVec 1 := Scalar.cmpi .slt v173 v99
  let c1_i32_89 : BitVec 32 := 1#32
  let c0_i32_90 : BitVec 32 := 0#32
  let v175 : BitVec 32 := Scalar.select v174 c1_i32_89 c0_i32_90
  let v176 : BitVec 32 := Scalar.addi v171 v175
  let v179 : BitVec 1 := Scalar.cmpi .slt v178 v99
  let c1_i32_91 : BitVec 32 := 1#32
  let c0_i32_92 : BitVec 32 := 0#32
  let v180 : BitVec 32 := Scalar.select v179 c1_i32_91 c0_i32_92
  let v181 : BitVec 32 := Scalar.addi v176 v180
  let v184 : BitVec 1 := Scalar.cmpi .slt v183 v99
  let c1_i32_93 : BitVec 32 := 1#32
  let c0_i32_94 : BitVec 32 := 0#32
  let v185 : BitVec 32 := Scalar.select v184 c1_i32_93 c0_i32_94
  let v186 : BitVec 32 := Scalar.addi v181 v185
  let v190 : BitVec 32 := Scalar.addi v189 v186
  let v191 : BitVec 32 := Scalar.select v187 c0_i32_98 v190
  let c128_i32_106 : BitVec 32 := 128#32
  let v209 : BitVec 32 := Scalar.addi v191 c128_i32_106
  let c1_i32_107 : BitVec 32 := 1#32
  let v210 : BitVec 32 := Scalar.subi v209 c1_i32_107
  let c0_i32_109 : BitVec 32 := 0#32
  let v212 : BitVec 1 := Scalar.cmpi .sgt v210 c0_i32_109
  let v213 : BitVec 32 := Scalar.extui v212
  let c0_i32_110 : BitVec 32 := 0#32
  let v214 : BitVec 1 := Scalar.cmpi .slt v210 c0_i32_110
  let v215 : BitVec 32 := Scalar.extui v214
  let v216 : BitVec 32 := Scalar.subi v213 v215
  let c128_i32_108 : BitVec 32 := 128#32
  let c0_i32_111 : BitVec 32 := 0#32
  let v217 : BitVec 1 := Scalar.cmpi .sgt c128_i32_108 c0_i32_111
  let v218 : BitVec 32 := Scalar.extui v217
  let c0_i32_112 : BitVec 32 := 0#32
  let v219 : BitVec 1 := Scalar.cmpi .slt c128_i32_108 c0_i32_112
  let v220 : BitVec 32 := Scalar.extui v219
  let v221 : BitVec 32 := Scalar.subi v218 v220
  let v222 : BitVec 1 := Scalar.cmpi .ne v216 v221
  let v223 : BitVec 32 := Scalar.remsi v210 c128_i32_108
  let c0_i32_113 : BitVec 32 := 0#32
  let v224 : BitVec 1 := Scalar.cmpi .ne v223 c0_i32_113
  let v225 : BitVec 1 := Scalar.andi v222 v224
  let v211 : BitVec 32 := Scalar.divsi v210 c128_i32_108
  let c1_i32_114 : BitVec 32 := 1#32
  let v226 : BitVec 32 := Scalar.subi v211 c1_i32_114
  let v227 : BitVec 32 := Scalar.select v225 v226 v211
  let v244 : BitVec 32 := Scalar.subi v227 v208
  let c1_i32_132 : BitVec 32 := 1#32
  let v246 : BitVec 32 := Scalar.divsi v244 c1_i32_132
  let v247 : BitVec 32 := Scalar.muli v246 c1_i32_132
  let v248 : BitVec 32 := Scalar.addi v208 v247
  let c1_i32_134 : BitVec 32 := 1#32
  let arg17 : BitVec 32 := Scf.iv v248 c1_i32_134 k0_t6
  let c128_i32_141 : BitVec 32 := 128#32
  let v262 : BitVec 32 := Scalar.muli arg17 c128_i32_141
  ![v262.toNat]

def k0_chk5 (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) : Prop :=
  ((k0_t4_loop i v8_0 v15 v20 v25 v30 v35 v40 v45 v50 v55 v60 v65 v70 v75 v80 v85 v90 v101_0 v108 v113 v118 v123 v128 v133 v138 v143 v148 v153 v158 v163 v168 v173 v178 v183).OK) ∧
  (∀ k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips, ∀ a, (k0_off8 i v8_0 v15 v20 v25 v30 v35 v40 v45 v50 v55 v60 v65 v70 v75 v80 v85 v90 v101_0 v108 v113 v118 v123 v128 v133 v138 v143 v148 v153 v158 v163 v168 v173 v178 v183 k0_t4) a + S128x128.size a ≤ S320000x128.size a) ∧
  (∀ k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips, ∀ a, (k0_off9 i v8_0 v15 v20 v25 v30 v35 v40 v45 v50 v55 v60 v65 v70 v75 v80 v85 v90 v101_0 v108 v113 v118 v123 v128 v133 v138 v143 v148 v153 v158 v163 v168 v173 v178 v183 k0_t4) a + S128.size a ≤ S320000.size a) ∧
  ((k0_t6_loop i v8_0 v15 v20 v25 v30 v35 v40 v45 v50 v55 v60 v65 v70 v75 v80 v85 v90 v101_0 v108 v113 v118 v123 v128 v133 v138 v143 v148 v153 v158 v163 v168 v173 v178 v183).OK) ∧
  (∀ k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips, ∀ a, (k0_off20 i v8_0 v15 v20 v25 v30 v35 v40 v45 v50 v55 v60 v65 v70 v75 v80 v85 v90 v101_0 v108 v113 v118 v123 v128 v133 v138 v143 v148 v153 v158 v163 v168 v173 v178 v183 k0_t6) a + S128x128.size a ≤ S320000x128.size a) ∧
  (∀ k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips, ∀ a, (k0_off21 i v8_0 v15 v20 v25 v30 v35 v40 v45 v50 v55 v60 v65 v70 v75 v80 v85 v90 v101_0 v108 v113 v118 v123 v128 v133 v138 v143 v148 v153 v158 v163 v168 v173 v178 v183 k0_t6) a + S128.size a ≤ S320000.size a)
theorem k0_t4_ok : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183), (k0_t4_loop i v8_0 v15 v20 v25 v30 v35 v40 v45 v50 v55 v60 v65 v70 v75 v80 v85 v90 v101_0 v108 v113 v118 v123 v128 v133 v138 v143 v148 v153 v158 v163 v168 v173 v178 v183).OK := fun i v8_0 v15 v20 v25 v30 v35 v40 v45 v50 v55 v60 v65 v70 v75 v80 v85 v90 v101_0 v108 v113 v118 v123 v128 v133 v138 v143 v148 v153 v158 v163 v168 v173 v178 v183 k0_hw5 => k0_hw5.1
theorem k0_off8_inb : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183) (k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips), ∀ a, (k0_off8 i v8_0 v15 v20 v25 v30 v35 v40 v45 v50 v55 v60 v65 v70 v75 v80 v85 v90 v101_0 v108 v113 v118 v123 v128 v133 v138 v143 v148 v153 v158 v163 v168 v173 v178 v183 k0_t4) a + S128x128.size a ≤ S320000x128.size a := fun i v8_0 v15 v20 v25 v30 v35 v40 v45 v50 v55 v60 v65 v70 v75 v80 v85 v90 v101_0 v108 v113 v118 v123 v128 v133 v138 v143 v148 v153 v158 v163 v168 v173 v178 v183 k0_hw5 k0_t4 => k0_hw5.2.1 k0_t4
theorem k0_off9_inb : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183) (k0_t4 : Fin (k0_t4_loop i v8_0 v15 v20 v25 v30 v35 v40 v45 v50 v55 v60 v65 v70 v75 v80 v85 v90 v101_0 v108 v113 v118 v123 v128 v133 v138 v143 v148 v153 v158 v163 v168 v173 v178 v183).trips), ∀ a, (k0_off9 i v8_0 v15 v20 v25 v30 v35 v40 v45 v50 v55 v60 v65 v70 v75 v80 v85 v90 v101_0 v108 v113 v118 v123 v128 v133 v138 v143 v148 v153 v158 v163 v168 v173 v178 v183 k0_t4) a + S128.size a ≤ S320000.size a := fun i v8_0 v15 v20 v25 v30 v35 v40 v45 v50 v55 v60 v65 v70 v75 v80 v85 v90 v101_0 v108 v113 v118 v123 v128 v133 v138 v143 v148 v153 v158 v163 v168 v173 v178 v183 k0_hw5 k0_t4 => k0_hw5.2.2.1 k0_t4
theorem k0_t6_ok : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183), (k0_t6_loop i v8_0 v15 v20 v25 v30 v35 v40 v45 v50 v55 v60 v65 v70 v75 v80 v85 v90 v101_0 v108 v113 v118 v123 v128 v133 v138 v143 v148 v153 v158 v163 v168 v173 v178 v183).OK := fun i v8_0 v15 v20 v25 v30 v35 v40 v45 v50 v55 v60 v65 v70 v75 v80 v85 v90 v101_0 v108 v113 v118 v123 v128 v133 v138 v143 v148 v153 v158 v163 v168 v173 v178 v183 k0_hw5 => k0_hw5.2.2.2.1
theorem k0_off20_inb : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183) (k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips), ∀ a, (k0_off20 i v8_0 v15 v20 v25 v30 v35 v40 v45 v50 v55 v60 v65 v70 v75 v80 v85 v90 v101_0 v108 v113 v118 v123 v128 v133 v138 v143 v148 v153 v158 v163 v168 v173 v178 v183 k0_t6) a + S128x128.size a ≤ S320000x128.size a := fun i v8_0 v15 v20 v25 v30 v35 v40 v45 v50 v55 v60 v65 v70 v75 v80 v85 v90 v101_0 v108 v113 v118 v123 v128 v133 v138 v143 v148 v153 v158 v163 v168 v173 v178 v183 k0_hw5 k0_t6 => k0_hw5.2.2.2.2.1 k0_t6
theorem k0_off21_inb : ∀ (i : grid0.Coords) (v8_0 : BitVec 32) (v15 : BitVec 32) (v20 : BitVec 32) (v25 : BitVec 32) (v30 : BitVec 32) (v35 : BitVec 32) (v40 : BitVec 32) (v45 : BitVec 32) (v50 : BitVec 32) (v55 : BitVec 32) (v60 : BitVec 32) (v65 : BitVec 32) (v70 : BitVec 32) (v75 : BitVec 32) (v80 : BitVec 32) (v85 : BitVec 32) (v90 : BitVec 32) (v101_0 : BitVec 32) (v108 : BitVec 32) (v113 : BitVec 32) (v118 : BitVec 32) (v123 : BitVec 32) (v128 : BitVec 32) (v133 : BitVec 32) (v138 : BitVec 32) (v143 : BitVec 32) (v148 : BitVec 32) (v153 : BitVec 32) (v158 : BitVec 32) (v163 : BitVec 32) (v168 : BitVec 32) (v173 : BitVec 32) (v178 : BitVec 32) (v183 : BitVec 32) (k0_hw5 : k0_chk5 i v8_0 v15 v20 v25 v30 v35 v40 v45 v50 v55 v60 v65 v70 v75 v80 v85 v90 v101_0 v108 v113 v118 v123 v128 v133 v138 v143 v148 v153 v158 v163 v168 v173 v178 v183) (k0_t6 : Fin (k0_t6_loop i v8_0 v15 v20 v25 v30 v35 v40 v45 v50 v55 v60 v65 v70 v75 v80 v85 v90 v101_0 v108 v113 v118 v123 v128 v133 v138 v143 v148 v153 v158 v163 v168 v173 v178 v183).trips), ∀ a, (k0_off21 i v8_0 v15 v20 v25 v30 v35 v40 v45 v50 v55 v60 v65 v70 v75 v80 v85 v90 v101_0 v108 v113 v118 v123 v128 v133 v138 v143 v148 v153 v158 v163 v168 v173 v178 v183 k0_t6) a + S128.size a ≤ S320000.size a := fun i v8_0 v15 v20 v25 v30 v35 v40 v45 v50 v55 v60 v65 v70 v75 v80 v85 v90 v101_0 v108 v113 v118 v123 v128 v133 v138 v143 v148 v153 v158 v163 v168 v173 v178 v183 k0_hw5 k0_t6 => k0_hw5.2.2.2.2.2 k0_t6

@[reducible] def k0_t7_loop : Scf.Loop 32 :=
  let c0_i32_142 : BitVec 32 := 0#32
  let c128_i32_143 : BitVec 32 := 128#32
  let v263 : BitVec 32 := Scalar.addi c0_i32_142 c128_i32_143
  let c1_i32_144 : BitVec 32 := 1#32
  ⟨c0_i32_142, v263, c1_i32_144⟩
def k0_off22 (k0_t7 : Fin k0_t7_loop.trips) : Fin 1 → Nat :=
  let c0_i32_142 : BitVec 32 := 0#32
  let c1_i32_144 : BitVec 32 := 1#32
  let arg36 : BitVec 32 := Scf.iv c0_i32_142 c1_i32_144 k0_t7
  let v265 : Index := Scalar.indexCast arg36
  ![v265.toNat]
def k0_off23 (i : grid0.Coords) (arg37 : BitVec 32) (c0_i32_153 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v338 : BitVec 32 := Scalar.subi arg37 v2
  let c128_i32_152 : BitVec 32 := 128#32
  let v341 : BitVec 32 := Scalar.muli v338 c128_i32_152
  let v342 : BitVec 32 := Scalar.addi v341 c0_i32_153
  let v343 : Index := Scalar.indexCast v342
  ![v343.toNat]
def k0_cond2 (i : grid0.Coords) (arg37 : BitVec 32) (v269 : BitVec 32) (v276 : BitVec 1) : BitVec 1 :=
  let v270 : BitVec 1 := Scalar.cmpi .ne v269 arg37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v271 : BitVec 1 := Scalar.cmpi .sge arg37 v2
  let v272 : BitVec 1 := Scalar.andi v270 v271
  let c128_i32_146 : BitVec 32 := 128#32
  let v273 : BitVec 32 := Scalar.addi v2 c128_i32_146
  let v274 : BitVec 1 := Scalar.cmpi .slt arg37 v273
  let v275 : BitVec 1 := Scalar.andi v272 v274
  let v277 : BitVec 1 := Scalar.andi v275 v276
  let v278 : BitVec 32 := Scalar.extui v277
  let c0_i32_148 : BitVec 32 := 0#32
  let v279 : BitVec 1 := Scalar.cmpi .ne v278 c0_i32_148
  v279

def k0_chk7 (i : grid0.Coords) (arg37 : BitVec 32) (v269 : BitVec 32) (v276 : BitVec 1) : Prop :=
  (∀ (k0_h2 : k0_cond2 i arg37 v269 v276 = 1#1), ∀ (r : Fin 8), ∀ a, (k0_off23 i arg37 (BitVec.ofNat 32 (16 * r.val))) a + S16.size a ≤ S16384.size a)
theorem k0_off23_inb : ∀ (i : grid0.Coords) (arg37 : BitVec 32) (v269 : BitVec 32) (v276 : BitVec 1) (k0_hw7 : k0_chk7 i arg37 v269 v276), ∀ (k0_h2 : k0_cond2 i arg37 v269 v276 = 1#1), ∀ (r : Fin 8), ∀ a, (k0_off23 i arg37 (BitVec.ofNat 32 (16 * r.val))) a + S16.size a ≤ S16384.size a := fun i arg37 v269 v276 k0_hw7 k0_h2 r => k0_hw7 k0_h2 r

def k0_off24 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v280 : Index := Scalar.indexCast arg36
  let c0_149 : Index := 0#32
  ![v280.toNat, 0]
def k0_off25 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v283 : Index := Scalar.indexCast arg36
  let c16 : Index := 16#32
  ![v283.toNat, 16]
def k0_off26 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v286 : Index := Scalar.indexCast arg36
  let c32 : Index := 32#32
  ![v286.toNat, 32]
def k0_off27 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v289 : Index := Scalar.indexCast arg36
  let c48 : Index := 48#32
  ![v289.toNat, 48]
def k0_off28 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v292 : Index := Scalar.indexCast arg36
  let c64 : Index := 64#32
  ![v292.toNat, 64]
def k0_off29 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v295 : Index := Scalar.indexCast arg36
  let c80 : Index := 80#32
  ![v295.toNat, 80]
def k0_off30 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v298 : Index := Scalar.indexCast arg36
  let c96 : Index := 96#32
  ![v298.toNat, 96]
def k0_off31 (k0_t7 : Fin k0_t7_loop.trips) : Fin 2 → Nat :=
  let c0_i32_142 : BitVec 32 := 0#32
  let c1_i32_144 : BitVec 32 := 1#32
  let arg36 : BitVec 32 := Scf.iv c0_i32_142 c1_i32_144 k0_t7
  let v301 : Index := Scalar.indexCast arg36
  let c112 : Index := 112#32
  ![v301.toNat, 112]
def k0_off32 (i : grid0.Coords) (v250_0 : BitVec 32) (c0_i32_141 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v261 : BitVec 32 := Scalar.subi v250_0 v2
  let c128_i32_140 : BitVec 32 := 128#32
  let v264 : BitVec 32 := Scalar.muli v261 c128_i32_140
  let v265 : BitVec 32 := Scalar.addi v264 c0_i32_141
  let v266 : Index := Scalar.indexCast v265
  ![v266.toNat]
def k0_cond3 (i : grid0.Coords) (v250_0 : BitVec 32) (v255 : BitVec 1) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v251 : BitVec 1 := Scalar.cmpi .sge v250_0 v2
  let c128_i32_135 : BitVec 32 := 128#32
  let v252 : BitVec 32 := Scalar.addi v2 c128_i32_135
  let v253 : BitVec 1 := Scalar.cmpi .slt v250_0 v252
  let v254 : BitVec 1 := Scalar.andi v251 v253
  let v256 : BitVec 1 := Scalar.andi v254 v255
  let v257 : BitVec 32 := Scalar.extui v256
  let c0_i32_137 : BitVec 32 := 0#32
  let v258 : BitVec 1 := Scalar.cmpi .ne v257 c0_i32_137
  v258

def k0_chk8 (i : grid0.Coords) (v250_0 : BitVec 32) (v255 : BitVec 1) : Prop :=
  (∀ (k0_h3 : k0_cond3 i v250_0 v255 = 1#1), ∀ (r : Fin 8), ∀ a, (k0_off32 i v250_0 (BitVec.ofNat 32 (16 * r.val))) a + S16.size a ≤ S16384.size a)
theorem k0_off32_inb : ∀ (i : grid0.Coords) (v250_0 : BitVec 32) (v255 : BitVec 1) (k0_hw8 : k0_chk8 i v250_0 v255), ∀ (k0_h3 : k0_cond3 i v250_0 v255 = 1#1), ∀ (r : Fin 8), ∀ a, (k0_off32 i v250_0 (BitVec.ofNat 32 (16 * r.val))) a + S16.size a ≤ S16384.size a := fun i v250_0 v255 k0_hw8 k0_h3 r => k0_hw8 k0_h3 r

def k0_off33 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_138 : BitVec 32 := 128#32
  let v259 : BitVec 32 := Scalar.muli v2 c128_i32_138
  ![v259.toNat]
abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4096x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S4096 : Shape := ⟨1, ![4096]⟩
abbrev S384x128 : Shape := ⟨2, ![384, 128]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S1x320000 : Shape := ⟨2, ![1, 320000]⟩
abbrev S4096x320000 : Shape := ⟨2, ![4096, 320000]⟩
abbrev S320000x1 : Shape := ⟨2, ![320000, 1]⟩
abbrev S4096x320000x1 : Shape := ⟨3, ![4096, 320000, 1]⟩
abbrev S1x320000x128 : Shape := ⟨3, ![1, 320000, 128]⟩
abbrev S4096x320000x128 : Shape := ⟨3, ![4096, 320000, 128]⟩
abbrev S4096x256 : Shape := ⟨2, ![4096, 256]⟩
abbrev S4096x384 : Shape := ⟨2, ![4096, 384]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S4096, .i32⟩
  | .hbm, ⟨3, _⟩ => ⟨S4096, .i32⟩
  | .hbm, ⟨4, _⟩ => ⟨S384x128, .f32⟩
  | .hbm, ⟨5, _⟩ => ⟨S128, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x128, .f32⟩
  | .hbm, ⟨25, _⟩ => ⟨S4096x128, .i1⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S1x320000, .i32⟩
  | .hbm, ⟨30, _⟩ => ⟨S4096, .i32⟩
  | .hbm, ⟨31, _⟩ => ⟨S4096x1, .i32⟩
  | .hbm, ⟨32, _⟩ => ⟨S4096x320000, .i32⟩
  | .hbm, ⟨33, _⟩ => ⟨S4096x320000, .i32⟩
  | .hbm, ⟨34, _⟩ => ⟨S4096x320000, .i1⟩
  | .hbm, ⟨35, _⟩ => ⟨S_, .f32⟩
  | .hbm, ⟨36, _⟩ => ⟨S4096x128, .f32⟩
  | .hbm, ⟨37, _⟩ => ⟨S320000x1, .i32⟩
  | .hbm, ⟨38, _⟩ => ⟨S4096x128, .f32⟩
  | .hbm, ⟨39, _⟩ => ⟨S_, .f32⟩
  | .hbm, ⟨40, _⟩ => ⟨S320000x1, .f32⟩
  | .hbm, ⟨41, _⟩ => ⟨S_, .f32⟩
  | .hbm, ⟨42, _⟩ => ⟨S4096x1, .f32⟩
  | .hbm, ⟨43, _⟩ => ⟨S320000x1, .i32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x128, .f32⟩
  | .hbm, ⟨49, _⟩ => ⟨S4096x128, .f32⟩
  | .hbm, ⟨50, _⟩ => ⟨S4096x320000x1, .i1⟩
  | .hbm, ⟨51, _⟩ => ⟨S1x320000x128, .f32⟩
  | .hbm, ⟨52, _⟩ => ⟨S_, .f32⟩
  | .hbm, ⟨53, _⟩ => ⟨S_, .f32⟩
  | .hbm, ⟨54, _⟩ => ⟨S4096x320000x128, .i1⟩
  | .hbm, ⟨55, _⟩ => ⟨S4096x320000x128, .f32⟩
  | .hbm, ⟨56, _⟩ => ⟨S4096x320000x128, .f32⟩
  | .hbm, ⟨57, _⟩ => ⟨S4096x320000x128, .f32⟩
  | .hbm, ⟨58, _⟩ => ⟨S_, .f32⟩
  | .hbm, ⟨59, _⟩ => ⟨S4096x128, .f32⟩
  | .hbm, ⟨60, _⟩ => ⟨S_, .f32⟩
  | .hbm, ⟨61, _⟩ => ⟨S4096x1, .f32⟩
  | .hbm, ⟨62, _⟩ => ⟨S4096x1, .i1⟩
  | .hbm, ⟨63, _⟩ => ⟨S_, .f32⟩
  | .hbm, ⟨64, _⟩ => ⟨S4096x128, .f32⟩
  | .hbm, ⟨65, _⟩ => ⟨S4096x128, .i1⟩
  | .hbm, ⟨66, _⟩ => ⟨S4096x128, .f32⟩
  | .hbm, ⟨67, _⟩ => ⟨S4096x256, .f32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S1, .i32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S1x1, .i32⟩
  | .hbm, ⟨81, _⟩ => ⟨S4096x1, .i32⟩
  | .hbm, ⟨82, _⟩ => ⟨S4096x1, .i1⟩
  | .hbm, ⟨83, _⟩ => ⟨S4096x1, .i1⟩
  | .hbm, ⟨84, _⟩ => ⟨S_, .i1⟩
  | .hbm, ⟨85, _⟩ => ⟨S4096, .i1⟩
  | .hbm, ⟨86, _⟩ => ⟨S4096x256, .f32⟩
  | .hbm, ⟨87, _⟩ => ⟨S4096x256, .i1⟩
  | .hbm, ⟨88, _⟩ => ⟨S_, .f32⟩
  | .hbm, ⟨89, _⟩ => ⟨S4096x256, .f32⟩
  | .hbm, ⟨90, _⟩ => ⟨S4096x256, .f32⟩
  | .hbm, ⟨91, _⟩ => ⟨S4096x384, .f32⟩
  | .hbm, ⟨92, _⟩ => ⟨S4096x128, .f32⟩
  | .hbm, ⟨93, _⟩ => ⟨S1x128, .f32⟩
  | .hbm, ⟨94, _⟩ => ⟨S4096x128, .f32⟩
  | .hbm, ⟨95, _⟩ => ⟨S4096x128, .f32⟩
  | .hbm, ⟨96, _⟩ => ⟨S4096x128, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S4096x128, .f32⟩
  | .hbm, ⟨105, _⟩ => ⟨S4096x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_cst_5 : Ref sig .tc := ⟨.hbm, 60, rfl⟩
abbrev main_v22 : Ref sig .tc := ⟨.hbm, 61, rfl⟩
abbrev main_v23 : Ref sig .tc := ⟨.hbm, 62, rfl⟩
abbrev main_cst_6 : Ref sig .tc := ⟨.hbm, 63, rfl⟩
abbrev main_v24 : Ref sig .tc := ⟨.hbm, 64, rfl⟩
abbrev main_call2_v0 : Ref sig .tc := ⟨.hbm, 65, rfl⟩
abbrev main_v25 : Ref sig .tc := ⟨.hbm, 66, rfl⟩
abbrev main_v26 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_call3_cst : Ref sig .tc := ⟨.hbm, 88, rfl⟩
abbrev main_call3_v15 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_7 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_8 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩

abbrev nD : Nat := 1
abbrev τ : Topo := Topo.v7x

variable {F : FTy → Type} [FloatOps F]
-- ==== Proof.Pre.lean ====
/-
  What the precondition of the frames says of the words of the argument arrays.
-/
module

public import proofs.«01_k».proof.Proof.Gen.Pre_roots_in_range
public import Idealize.ShloMosaic.Lib.ReduceAll

@[expose] public section

noncomputable section

namespace Cert.Proof.Pre

open Idealize.ShloMosaic

variable {F : FTy → Type} [FloatOps F]

theorem and_one {p q : BitVec 1} (h : IntOp.andi p q = 1#1) : p = 1#1 ∧ q = 1#1 := by
  have key : ∀ p q : BitVec 1, IntOp.andi p q = 1#1 → p = 1#1 ∧ q = 1#1 := by decide
  exact key p q h

/-- A word found at least zero and below `n` as a signed word is below `n`. -/
theorem range_of {v n : BitVec 32} (hn : n.toNat < 2147483648) (h : IntOp.cmpi .sge v 0#32 = 1#1) (h' : IntOp.cmpi .slt v n = 1#1) : v.toNat < n.toNat := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h h'
  omega

/-- Two words below 2^31 in order as signed words are in order. -/
theorem le_of {v w : BitVec 32} (hv : v.toNat < 2147483648) (hw : w.toNat < 2147483648) (h : IntOp.cmpi .sle v w = 1#1) : v.toNat ≤ w.toNat := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond, Nat.reducePow] at h
  omega

instance : Subsingleton (Cert.Pre_roots_in_range.S_.Idx) := ⟨fun a b => funext fun i => i.elim0⟩

/-- The roots' range, from the precondition of the frames. -/
theorem roots [Cert.Pre_roots_in_range.Facts] {X : FVec F Cert.Pre_roots_in_range.S320000x128 .f32} {I : IVec Cert.Pre_roots_in_range.S320000 32}
    {R K : IVec Cert.Pre_roots_in_range.S4096 32} {W : FVec F Cert.Pre_roots_in_range.S384x128 .f32} {b : FVec F Cert.Pre_roots_in_range.S128 .f32}
    (h : Cert.Pre_roots_in_range.fn (F := F) X I R K W b = fun _ => 1#1) (j : Cert.Pre_roots_in_range.S4096.Idx) : (R j).toNat < 320000 := by
  have e := congrFun h (fun i => i.elim0)
  obtain ⟨h1, h2⟩ := and_one e
  exact range_of (n := 320000#32) (by decide) (Host.reduce_andi_all _ _ _ _ _ h1 j) (Host.reduce_andi_all _ _ _ _ _ h2 j)

end Cert.Proof.Pre

end
-- ==== Proof.Base.lean ====
/-
  The launch as the theorems of the library see it, the buffers of the SparseCore kernel, and the loops of its body
  instantiated at those buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pointwise
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.SegKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters, the pipeline's rounds -/

abbrev UH : Type := URounds (GSem nD τ sig) ℕ
abbrev UP : Type := URounds (GSem nD τ sig) Unit
abbrev UU : Type := UH × UP × Counters

/-! ## The buffers of a vector subcore's body -/

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)

variable [FloatOps F]

/-- The kernel's body on vector subcore `L`, at the launch's buffers. -/
abbrev bodyAt (L : grid0.Coords) := cc0__sc_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

abbrev t1At (L : grid0.Coords) := k0_t1_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

abbrev t2At (L : grid0.Coords) := k0_t2_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

abbrev t3At (L : grid0.Coords) := k0_t3_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

abbrev t4At (L : grid0.Coords) := k0_t4_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

abbrev t5At (L : grid0.Coords) := k0_t5_body (F := F) L aVal (Memref.isWhole_whole _) aIds (Memref.isWhole_whole _) aId2 (Memref.isWhole_whole _)
  aRts (Memref.isWhole_whole _) aMean (Memref.isWhole_whole _) aMax (Memref.isWhole_whole _) aRoot (Memref.isWhole_whole _)
  bRow (Memref.isWhole_whole _) bPrb (Memref.isWhole_whole _) bMean (Memref.isWhole_whole _) bMax (Memref.isWhole_whole _)
  bRix (Memref.isWhole_whole _) bRrow (Memref.isWhole_whole _) bIds (Memref.isWhole_whole _) cc0_scratch7
  cc0_scoped0 cc0_scoped1 cc0_scoped2 cc0_scoped3 cc0_scoped4 cc0_scoped5 cc0_scoped6 cc0_scoped7 cc0_scoped8 cc0_scoped9 cc0_scoped10 cc0_scoped11

/-! ## Eight stores of sixteen lanes, one after another -/

/-- `f` with the eight blocks of sixteen `w 0`, …, `w 7` over the entries from `o` on. -/
def put8 {α : Type} (o : ℕ) (w : Fin 8 → S16.Idx → α) (f : S16384.Idx → α) : S16384.Idx → α := fun y =>
  if h : o ≤ (y 0).val ∧ (y 0).val < o + 128 then
    w ⟨((y 0).val - o) / 16, by omega⟩ (ix1 ⟨((y 0).val - o) % 16, Nat.mod_lt _ (by decide)⟩)
  else f y

theorem read16_cons (v : View sig .scVector .vmem S16384 .f32) (f : v.ty.Contents (Elt F)) {off : Fin 1 → ℕ} {o : ℕ}
    (inb : ∀ a, off a + S16.size a ≤ S16384.size a) (w : S16.Idx → Elt F .f32) (Ls : List (View.Piece (Elt F) S16384 .f32)) (y : S16384.Idx)
    (hoff : off = ![o]) :
    v.read (Elt F) (v.writes (Elt F) f ((⟨Rect.unit off S16.size inb, w⟩ : View.Piece (Elt F) S16384 .f32) :: Ls)) y
      = if h : o ≤ (y 0).val ∧ (y 0).val < o + 16 then w (ix1 ⟨(y 0).val - o, by omega⟩) else v.read (Elt F) (v.writes (Elt F) f Ls) y := by
  rw [View.read_writes_cons_unit v f inb w Ls y hoff]
  by_cases h : o ≤ (y 0).val ∧ (y 0).val < o + 16
  · have h' : ∀ a : Fin 1, (![o] : Fin 1 → ℕ) a ≤ (y a).val ∧ (y a).val < (![o] : Fin 1 → ℕ) a + S16.size a := by
      intro a; match a with | 0 => exact h
    rw [dif_pos h, dif_pos h']
    refine congrArg w (funext fun a => Fin.ext ?_)
    match a with | 0 => rfl
  · have h' : ¬ ∀ a : Fin 1, (![o] : Fin 1 → ℕ) a ≤ (y a).val ∧ (y a).val < (![o] : Fin 1 → ℕ) a + S16.size a := fun hh => h (hh 0)
    rw [dif_neg h, dif_neg h']

/-- The eight stores of a row's blocks, newest first, leave `put8`. -/
theorem writes8 (v : View sig .scVector .vmem S16384 .f32) (f : v.ty.Contents (Elt F)) (o : ℕ) (off : Fin 8 → Fin 1 → ℕ)
    (hoff : ∀ j, off j = ![o + 16 * j.val]) (inb : ∀ j a, off j a + S16.size a ≤ S16384.size a) (w : Fin 8 → S16.Idx → Elt F .f32) :
    v.read (Elt F) (v.writes (Elt F) f
      [⟨Rect.unit (off 7) S16.size (inb 7), w 7⟩, ⟨Rect.unit (off 6) S16.size (inb 6), w 6⟩, ⟨Rect.unit (off 5) S16.size (inb 5), w 5⟩,
       ⟨Rect.unit (off 4) S16.size (inb 4), w 4⟩, ⟨Rect.unit (off 3) S16.size (inb 3), w 3⟩, ⟨Rect.unit (off 2) S16.size (inb 2), w 2⟩,
       ⟨Rect.unit (off 1) S16.size (inb 1), w 1⟩, ⟨Rect.unit (off 0) S16.size (inb 0), w 0⟩])
      = put8 o w (v.read (Elt F) f) := by
  funext y
  rw [read16_cons v f _ _ _ y (hoff 7), read16_cons v f _ _ _ y (hoff 6), read16_cons v f _ _ _ y (hoff 5), read16_cons v f _ _ _ y (hoff 4),
    read16_cons v f _ _ _ y (hoff 3), read16_cons v f _ _ _ y (hoff 2), read16_cons v f _ _ _ y (hoff 1), read16_cons v f _ _ _ y (hoff 0), View.writes_nil]
  unfold put8
  by_cases h : o ≤ (y 0).val ∧ (y 0).val < o + 128
  · rw [dif_pos h]
    obtain ⟨q, hq⟩ : ∃ q : Fin 8, ((y 0).val - o) / 16 = q.val := ⟨⟨((y 0).val - o) / 16, by omega⟩, rfl⟩
    have key : ∀ (j : Fin 8) (r : ℕ) (hr : r < 16), ((y 0).val - o) / 16 = j.val → r = ((y 0).val - o) % 16 →
        w j (ix1 ⟨r, hr⟩) = w ⟨((y 0).val - o) / 16, by omega⟩ (ix1 ⟨((y 0).val - o) % 16, Nat.mod_lt _ (by decide)⟩) := by
      intro j r hr hj hr'; subst hr'
      rw [show (⟨((y 0).val - o) / 16, by omega⟩ : Fin 8) = j from Fin.ext hj]
    split_ifs
    all_goals first
      | (refine key _ _ _ ?_ ?_ <;> (simp only [Fin.isValue, Fin.val_ofNat] at *; omega))
      | (exfalso; simp only [Fin.isValue, Fin.val_ofNat] at *; omega)
  · rw [dif_neg h]
    split_ifs
    all_goals first
      | rfl
      | (exfalso; simp only [Fin.isValue, Fin.val_ofNat] at *; omega)

/-- The SparseCore and the subcore a pair of coordinates names, and its thread. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

end Cert.Proof.SegKernelIdeal

end
-- ==== Proof.Words.lean ====
/-
  The words of a row's step: when the kernel writes a finished segment out, and where.
-/
module

public import proofs.«01_k».proof.Proof.Base

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The first segment of subcore `L`. -/
def bs (L : grid0.Coords) : ℕ := 256 * (L 1).val + 128 * (L 0).val

/-- Segment `cur` is one of subcore `L`'s 128. -/
def InTile (L : grid0.Coords) (cur : BitVec 32) : Prop := bs L ≤ cur.toNat ∧ cur.toNat < bs L + 128

instance (L : grid0.Coords) (cur : BitVec 32) : Decidable (InTile L cur) := inferInstanceAs (Decidable (_ ∧ _))

/-- The first segment as the kernel computes it. -/
def bw (L : grid0.Coords) : BitVec 32 :=
  Scalar.muli (Scalar.addi (Scalar.muli (BitVec.ofNat 32 (L 1).val) 2#32) (BitVec.ofNat 32 (L 0).val)) 128#32

theorem bw_eq : ∀ L : grid0.Coords, bw L = BitVec.ofNat 32 (bs L) := by decide +kernel
theorem bs_le : ∀ L : grid0.Coords, bs L ≤ 3968 := by decide +kernel
theorem bw_toNat (L : grid0.Coords) : (bw L).toNat = bs L := by
  rw [bw_eq, BitVec.toNat_ofNat, Nat.mod_eq_of_lt]; have := bs_le L; omega

theorem ofBool_eq_one {b : Bool} : BitVec.ofBool b = 1#1 ↔ b = true := by cases b <;> decide
theorem andi_one {a b : BitVec 1} : Scalar.andi a b = 1#1 ↔ a = 1#1 ∧ b = 1#1 := by revert a b; decide
theorem ext_one {a : BitVec 1} : Scalar.cmpi .ne (Scalar.extui a : BitVec 32) 0#32 = 1#1 ↔ a = 1#1 := by revert a; decide
theorem ne_one {w : ℕ} {a b : BitVec w} : Scalar.cmpi .ne a b = 1#1 ↔ a ≠ b := by
  show BitVec.ofBool (a != b) = 1#1 ↔ _
  rw [ofBool_eq_one, bne_iff_ne]

theorem inTile_iff (L : grid0.Coords) (cur : BitVec 32) :
    (Scalar.cmpi .sge cur (bw L) = 1#1 ∧ Scalar.cmpi .slt cur (Scalar.addi (bw L) 128#32) = 1#1) ↔ InTile L cur := by
  show (BitVec.ofBool ((bw L).sle cur) = 1#1 ∧ BitVec.ofBool (cur.slt (bw L + 128#32)) = 1#1) ↔ _
  have h1 := bw_toNat L
  have h2 := bs_le L
  have h3 : (bw L + 128#32).toNat = bs L + 128 := by
    rw [BitVec.toNat_add, h1]; show (bs L + 128) % _ = _; rw [Nat.mod_eq_of_lt]; omega
  rw [ofBool_eq_one, ofBool_eq_one, BitVec.sle_iff_toInt_le, BitVec.slt_iff_toInt_lt, BitVec.toInt_eq_toNat_cond (bw L), BitVec.toInt_eq_toNat_cond (bw L + _),
    BitVec.toInt_eq_toNat_cond cur, h1, h3]
  have hc := cur.isLt
  unfold InTile
  constructor
  · rintro ⟨ha, hb⟩
    split_ifs at ha hb <;> omega
  · rintro ⟨ha, hb⟩
    split_ifs <;> omega

theorem cond1_iff (L : grid0.Coords) (cur rid : BitVec 32) (b : BitVec 1) :
    k0_cond1 L cur rid b = 1#1 ↔ rid ≠ cur ∧ InTile L cur ∧ b = 1#1 := by
  show Scalar.cmpi .ne (Scalar.extui (Scalar.andi (Scalar.andi (Scalar.andi (Scalar.cmpi .ne rid cur) (Scalar.cmpi .sge cur (bw L)))
    (Scalar.cmpi .slt cur (Scalar.addi (bw L) 128#32))) b) : BitVec 32) 0#32 = 1#1 ↔ _
  rw [ext_one, andi_one, andi_one, andi_one, ne_one, ← inTile_iff]
  exact ⟨fun ⟨⟨⟨h1, h2⟩, h3⟩, h4⟩ => ⟨h1, ⟨h2, h3⟩, h4⟩, fun ⟨h1, ⟨h2, h3⟩, h4⟩ => ⟨⟨⟨h1, h2⟩, h3⟩, h4⟩⟩

theorem cond3_iff (L : grid0.Coords) (cur : BitVec 32) (b : BitVec 1) :
    k0_cond3 L cur b = 1#1 ↔ InTile L cur ∧ b = 1#1 := by
  show Scalar.cmpi .ne (Scalar.extui (Scalar.andi (Scalar.andi (Scalar.cmpi .sge cur (bw L))
    (Scalar.cmpi .slt cur (Scalar.addi (bw L) 128#32))) b) : BitVec 32) 0#32 = 1#1 ↔ _
  rw [ext_one, andi_one, andi_one, ← inTile_iff]

/-- Where the row of segment `cur` begins in the subcore's buffers. -/
def rowOff (L : grid0.Coords) (cur : BitVec 32) : ℕ := (cur.toNat - bs L) * 128

theorem off_word (L : grid0.Coords) (cur : BitVec 32) (h : InTile L cur) (j : Fin 8) :
    (Scalar.indexCast (Scalar.addi (Scalar.muli (Scalar.subi cur (bw L)) 128#32) (BitVec.ofNat 32 (16 * j.val))) : Index).toNat = rowOff L cur + 16 * j.val := by
  show ((cur - bw L) * 128#32 + BitVec.ofNat 32 (16 * j.val)).toNat = _
  have h1 := bw_toNat L
  have h2 := bs_le L
  obtain ⟨ha, hb⟩ := h
  have hj := j.isLt
  have hs : (cur - bw L).toNat = cur.toNat - bs L := by
    rw [BitVec.toNat_sub, h1]; have := cur.isLt
    rw [show 2 ^ 32 - bs L + cur.toNat = (cur.toNat - bs L) + 2 ^ 32 by omega, Nat.add_mod_right, Nat.mod_eq_of_lt (by omega)]
  rw [BitVec.toNat_add, BitVec.toNat_mul, hs, BitVec.toNat_ofNat]
  show ((cur.toNat - bs L) * 128 % 2 ^ 32 + 16 * j.val % 2 ^ 32) % 2 ^ 32 = _
  unfold rowOff
  rw [Nat.mod_eq_of_lt (a := (cur.toNat - bs L) * 128) (by omega), Nat.mod_eq_of_lt (a := 16 * j.val) (by omega), Nat.mod_eq_of_lt (by omega)]

theorem rowOff_le (L : grid0.Coords) (cur : BitVec 32) (h : InTile L cur) : rowOff L cur + 128 ≤ 16384 := by
  obtain ⟨ha, hb⟩ := h; unfold rowOff; omega

theorem off11_eq (L : grid0.Coords) (cur : BitVec 32) (h : InTile L cur) (j : Fin 8) :
    k0_off11 L cur (BitVec.ofNat 32 (16 * j.val)) = ![rowOff L cur + 16 * j.val] := by
  rw [← off_word L cur h j]; rfl

theorem off32_eq (L : grid0.Coords) (cur : BitVec 32) (h : InTile L cur) (j : Fin 8) :
    k0_off32 L cur (BitVec.ofNat 32 (16 * j.val)) = ![rowOff L cur + 16 * j.val] := by
  rw [← off_word L cur h j]; rfl

theorem chk6 (L : grid0.Coords) (cur rid : BitVec 32) (b : BitVec 1) : k0_chk6 L cur rid b := by
  intro h r a
  have ht := ((cond1_iff L cur rid b).mp h).2.1
  rw [off11_eq L cur ht r]
  have := rowOff_le L cur ht
  have hr := r.isLt
  match a with
  | 0 => show rowOff L cur + 16 * r.val + 16 ≤ 16384; omega

theorem chk8 (L : grid0.Coords) (cur : BitVec 32) (b : BitVec 1) : k0_chk8 L cur b := by
  intro h r a
  have ht := ((cond3_iff L cur b).mp h).1
  rw [off32_eq L cur ht r]
  have := rowOff_le L cur ht
  have hr := r.isLt
  match a with
  | 0 => show rowOff L cur + 16 * r.val + 16 ≤ 16384; omega

/-! ## What a subcore carries from row to row, and a row's step -/

/-- The segment being accumulated, how many of its rows were seen, their sum and their maximum in eight blocks of sixteen lanes. -/
structure RowSt (F : FTy → Type) where
  cur : BitVec 32
  cnt : F .f32
  sum : Fin 8 → FVec F S16 .f32
  mx : Fin 8 → FVec F S16 .f32

/-- The carried values in the order the loop carries them. -/
def RowSt.tup (s : RowSt F) : BitVec 32 × F .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32
    × FVec F S16 .f32 × FVec F S16 .f32 :=
  (s.cur, s.cnt, s.sum 0, s.sum 1, s.sum 2, s.sum 3, s.sum 4, s.sum 5, s.sum 6, s.sum 7, s.mx 0, s.mx 1, s.mx 2, s.mx 3, s.mx 4, s.mx 5, s.mx 6, s.mx 7)

variable [FloatOps F]

/-- Float zero and one, as the kernel writes them. -/
abbrev fz : F .f32 := Scalar.ofBits .f32 0x00000000#32
abbrev fo : F .f32 := Scalar.ofBits .f32 0x3F800000#32

/-- Before the first row. -/
def RowSt.init : RowSt F := ⟨4294967295#32, fz, fun _ _ => fz, fun _ _ => fz⟩

/-- A row of segment `rid` with values `row`: the same segment goes on, or a new one begins. -/
def RowSt.step (rid : BitVec 32) (row : Fin 8 → FVec F S16 .f32) (s : RowSt F) : RowSt F where
  cur := rid
  cnt := Scalar.select (Scalar.cmpi .ne rid s.cur) fo (Scalar.addf s.cnt fo)
  sum j := Scalar.select (Scalar.cmpi .ne rid s.cur) (row j) (addf (s.sum j) (row j))
  mx j := Scalar.select (Scalar.cmpi .ne rid s.cur) (row j) (maximumf (s.mx j) (row j))

/-- The bit saying that some row of the segment was seen. -/
def RowSt.some (s : RowSt F) : BitVec 1 := Scalar.cmpf .ogt s.cnt fz

/-- The segment's mean and maximum put in their row of the subcore's buffers. -/
def RowSt.putMean (L : grid0.Coords) (s : RowSt F) (f : S16384.Idx → F .f32) : S16384.Idx → F .f32 :=
  put8 (rowOff L s.cur) (fun j => divf (s.sum j) (broadcast S16 s.cnt)) f
def RowSt.putMax (L : grid0.Coords) (s : RowSt F) (f : S16384.Idx → F .f32) : S16384.Idx → F .f32 :=
  put8 (rowOff L s.cur) s.mx f

/-- What a row of segment `rid` makes of the buffers: the segment before it is written out when it is over and one of the subcore's. -/
def RowSt.flushMean (L : grid0.Coords) (rid : BitVec 32) (s : RowSt F) (f : S16384.Idx → F .f32) : S16384.Idx → F .f32 :=
  if k0_cond1 L s.cur rid s.some = 1#1 then s.putMean L f else f
def RowSt.flushMax (L : grid0.Coords) (rid : BitVec 32) (s : RowSt F) (f : S16384.Idx → F .f32) : S16384.Idx → F .f32 :=
  if k0_cond1 L s.cur rid s.some = 1#1 then s.putMax L f else f

end Cert.Proof.SegKernelIdeal

end
-- ==== Proof.T1.lean ====
/-
  The zeroing loop: after `k` trips the first `128 * k` entries of the two accumulation buffers are zero.
-/
module

public import proofs.«01_k».proof.Proof.Words

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- The first `n` entries are zero. -/
def ZeroTo (n : ℕ) (f : S16384.Idx → F .f32) : Prop := ∀ y : S16384.Idx, (y 0).val < n → f y = fz

theorem zeroTo_put8 {n : ℕ} {f : S16384.Idx → F .f32} (h : ZeroTo (128 * n) f) :
    ZeroTo (128 * (n + 1)) (put8 (128 * n) (fun _ _ => fz) f) := by
  intro y hy
  unfold put8
  split_ifs with h'
  · rfl
  · exact h y (by omega)

/-- One trip zeroes row `k` of both buffers. -/
theorem t1_step (d : Dev nD) (L : grid0.Coords) (k : Fin k0_t1_loop.trips) (u : Unit)
    (fm : Buf (Elt F) ((V d (cV L) (jV L)).loc cc0_scratch2)) (fx : Buf (Elt F) ((V d (cV L) (jV L)).loc cc0_scratch3)) :
    iprop(((bMean).view.loc (V d (cV L) (jV L)) ↦{fullShare} fm) ∗ ((bMax).view.loc (V d (cV L) (jV L)) ↦{fullShare} fx))
      ⊢ (wp frame (wpE (defs₀ (F := F)) 𝒱₀ (V d (cV L) (jV L)) none) Set.univ (t1At (F := F) L k u)
          fun _ => iprop(((bMean).view.loc (V d (cV L) (jV L)) ↦{fullShare} put8 (128 * k.val) (fun _ _ => fz) fm)
            ∗ ((bMax).view.loc (V d (cV L) (jV L)) ↦{fullShare} put8 (128 * k.val) (fun _ _ => fz) fx)) : sProp 𝕄) := by
  unfold t1At k0_t1_body
  iintro ⟨Hm, Hx⟩
  sl_exec
  sl_step
  isplitl [Hm]
  · refine (Entails.of_eq (congrArg (fun g => ((bMean).view.loc (V d (cV L) (jV L)) ↦{fullShare} g : sProp 𝕄)) ?_))
    exact writes8 (F := F) (bMean).view fm (128 * k.val) (fun j => k0_off3 k (BitVec.ofNat 32 (16 * j.val))) (fun j => k0_off3_eq k j) (fun j => k0_off3_inb k j) (fun _ _ => fz)
  · refine (Entails.of_eq (congrArg (fun g => ((bMax).view.loc (V d (cV L) (jV L)) ↦{fullShare} g : sProp 𝕄)) ?_))
    exact writes8 (F := F) (bMax).view fx (128 * k.val) (fun j => k0_off3 k (BitVec.ofNat 32 (16 * j.val))) (fun j => k0_off3_eq k j) (fun j => k0_off3_inb k j) (fun _ _ => fz)

end Cert.Proof.SegKernelIdeal

end
-- ==== Proof.Scan.lean ====
/-
  The scan over rows: the carried values and the two buffers together.
-/
module

public import proofs.«01_k».proof.Proof.Words

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- What a subcore holds between two rows: the carried values and the contents of its two buffers. -/
structure Acc (F : FTy → Type) where
  s : RowSt F
  m : S16384.Idx → F .f32
  x : S16384.Idx → F .f32

/-- One row of segment `rid` with values `row`. -/
def Acc.row (L : grid0.Coords) (rid : BitVec 32) (row : Fin 8 → FVec F S16 .f32) (a : Acc F) : Acc F :=
  ⟨a.s.step rid row, a.s.flushMean L rid a.m, a.s.flushMax L rid a.x⟩

/-- The segment of row `n`, and its values in eight blocks of sixteen lanes. -/
def idN (I : S320000.Idx → BitVec 32) (n : ℕ) : BitVec 32 := if h : n < 320000 then I (ix1 ⟨n, h⟩) else 0#32
def valN (X : S320000x128.Idx → F .f32) (n : ℕ) : Fin 8 → FVec F S16 .f32 := fun j y =>
  if h : n < 320000 then X (ix2 ⟨n, h⟩ ⟨16 * j.val + (y 0).val, by have := j.isLt; have := (y 0).isLt; simp at this; omega⟩) else fz

/-- `n` rows from row `lo` on. -/
def scan (L : grid0.Coords) (I : S320000.Idx → BitVec 32) (X : S320000x128.Idx → F .f32) (lo : ℕ) (a : Acc F) : ℕ → Acc F
  | 0 => a
  | n + 1 => (scan L I X lo a n).row L (idN I (lo + n)) (valN X (lo + n))

theorem scan_add (L : grid0.Coords) (I : S320000.Idx → BitVec 32) (X : S320000x128.Idx → F .f32) (lo : ℕ) (a : Acc F) (p q : ℕ) :
    scan L I X lo a (p + q) = scan L I X (lo + p) (scan L I X lo a p) q := by
  induction q with
  | zero => rfl
  | succ q ih => show (scan L I X lo a (p + q)).row L _ _ = _; rw [ih]; simp only [scan, Nat.add_assoc]; rfl

/-- What a subcore leaves at the end: the last segment too is written out. -/
def Acc.last (L : grid0.Coords) (a : Acc F) : Acc F :=
  ⟨a.s, if k0_cond3 L a.s.cur a.s.some = 1#1 then a.s.putMean L a.m else a.m, if k0_cond3 L a.s.cur a.s.some = 1#1 then a.s.putMax L a.x else a.x⟩

end Cert.Proof.SegKernelIdeal

end
-- ==== Proof.Search.lean ====
/-
  The words of the two binary searches, and of the loop's bounds.
-/
module

public import proofs.«01_k».proof.Proof.Scan
public import Idealize.ShloMosaic.Lib.LoopRemainder

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem toInt_small {x : BitVec 32} (h : x.toNat < 2 ^ 31) : x.toInt = x.toNat := by
  rw [BitVec.toInt_eq_toNat_cond, if_pos (by omega)]
theorem msb_small {x : BitVec 32} (h : x.toNat < 2 ^ 31) : x.msb = false := by
  rw [BitVec.msb_eq_decide, decide_eq_false_iff_not]; omega

/-- The quotient rounded down, as the kernel computes it. -/
def fdivW (x c : BitVec 32) : BitVec 32 :=
  Scalar.select (Scalar.andi (Scalar.cmpi .ne (Scalar.subi (Scalar.extui (Scalar.cmpi .sgt x 0#32) : BitVec 32) (Scalar.extui (Scalar.cmpi .slt x 0#32)))
      (Scalar.subi (Scalar.extui (Scalar.cmpi .sgt c 0#32) : BitVec 32) (Scalar.extui (Scalar.cmpi .slt c 0#32))))
    (Scalar.cmpi .ne (Scalar.remsi x c) 0#32)) (Scalar.subi (Scalar.divsi x c) 1#32) (Scalar.divsi x c)

theorem divsi_small {x c : BitVec 32} (hx : x.toNat < 2 ^ 31) (hc : c.toNat < 2 ^ 31) (h1 : 1 < c.toNat) : Scalar.divsi x c = x / c := by
  have hcor : ¬ IntOp.SDivCorner x c := by
    rintro (h | ⟨_, h⟩)
    · subst h; simp at h1
    · subst h; revert hc; decide
  show IntOp.divsi _ x c = _
  unfold IntOp.divsi
  rw [if_neg hcor, BitVec.sdiv_eq, msb_small hx, msb_small hc]
  rfl

theorem fdivW_eq {x c : BitVec 32} (hx : x.toNat < 2 ^ 31) (hc : c = 2#32 ∨ c = 128#32) : fdivW x c = Scalar.divsi x c := by
  by_cases h0 : x = 0#32
  · subst h0; rcases hc with rfl | rfl <;> decide
  have hp : 0 < x.toNat := by
    rcases Nat.eq_zero_or_pos x.toNat with h | h
    · exact absurd (BitVec.eq_of_toNat_eq h) h0
    · exact h
  have e1 : Scalar.cmpi .sgt x 0#32 = 1#1 := by
    show BitVec.ofBool ((0#32).slt x) = 1#1
    rw [ofBool_eq_one, BitVec.slt_iff_toInt_lt, toInt_small hx]; simp; omega
  have e2 : Scalar.cmpi .slt x 0#32 = 0#1 := by
    show BitVec.ofBool (x.slt 0#32) = 0#1
    have : x.slt 0#32 = false := by
      rw [Bool.eq_false_iff]; intro h; rw [BitVec.slt_iff_toInt_lt, toInt_small hx] at h; simp at h; omega
    rw [this]; rfl
  unfold fdivW
  rw [e1, e2]
  have e3 : Scalar.cmpi .ne (Scalar.subi (Scalar.extui (1#1 : BitVec 1) : BitVec 32) (Scalar.extui (0#1 : BitVec 1)))
      (Scalar.subi (Scalar.extui (Scalar.cmpi .sgt c 0#32) : BitVec 32) (Scalar.extui (Scalar.cmpi .slt c 0#32))) = 0#1 := by
    rcases hc with rfl | rfl <;> decide
  rw [e3]
  have e4 : ∀ b : BitVec 1, Scalar.andi 0#1 b = 0#1 := by decide
  rw [e4]; rfl

theorem fdivW_toNat {x c : BitVec 32} (hx : x.toNat < 2 ^ 31) (hc : c = 2#32 ∨ c = 128#32) : (fdivW x c).toNat = x.toNat / c.toNat := by
  rw [fdivW_eq hx hc, divsi_small hx (by rcases hc with rfl | rfl <;> decide) (by rcases hc with rfl | rfl <;> decide), BitVec.toNat_udiv]

/-! ## A search's step -/

/-- Row `n` of the segments laid out sixteen to a row. -/
def rowJ (J : S20000x16.Idx → BitVec 32) (n : ℕ) (j : Fin 16) : BitVec 32 := if h : n < 20000 then J (ix2 ⟨n, h⟩ j) else 0#32

def midW (lo hi : BitVec 32) : BitVec 32 := fdivW (Scalar.addi lo hi) 2#32
def prbW (lo hi : BitVec 32) : BitVec 32 := Scalar.minsi (midW lo hi) 19999#32

/-- One step of the search for the first row that begins with a segment not below `t`. -/
def sStep (t : BitVec 32) (J : S20000x16.Idx → BitVec 32) (p : BitVec 32 × BitVec 32) : BitVec 32 × BitVec 32 :=
  (Scalar.select (Scalar.andi (Scalar.cmpi .slt p.1 p.2) (Scalar.cmpi .slt (rowJ J (prbW p.1 p.2).toNat 0) t)) (Scalar.addi (midW p.1 p.2) 1#32) p.1,
   Scalar.select (Scalar.andi (Scalar.cmpi .slt p.1 p.2) (Scalar.xori (Scalar.cmpi .slt (rowJ J (prbW p.1 p.2).toNat 0) t) 1#1)) (midW p.1 p.2) p.2)

def sIter (t : BitVec 32) (J : S20000x16.Idx → BitVec 32) : ℕ → BitVec 32 × BitVec 32
  | 0 => (0#32, 20000#32)
  | n + 1 => sStep t J (sIter t J n)

/-- The same step on numbers. -/
def nStep (b : ℕ → Bool) (p : ℕ × ℕ) : ℕ × ℕ :=
  if p.1 < p.2 then (if b ((p.1 + p.2) / 2) then ((p.1 + p.2) / 2 + 1, p.2) else (p.1, (p.1 + p.2) / 2)) else p

def Bnd (p : BitVec 32 × BitVec 32) : Prop := p.1.toNat ≤ 20000 ∧ p.2.toNat ≤ 20000

theorem add_toNat {a b : BitVec 32} (h : a.toNat + b.toNat < 2 ^ 32) : (Scalar.addi a b).toNat = a.toNat + b.toNat := by
  show (a + b).toNat = _; rw [BitVec.toNat_add, Nat.mod_eq_of_lt h]

theorem midW_toNat {lo hi : BitVec 32} (h : Bnd (lo, hi)) : (midW lo hi).toNat = (lo.toNat + hi.toNat) / 2 := by
  obtain ⟨h1, h2⟩ := h
  simp only at h1 h2
  have e := add_toNat (a := lo) (b := hi) (by omega)
  unfold midW
  rw [fdivW_toNat (by omega) (.inl rfl), e]; rfl

theorem prbW_toNat {lo hi : BitVec 32} (h : Bnd (lo, hi)) : (prbW lo hi).toNat = min ((lo.toNat + hi.toNat) / 2) 19999 := by
  have e := midW_toNat h
  obtain ⟨h1, h2⟩ := h
  simp only at h1 h2
  unfold prbW
  show (if (midW lo hi).slt 19999#32 then midW lo hi else 19999#32).toNat = _
  have hs : (midW lo hi).slt 19999#32 = true ↔ (midW lo hi).toNat < 19999 := by
    rw [BitVec.slt_iff_toInt_lt, toInt_small (by omega), toInt_small (by decide)]
    show ((midW lo hi).toNat : ℤ) < ((19999 : ℕ) : ℤ) ↔ _
    omega
  split_ifs with hc
  · have := hs.mp hc; omega
  · have h3 : ¬ (midW lo hi).toNat < 19999 := fun h => hc (hs.mpr h)
    show 19999 = _
    omega

theorem slt_small {a b : BitVec 32} (ha : a.toNat < 2 ^ 31) (hb : b.toNat < 2 ^ 31) : a.slt b = decide (a.toNat < b.toNat) := by
  rw [Bool.eq_iff_iff, BitVec.slt_iff_toInt_lt, toInt_small ha, toInt_small hb, decide_eq_true_iff]; omega

theorem sStep_nat (t : BitVec 32) (J : S20000x16.Idx → BitVec 32) (p : BitVec 32 × BitVec 32) (h : Bnd p) :
    ((sStep t J p).1.toNat, (sStep t J p).2.toNat) = nStep (fun n => (rowJ J n 0).slt t) (p.1.toNat, p.2.toNat) := by
  obtain ⟨lo, hi⟩ := p
  have em := midW_toNat h
  have ep := prbW_toNat h
  obtain ⟨h1, h2⟩ := h
  simp only at h1 h2
  unfold sStep nStep
  simp only
  show ((if BitVec.ofBool (lo.slt hi) &&& BitVec.ofBool ((rowJ J (prbW lo hi).toNat 0).slt t) = 1 then midW lo hi + 1#32 else lo).toNat,
    (if BitVec.ofBool (lo.slt hi) &&& (BitVec.ofBool ((rowJ J (prbW lo hi).toNat 0).slt t) ^^^ 1#1) = 1 then midW lo hi else hi).toNat) = _
  rw [slt_small (by omega) (by omega)]
  by_cases hl : lo.toNat < hi.toNat
  · rw [ep, show min ((lo.toNat + hi.toNat) / 2) 19999 = (lo.toNat + hi.toNat) / 2 by omega, decide_eq_true hl, if_pos hl]
    cases hb : (rowJ J ((lo.toNat + hi.toNat) / 2) 0).slt t
    · rw [if_neg (by decide), if_pos (by decide), em]; rfl
    · rw [if_pos (by decide), if_neg (by decide), BitVec.toNat_add, em]
      show (((lo.toNat + hi.toNat) / 2 + 1) % 2 ^ 32, _) = _
      rw [Nat.mod_eq_of_lt (by omega)]; rfl
  · rw [decide_eq_false hl, if_neg hl]
    cases (rowJ J (prbW lo hi).toNat 0).slt t <;> rfl

theorem nStep_bnd {b : ℕ → Bool} {p : ℕ × ℕ} (h : p.1 ≤ 20000 ∧ p.2 ≤ 20000) : (nStep b p).1 ≤ 20000 ∧ (nStep b p).2 ≤ 20000 := by
  obtain ⟨l, r⟩ := p
  simp only at h
  unfold nStep
  split_ifs <;> simp only at * <;> omega

theorem sStep_bnd {t : BitVec 32} {J : S20000x16.Idx → BitVec 32} {p : BitVec 32 × BitVec 32} (h : Bnd p) : Bnd (sStep t J p) := by
  have e := sStep_nat t J p h
  have b := nStep_bnd (b := fun n => (rowJ J n 0).slt t) (p := (p.1.toNat, p.2.toNat)) h
  rw [← e] at b; exact b

theorem sIter_bnd (t : BitVec 32) (J : S20000x16.Idx → BitVec 32) (n : ℕ) : Bnd (sIter t J n) := by
  induction n with
  | zero => exact ⟨Nat.zero_le _, le_refl 20000⟩
  | succ n ih => exact sStep_bnd ih

theorem off4_eq (lo hi : BitVec 32) : k0_off4 lo hi = ![(prbW lo hi).toNat, 0] := rfl
theorem chk1 {lo hi : BitVec 32} (h : Bnd (lo, hi)) : k0_chk1 lo hi := by
  intro a
  rw [off4_eq, prbW_toNat h]
  match a with
  | 0 => show min _ 19999 + 1 ≤ 20000; omega
  | 1 => exact le_refl 16
theorem chk3 {lo hi : BitVec 32} (h : Bnd (lo, hi)) : k0_chk3 lo hi := chk1 h

end Cert.Proof.SegKernelIdeal

end
-- ==== Proof.T2.lean ====
/-
  One trip of either binary search: a probe of one row, and the interval it leaves.
-/
module

public import proofs.«01_k».proof.Proof.Search

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- One lane of a probe. -/
theorem probe_lane (x : S1x16.Idx → BitVec 32) (j : Fin 16) {off : Fin S16.rank → ℕ} (ho : off = ![j.val]) (h : S16.Slices off S1) :
    extractAt ![0] (extractStridedSlice S1 off (shapeCast S16 x shapeCasts_S1x16_S16) h) inpos_S1_p0 = x (ix2 0 j) := by
  subst ho
  unfold extractAt extractStridedSlice
  refine (shapeCast_dropUnit_apply ![16] x shapeCasts_S1x16_S16 _).trans ?_
  refine congrArg x (funext fun a => ?_)
  match a with
  | ⟨0, _⟩ => rfl
  | ⟨1, _⟩ => exact Fin.ext (show j.val + 0 = j.val by omega)

theorem probe_read (J : S20000x16.Idx → BitVec 32) {n : ℕ} {off : Fin S20000x16.rank → ℕ} (ho : off = ![n, 0])
    (inb : ∀ a, off a + S1x16.size a ≤ S20000x16.size a) (j : Fin 16) :
    (aId2).view.readAt (Elt F) (Rect.unit (s := S20000x16) off S1x16.size inb).toLoadRect J (ix2 0 j) = rowJ J n j := by
  subst ho
  have h : n + 1 ≤ 20000 := inb 0
  unfold rowJ
  rw [dif_pos (show n < 20000 by omega)]
  refine congrArg J (funext fun a => ?_)
  match a with
  | ⟨0, _⟩ => exact Fin.ext (show n + 1 * 0 = n by omega)
  | ⟨1, _⟩ => exact Fin.ext (show 0 + 1 * j.val = j.val by omega)

/-- The same lane, of the probe's buffer after a row has been copied into it. -/
theorem probe_write_lane (r pay : S1x16.Idx → BitVec 32) (j : Fin 16) {off : Fin S16.rank → ℕ} (ho : off = ![j.val]) (h : S16.Slices off S1) :
    extractAt ![0] (extractStridedSlice S1 off (shapeCast S16 ((bPrb).view.readAt (Elt F)
      (Rect.unit (s := S1x16) ![0, 0] S1x16.size inb_S1x16_S1x16_0_0).toLoadRect ((bPrb).view.write (Elt F) r pay Finset.univ)) shapeCasts_S1x16_S16) h) inpos_S1_p0
      = pay (ix2 0 j) := by
  rw [probe_lane _ j ho h]
  refine (congrFun (View.write_whole_univ _ _ _ : (bPrb).view.write (Elt F) r pay Finset.univ = pay) _).trans ?_
  refine congrArg pay (funext fun a => ?_)
  match a with
  | ⟨0, _⟩ => rfl
  | ⟨1, _⟩ => exact Fin.ext (show 0 + 1 * j.val = j.val by omega)

/-- A search's step, given the word it compares. -/
def sWith (t lo hi w : BitVec 32) : BitVec 32 × BitVec 32 :=
  (Scalar.select (Scalar.andi (Scalar.cmpi .slt lo hi) (Scalar.cmpi .slt w t)) (Scalar.addi (midW lo hi) 1#32) lo,
   Scalar.select (Scalar.andi (Scalar.cmpi .slt lo hi) (Scalar.xori (Scalar.cmpi .slt w t) 1#1)) (midW lo hi) hi)

theorem t2_step (d : Dev nD) (L : grid0.Coords) (t : BitVec 32) (k : Fin k0_t2_loop.trips)
    (p : BitVec 32 × BitVec 32) (hb : Bnd p) (q : PosShare TreeShare) (O : CellTallies nD τ sig (HIx 1)) (W : Waits sig (HIx 1))
    (J : Buf (Elt F) ((V d (cV L) (jV L)).loc main_v0_scv)) :
    iprop(Transfers.MayWaits (V d (cV L) (jV L)) (none : HIx 1) O
       ∗ ((aId2).view.loc (V d (cV L) (jV L)) ↦{q} J)
       ∗ (∃ r, (bPrb).view.loc (V d (cV L) (jV L)) ↦{fullShare} r)
       ∗ semVal (V d (cV L) (jV L), SemLoc.dma cc0_scoped2.sem) 0
       ∗ ∃ W', ⌜∀ p ∈ W', p ∈ W ∨ p.2 = none⌝ ∗ owes (V d (cV L) (jV L)) O W')
      ⊢ (wp frame (wpE (defs₀ (F := F)) 𝒱₀ (V d (cV L) (jV L)) none) Set.univ (t2At (F := F) L t k p)
          fun acc => iprop(⌜acc = sStep t J p⌝ ∗ Transfers.MayWaits (V d (cV L) (jV L)) (none : HIx 1) O
       ∗ ((aId2).view.loc (V d (cV L) (jV L)) ↦{q} J)
       ∗ (∃ r, (bPrb).view.loc (V d (cV L) (jV L)) ↦{fullShare} r)
       ∗ semVal (V d (cV L) (jV L), SemLoc.dma cc0_scoped2.sem) 0
       ∗ ∃ W', ⌜∀ p ∈ W', p ∈ W ∨ p.2 = none⌝ ∗ owes (V d (cV L) (jV L)) O W')
         : sProp 𝕄) := by
  obtain ⟨lo, hi⟩ := p
  have hchk : k0_chk1 lo hi := chk1 hb
  unfold t2At k0_t2_body
  iintro ⟨Hmw, HJ, ⟨%r, Hr⟩, Hs, %W', %hW', HO⟩
  sl_exec (disch := exact View.amount_pos _ _ (show 0 < 16 by decide))
  have hp : ∀ (inb : ∀ a, (k0_off4 lo hi) a + S1x16.size a ≤ S20000x16.size a) (j : Fin 16),
      (aId2).view.readAt (Elt F) (Rect.unit (s := S20000x16) (k0_off4 lo hi) S1x16.size inb).toLoadRect J (ix2 0 j) = rowJ J (prbW lo hi).toNat j :=
    fun inb j => probe_read (F := F) J (off4_eq lo hi) inb j
  sl_step
  isplitl []
  · ipureintro
    have e := (probe_write_lane (F := F) r (t2_step.sl.dma0 d L J lo hi hchk) 0 (off := ![0]) rfl slices_S16_o0_S1).trans (hp (k0_off4_inb lo hi hchk) 0)
    exact congrArg (sWith t lo hi) e
  isplitl [Hmw]; · iexact Hmw
  isplitl [HJ]; · iexact HJ
  isplitl [Hr]; · iexists _; iexact Hr
  isplitl [Hs]; · iexact Hs
  iexists _; isplitr
  swap; · iexact HO
  ipureintro; intro p hp
  rcases Finset.mem_insert.mp hp with hp | hp; · exact .inr (hp ▸ rfl)
  exact hW' p hp

theorem t3_step (d : Dev nD) (L : grid0.Coords) (v2 v8_0 v88 v92 : BitVec 32) (t : BitVec 32) (k : Fin k0_t3_loop.trips)
    (p : BitVec 32 × BitVec 32) (hb : Bnd p) (q : PosShare TreeShare) (O : CellTallies nD τ sig (HIx 1)) (W : Waits sig (HIx 1))
    (J : Buf (Elt F) ((V d (cV L) (jV L)).loc main_v0_scv)) :
    iprop(Transfers.MayWaits (V d (cV L) (jV L)) (none : HIx 1) O
       ∗ ((aId2).view.loc (V d (cV L) (jV L)) ↦{q} J)
       ∗ (∃ r, (bPrb).view.loc (V d (cV L) (jV L)) ↦{fullShare} r)
       ∗ semVal (V d (cV L) (jV L), SemLoc.dma cc0_scoped4.sem) 0
       ∗ ∃ W', ⌜∀ p ∈ W', p ∈ W ∨ p.2 = none⌝ ∗ owes (V d (cV L) (jV L)) O W')
      ⊢ (wp frame (wpE (defs₀ (F := F)) 𝒱₀ (V d (cV L) (jV L)) none) Set.univ (t3At (F := F) L v2 v8_0 v88 v92 t k p)
          fun acc => iprop(⌜acc = sStep t J p⌝ ∗ Transfers.MayWaits (V d (cV L) (jV L)) (none : HIx 1) O
       ∗ ((aId2).view.loc (V d (cV L) (jV L)) ↦{q} J)
       ∗ (∃ r, (bPrb).view.loc (V d (cV L) (jV L)) ↦{fullShare} r)
       ∗ semVal (V d (cV L) (jV L), SemLoc.dma cc0_scoped4.sem) 0
       ∗ ∃ W', ⌜∀ p ∈ W', p ∈ W ∨ p.2 = none⌝ ∗ owes (V d (cV L) (jV L)) O W')
         : sProp 𝕄) := by
  obtain ⟨lo, hi⟩ := p
  have hchk : k0_chk3 lo hi := chk3 hb
  unfold t3At k0_t3_body
  iintro ⟨Hmw, HJ, ⟨%r, Hr⟩, Hs, %W', %hW', HO⟩
  sl_exec (disch := exact View.amount_pos _ _ (show 0 < 16 by decide))
  have hp : ∀ (inb : ∀ a, (k0_off6 lo hi) a + S1x16.size a ≤ S20000x16.size a) (j : Fin 16),
      (aId2).view.readAt (Elt F) (Rect.unit (s := S20000x16) (k0_off6 lo hi) S1x16.size inb).toLoadRect J (ix2 0 j) = rowJ J (prbW lo hi).toNat j :=
    fun inb j => probe_read (F := F) J (off4_eq lo hi) inb j
  sl_step
  isplitl []
  · ipureintro
    have e := (probe_write_lane (F := F) r (t3_step.sl.dma0 d L J lo hi hchk) 0 (off := ![0]) rfl slices_S16_o0_S1).trans (hp (k0_off6_inb lo hi hchk) 0)
    exact congrArg (sWith t lo hi) e
  isplitl [Hmw]; · iexact Hmw
  isplitl [HJ]; · iexact HJ
  isplitl [Hr]; · iexists _; iexact Hr
  isplitl [Hs]; · iexact Hs
  iexists _; isplitr
  swap; · iexact HO
  ipureintro; intro p hp
  rcases Finset.mem_insert.mp hp with hp | hp; · exact .inr (hp ▸ rfl)
  exact hW' p hp

end Cert.Proof.SegKernelIdeal

end
-- ==== Proof.T5.lean ====
/-
  One row of a chunk: the run of the inner loop's body, both ways of its conditional at once.
-/
module

public import proofs.«01_k».proof.Proof.Words

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- The segment of row `k` of a chunk whose segments are `g`. -/
def ridAt (g : S144.Idx → BitVec 32) (k : ℕ) (h : k < 128) : BitVec 32 := g (ix1 ⟨k, by omega⟩)
/-- Row `k` of a chunk `r`, in eight blocks of sixteen lanes. -/
def rowAt (r : S128x128.Idx → F .f32) (k : ℕ) (h : k < 128) : Fin 8 → FVec F S16 .f32 :=
  fun j y => r (ix2 ⟨k, h⟩ ⟨16 * j.val + (y 0).val, by have := j.isLt; have := (y 0).isLt; simp at this; omega⟩)

theorem rid_lane (x : S16.Idx → BitVec 32) : extractAt ![0] (k0_pay67 (F := F) x) inpos_S1_p0 = x (ix1 0) := by
  unfold extractAt k0_pay67 extractStridedSlice
  rw [shapeCast_self]
  refine congrArg x (funext fun a => ?_)
  match a with
  | ⟨0, _⟩ => rfl

theorem rid_read (g : S144.Idx → BitVec 32) {off : Fin S144.rank → ℕ} {k : ℕ} (h : k < 128) (ho : off = ![k])
    (inb : ∀ a, off a + S16.size a ≤ S144.size a) :
    extractAt ![0] (k0_pay67 (F := F) ((bIds).view.readAt (Elt F) (Rect.unit (s := S144) off S16.size inb).toLoadRect g)) inpos_S1_p0 = ridAt g k h := by
  subst ho
  refine (rid_lane (F := F) _).trans ?_
  refine congrArg g (funext fun a => ?_)
  match a with
  | ⟨0, _⟩ => exact Fin.ext (show k + 1 * 0 = k by omega)

theorem row_read (r : S128x128.Idx → F .f32) {off : Fin S128x128.rank → ℕ} {k : ℕ} (h : k < 128) (j : Fin 8) (ho : off = ![k, 16 * j.val])
    (inb : ∀ a, off a + S1x16.size a ≤ S128x128.size a) :
    shapeCast S16 ((bRow).view.readAt (Elt F) (Rect.unit (s := S128x128) off S1x16.size inb).toLoadRect r) shapeCasts_S1x16_S16 = rowAt r k h j := by
  subst ho
  funext y
  unfold rowAt
  refine (shapeCast_dropUnit_apply ![16] _ shapeCasts_S1x16_S16 y).trans ?_
  show r _ = r _
  refine congrArg r (funext fun a => ?_)
  match a with
  | 0 => exact Fin.ext (by show k + 1 * 0 = k; omega)
  | 1 => exact Fin.ext (by show 16 * j.val + 1 * (y 0).val = _; rw [Nat.one_mul]; rfl)

/-- One row: the carried values step, the finished segment is written out. -/
theorem t5_step (d : Dev nD) (L : grid0.Coords) (k : Fin k0_t5_loop.trips) (hk : k.val < 128) (s : RowSt F)
    (r : Buf (Elt F) ((V d (cV L) (jV L)).loc cc0_scratch0)) (g : Buf (Elt F) ((V d (cV L) (jV L)).loc cc0_scratch6))
    (fm : Buf (Elt F) ((V d (cV L) (jV L)).loc cc0_scratch2)) (fx : Buf (Elt F) ((V d (cV L) (jV L)).loc cc0_scratch3)) :
    iprop(((bRow).view.loc (V d (cV L) (jV L)) ↦{fullShare} r) ∗ ((bIds).view.loc (V d (cV L) (jV L)) ↦{fullShare} g)
       ∗ ((bMean).view.loc (V d (cV L) (jV L)) ↦{fullShare} fm) ∗ ((bMax).view.loc (V d (cV L) (jV L)) ↦{fullShare} fx))
      ⊢ (wp frame (wpE (defs₀ (F := F)) 𝒱₀ (V d (cV L) (jV L)) none) Set.univ (t5At (F := F) L (bw L) k s.tup)
          fun a => iprop(⌜a = (s.step (ridAt g k.val hk) (rowAt r k.val hk)).tup⌝ ∗ ((bRow).view.loc (V d (cV L) (jV L)) ↦{fullShare} r) ∗ ((bIds).view.loc (V d (cV L) (jV L)) ↦{fullShare} g)
            ∗ ((bMean).view.loc (V d (cV L) (jV L)) ↦{fullShare} s.flushMean L (ridAt g k.val hk) fm)
            ∗ ((bMax).view.loc (V d (cV L) (jV L)) ↦{fullShare} s.flushMax L (ridAt g k.val hk) fx)) : sProp 𝕄) := by
  have hchk := chk6 L
  have e0 := rid_read (F := F) g hk (k0_off10_eq k) (k0_off10_inb k)
  have r0 := row_read (F := F) r hk 0 (k0_off12_eq k) (k0_off12_inb k)
  have r1 := row_read (F := F) r hk 1 (k0_off13_eq k) (k0_off13_inb k)
  have r2 := row_read (F := F) r hk 2 (k0_off14_eq k) (k0_off14_inb k)
  have r3 := row_read (F := F) r hk 3 (k0_off15_eq k) (k0_off15_inb k)
  have r4 := row_read (F := F) r hk 4 (k0_off16_eq k) (k0_off16_inb k)
  have r5 := row_read (F := F) r hk 5 (k0_off17_eq k) (k0_off17_inb k)
  have r6 := row_read (F := F) r hk 6 (k0_off18_eq k) (k0_off18_inb k)
  have r7 := row_read (F := F) r hk 7 (k0_off19_eq k) (k0_off19_inb k)
  unfold t5At k0_t5_body RowSt.tup
  iintro ⟨Hr, Hg, Hm, Hx⟩
  sl_exec
  sl_step
  isplitl []
  · ipureintro
    have hrid : t5_step.sl.v269 d L k g = ridAt g k.val hk := e0
    have h3 : t5_step.sl.r_3 d L k r = rowAt r k.val hk 0 := r0
    have h4 : t5_step.sl.r_4 d L k r = rowAt r k.val hk 1 := r1
    have h5 : t5_step.sl.r_5 d L k r = rowAt r k.val hk 2 := r2
    have h6 : t5_step.sl.r_6 d L k r = rowAt r k.val hk 3 := r3
    have h7 : t5_step.sl.r_7 d L k r = rowAt r k.val hk 4 := r4
    have h8 : t5_step.sl.r_8 d L k r = rowAt r k.val hk 5 := r5
    have h9 : t5_step.sl.r_9 d L k r = rowAt r k.val hk 6 := r6
    have h10 : t5_step.sl.r_10 d L k r = rowAt r k.val hk 7 := r7
    have hch : t5_step.sl.v270 d L k s g = Scalar.cmpi .ne (ridAt g k.val hk) s.cur := by rw [← hrid]; rfl
    have h11 : t5_step.sl.r_11 d L k s g = Scalar.select (t5_step.sl.v270 d L k s g) fo (Scalar.addf s.cnt fo) := rfl
    have h12 : t5_step.sl.r_12 d L k s r g = Scalar.select (t5_step.sl.v270 d L k s g) (t5_step.sl.r_3 d L k r) (addf (s.sum 0) (t5_step.sl.r_3 d L k r)) := rfl
    have h13 : t5_step.sl.r_13 d L k s r = addf (s.sum 1) (t5_step.sl.r_4 d L k r) := rfl
    rw [h11, h12, h13, hch, hrid, h3, h4, h5, h6, h7, h8, h9, h10]
    rfl
  isplitl [Hr]
  · iexact Hr
  isplitl [Hg]
  · iexact Hg
  isplitl [Hm]
  · refine (Entails.of_eq (congrArg (fun g => ((bMean).view.loc (V d (cV L) (jV L)) ↦{fullShare} g : sProp 𝕄)) ?_))
    have hrid : t5_step.sl.v269 d L k g = ridAt g k.val hk := e0
    have h76 : t5_step.sl.v276 s = s.some := rfl
    unfold RowSt.flushMean RowSt.putMean
    by_cases hc : k0_cond1 L s.cur (ridAt g k.val hk) s.some = 1#1
    swap
    · rw [if_neg hc]; exact dif_neg (fun h => hc (by rw [h76, hrid] at h; exact h))
    rw [if_pos hc]
    refine (dif_pos (show k0_cond1 L s.cur (t5_step.sl.v269 d L k g) (t5_step.sl.v276 s) = 1#1 by rw [h76, hrid]; exact hc)).trans ?_
    have ht := ((cond1_iff L s.cur _ _).mp hc).2.1
    refine (writes8 (F := F) (bMean).view fm (rowOff L s.cur) (fun j => k0_off11 L s.cur (BitVec.ofNat 32 (16 * j.val))) (fun j => off11_eq L s.cur ht j)
      (fun j => k0_off11_inb L s.cur (ridAt g k.val hk) s.some (hchk _ _ _) hc j) (fun j => shapeCast S16 (divf (s.sum j) (broadcast S16 s.cnt)) shapeCasts_S16_S16)).trans ?_
    refine congrArg (fun w => put8 (rowOff L s.cur) w fm) (funext fun j => ?_)
    exact shapeCast_self _ _
  · refine (Entails.of_eq (congrArg (fun g => ((bMax).view.loc (V d (cV L) (jV L)) ↦{fullShare} g : sProp 𝕄)) ?_))
    have hrid : t5_step.sl.v269 d L k g = ridAt g k.val hk := e0
    have h76 : t5_step.sl.v276 s = s.some := rfl
    unfold RowSt.flushMax RowSt.putMax
    by_cases hc : k0_cond1 L s.cur (ridAt g k.val hk) s.some = 1#1
    swap
    · rw [if_neg hc]; exact dif_neg (fun h => hc (by rw [h76, hrid] at h; exact h))
    rw [if_pos hc]
    refine (dif_pos (show k0_cond1 L s.cur (t5_step.sl.v269 d L k g) (t5_step.sl.v276 s) = 1#1 by rw [h76, hrid]; exact hc)).trans ?_
    have ht := ((cond1_iff L s.cur _ _).mp hc).2.1
    refine (writes8 (F := F) (bMax).view fx (rowOff L s.cur) (fun j => k0_off11 L s.cur (BitVec.ofNat 32 (16 * j.val))) (fun j => off11_eq L s.cur ht j)
      (fun j => k0_off11_inb L s.cur (ridAt g k.val hk) s.some (hchk _ _ _) hc j) (fun j => shapeCast S16 (s.mx j) shapeCasts_S16_S16)).trans ?_
    refine congrArg (fun w => put8 (rowOff L s.cur) w fx) (funext fun j => ?_)
    exact shapeCast_self _ _

end Cert.Proof.SegKernelIdeal

end
-- ==== Proof.T4.lean ====
/-
  One chunk: two copies in, then its 128 rows.
-/
module

public import proofs.«01_k».proof.Proof.Scan
public import proofs.«01_k».proof.Proof.T5

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- The inner loop's invariant: `n` rows of chunk `kk` done. -/
def inv5 (d : Dev nD) (L : grid0.Coords) (I : S320000.Idx → BitVec 32) (X : S320000x128.Idx → F .f32) (kk : ℕ) (a : Acc F)
    (r : Buf (Elt F) ((V d (cV L) (jV L)).loc cc0_scratch0)) (g : Buf (Elt F) ((V d (cV L) (jV L)).loc cc0_scratch6)) (n : ℕ)
    (acc : BitVec 32 × F .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32
    × FVec F S16 .f32 × FVec F S16 .f32) : sProp 𝕄 :=
  iprop(⌜acc = (scan L I X (128 * kk) a n).s.tup⌝ ∗ ((bRow).view.loc (V d (cV L) (jV L)) ↦{fullShare} r) ∗ ((bIds).view.loc (V d (cV L) (jV L)) ↦{fullShare} g)
    ∗ ((bMean).view.loc (V d (cV L) (jV L)) ↦{fullShare} (scan L I X (128 * kk) a n).m)
    ∗ ((bMax).view.loc (V d (cV L) (jV L)) ↦{fullShare} (scan L I X (128 * kk) a n).x))

/-- A chunk's rows, copied in, are the array's rows. -/
theorem chunk_rows (X : S320000x128.Idx → F .f32) (kk : ℕ) (hkk : kk < 2500) {off : Fin S320000x128.rank → ℕ} (ho : off = ![128 * kk, 0])
    (inb : ∀ a, off a + S128x128.size a ≤ S320000x128.size a) (k : ℕ) (h : k < 128) :
    rowAt ((aVal).view.readAt (Elt F) (Rect.unit (s := S320000x128) off S128x128.size inb).toLoadRect X) k h = valN X (128 * kk + k) := by
  subst ho
  funext j y
  unfold rowAt valN
  rw [dif_pos (show 128 * kk + k < 320000 by omega)]
  refine congrArg X (funext fun a => ?_)
  match a with
  | 0 => exact Fin.ext (show 128 * kk + 1 * k = 128 * kk + k by omega)
  | 1 => exact Fin.ext (show 0 + 1 * (16 * j.val + (y 0).val) = 16 * j.val + (y 0).val by omega)

/-- A chunk's segments, copied into the first 128 words of their buffer, are the array's. -/
theorem chunk_ids (I : S320000.Idx → BitVec 32) (g : S144.Idx → BitVec 32) (kk : ℕ) (hkk : kk < 2500) {off : Fin S320000.rank → ℕ} (ho : off = ![128 * kk])
    (inb : ∀ a, off a + S128.size a ≤ S320000.size a) (k : ℕ) (h : k < 128) :
    ridAt ((bIds).view.writes (Elt F) g [⟨Rect.unit (s := S144) ![0] S128.size inb_S144_S128_0,
      (aIds).view.readAt (Elt F) (Rect.unit (s := S320000) off S128.size inb).toLoadRect I⟩]) k h = idN I (128 * kk + k) := by
  subst ho
  unfold ridAt idN
  rw [dif_pos (show 128 * kk + k < 320000 by omega)]
  have e : (ix1 ⟨k, by omega⟩ : S144.Idx) = (Rect.unit (s := S144) ![0] S128.size inb_S144_S128_0).emb (ix1 ⟨k, h⟩ : S128.Idx) := by
    funext a
    match a with
    | ⟨0, _⟩ => exact Fin.ext (show k = 0 + 1 * k by omega)
  rw [e]
  refine (View.read_writes_cons_hit (Val := Elt F) (bIds).view g (Rect.unit (s := S144) ![0] S128.size inb_S144_S128_0) _ [] (ix1 ⟨k, h⟩ : S128.Idx) _ rfl).trans ?_
  refine congrArg I (funext fun a => ?_)
  match a with
  | ⟨0, _⟩ => exact Fin.ext (show 128 * kk + 1 * k = 128 * kk + k by omega)

theorem rows_in (d : Dev nD) (L : grid0.Coords) (X : S320000x128.Idx → F .f32) (kk : ℕ) (hkk : kk < 2500) {off : Fin S320000x128.rank → ℕ} (ho : off = ![128 * kk, 0])
    (inb : ∀ a, off a + S128x128.size a ≤ S320000x128.size a) (r : Buf (Elt F) ((V d (cV L) (jV L)).loc cc0_scratch0)) (pay : S128x128.Idx → F .f32)
    (hp : pay = (aVal).view.readAt (Elt F) (Rect.unit (s := S320000x128) off S128x128.size inb).toLoadRect X) :
    ((bRow).view.loc (V d (cV L) (jV L)) ↦{fullShare} (bRow).view.write (Elt F) r pay Finset.univ : sProp 𝕄)
      ⊢ iprop(∃ r' : Buf (Elt F) ((V d (cV L) (jV L)).loc cc0_scratch0), ⌜∀ k (h : k < 128), rowAt r' k h = valN X (128 * kk + k)⌝
          ∗ (bRow).view.loc (V d (cV L) (jV L)) ↦{fullShare} r') := by
  iintro H
  iexists _
  isplitr
  swap
  · iexact H
  · ipureintro
    intro k h
    rw [← chunk_rows X kk hkk ho inb k h, ← hp]
    exact congrArg (fun r => rowAt r k h) (View.write_whole_univ _ _ _)

theorem ids_in (d : Dev nD) (L : grid0.Coords) (I : S320000.Idx → BitVec 32) (kk : ℕ) (hkk : kk < 2500) {off : Fin S320000.rank → ℕ} (ho : off = ![128 * kk])
    (inb : ∀ a, off a + S128.size a ≤ S320000.size a) (g : Buf (Elt F) ((V d (cV L) (jV L)).loc cc0_scratch6)) (pay : S128.Idx → BitVec 32)
    (hp : pay = (aIds).view.readAt (Elt F) (Rect.unit (s := S320000) off S128.size inb).toLoadRect I) :
    ((bIds).view.loc (V d (cV L) (jV L)) ↦{fullShare} (bIds).view.writes (Elt F) g [⟨Rect.unit (s := S144) ![0] S128.size inb_S144_S128_0, pay⟩] : sProp 𝕄)
      ⊢ iprop(∃ g' : Buf (Elt F) ((V d (cV L) (jV L)).loc cc0_scratch6), ⌜∀ k (h : k < 128), ridAt g' k h = idN I (128 * kk + k)⌝
          ∗ (bIds).view.loc (V d (cV L) (jV L)) ↦{fullShare} g') := by
  subst hp
  iintro H
  iexists _
  isplitr
  swap
  · iexact H
  · ipureintro
    exact fun k h => chunk_ids (F := F) I g kk hkk ho inb k h

variable (v8_0 v15 v20 v25 v30 v35 v40 v45 v50 v55 v60 v65 v70 v75 v80 v85 v90 v101_0 v108 v113 v118 v123 v128 v133 v138
            v143 v148 v153 v158 v163 v168 v173 v178 v183 : BitVec 32)

theorem t4_step (d : Dev nD) (L : grid0.Coords)
    (h5 : k0_chk5 L v8_0 v15 v20 v25 v30 v35 v40 v45 v50 v55 v60 v65 v70 v75 v80 v85 v90 v101_0 v108 v113 v118 v123 v128 v133 v138 v143 v148 v153 v158 v163 v168 v173 v178 v183) (k : Fin (k0_t4_loop L v8_0 v15 v20 v25 v30 v35 v40 v45 v50 v55 v60 v65 v70 v75 v80 v85 v90 v101_0 v108 v113 v118 v123 v128 v133 v138 v143 v148 v153 v158 v163 v168 v173 v178 v183).trips) (kk : ℕ) (hkk : kk < 2500)
    (ho8 : k0_off8 L v8_0 v15 v20 v25 v30 v35 v40 v45 v50 v55 v60 v65 v70 v75 v80 v85 v90 v101_0 v108 v113 v118 v123 v128 v133 v138 v143 v148 v153 v158 v163 v168 v173 v178 v183 k = ![128 * kk, 0]) (ho9 : k0_off9 L v8_0 v15 v20 v25 v30 v35 v40 v45 v50 v55 v60 v65 v70 v75 v80 v85 v90 v101_0 v108 v113 v118 v123 v128 v133 v138 v143 v148 v153 v158 v163 v168 v173 v178 v183 k = ![128 * kk])
    (a : Acc F) (q : PosShare TreeShare) (O : CellTallies nD τ sig (HIx 1)) (W : Waits sig (HIx 1))
    (I : Buf (Elt F) ((V d (cV L) (jV L)).loc main_arg1_scv)) (X : Buf (Elt F) ((V d (cV L) (jV L)).loc main_arg0_scv)) :
    iprop(Transfers.MayWaits (V d (cV L) (jV L)) (none : HIx 1) O
       ∗ ((aVal).view.loc (V d (cV L) (jV L)) ↦{q} X) ∗ ((aIds).view.loc (V d (cV L) (jV L)) ↦{q} I)
       ∗ (∃ r, (bRow).view.loc (V d (cV L) (jV L)) ↦{fullShare} r) ∗ (∃ g, (bIds).view.loc (V d (cV L) (jV L)) ↦{fullShare} g)
       ∗ ((bMean).view.loc (V d (cV L) (jV L)) ↦{fullShare} a.m) ∗ ((bMax).view.loc (V d (cV L) (jV L)) ↦{fullShare} a.x)
       ∗ semVal (V d (cV L) (jV L), SemLoc.dma cc0_scoped6.sem) 0 ∗ semVal (V d (cV L) (jV L), SemLoc.dma cc0_scoped7.sem) 0
       ∗ ∃ W', ⌜∀ p ∈ W', p ∈ W ∨ p.2 = none⌝ ∗ owes (V d (cV L) (jV L)) O W')
      ⊢ (wp frame (wpE (defs₀ (F := F)) 𝒱₀ (V d (cV L) (jV L)) none) Set.univ (t4At (F := F) L (bw L) v8_0 v15 v20 v25 v30 v35 v40 v45 v50 v55 v60 v65 v70 v75 v80 v85 v90 v101_0 v108 v113 v118 v123 v128 v133 v138 v143 v148 v153 v158 v163 v168 v173 v178 v183 h5 k a.s.tup)
          fun acc => iprop(⌜acc = (scan L I X (128 * kk) a 128).s.tup⌝ ∗ Transfers.MayWaits (V d (cV L) (jV L)) (none : HIx 1) O
       ∗ ((aVal).view.loc (V d (cV L) (jV L)) ↦{q} X) ∗ ((aIds).view.loc (V d (cV L) (jV L)) ↦{q} I)
       ∗ (∃ r, (bRow).view.loc (V d (cV L) (jV L)) ↦{fullShare} r) ∗ (∃ g, (bIds).view.loc (V d (cV L) (jV L)) ↦{fullShare} g)
       ∗ ((bMean).view.loc (V d (cV L) (jV L)) ↦{fullShare} (scan L I X (128 * kk) a 128).m)
       ∗ ((bMax).view.loc (V d (cV L) (jV L)) ↦{fullShare} (scan L I X (128 * kk) a 128).x)
       ∗ semVal (V d (cV L) (jV L), SemLoc.dma cc0_scoped6.sem) 0 ∗ semVal (V d (cV L) (jV L), SemLoc.dma cc0_scoped7.sem) 0
       ∗ ∃ W', ⌜∀ p ∈ W', p ∈ W ∨ p.2 = none⌝ ∗ owes (V d (cV L) (jV L)) O W')
         : sProp 𝕄) := by
  unfold t4At k0_t4_body
  iintro ⟨Hmw, HX, HI, ⟨%r, Hr⟩, ⟨%g, Hg⟩, Hm, Hx, Hs6, Hs7, %W', %hW', HO⟩
  sl_exec (disch := exact View.amount_pos _ _ (show 0 < 128 by decide))
  ihave Hr' := (rows_in (F := F) d L X kk hkk ho8 (k0_off8_inb L v8_0 v15 v20 v25 v30 v35 v40 v45 v50 v55 v60 v65 v70 v75 v80 v85 v90 v101_0 v108 v113 v118 v123 v128 v133 v138 v143 v148 v153 v158 v163 v168 v173 v178 v183 h5 k) r (t4_step.sl.dma0 v8_0 v15 v20 v25 v30 v35 v40 v45 v50 v55 v60 v65 v70 v75 v80 v85 v90 v101_0 v108 v113 v118 v123 v128 v133 v138 v143 v148 v153 v158 v163 v168 v173 v178 v183 d L h5 k X) rfl) $$ Hr
  ihave Hg' := (ids_in (F := F) d L I kk hkk ho9 (k0_off9_inb L v8_0 v15 v20 v25 v30 v35 v40 v45 v50 v55 v60 v65 v70 v75 v80 v85 v90 v101_0 v108 v113 v118 v123 v128 v133 v138 v143 v148 v153 v158 v163 v168 v173 v178 v183 h5 k) g (t4_step.sl.dma0_1 v8_0 v15 v20 v25 v30 v35 v40 v45 v50 v55 v60 v65 v70 v75 v80 v85 v90 v101_0 v108 v113 v118 v123 v128 v133 v138 v143 v148 v153 v158 v163 v168 v173 v178 v183 d L h5 k I) rfl) $$ Hg
  icases Hr' with ⟨%r', %hr', Hr⟩
  icases Hg' with ⟨%g', %hg', Hg⟩
  sl_for (inv5 d L I X kk a r' g') $$ [Hr Hg Hm Hx]
  case region =>
    intro n acc
    have hn : n.val < 128 := lt_of_lt_of_eq n.isLt (by decide)
    unfold inv5
    iintro ⟨%hacc, H⟩
    subst hacc
    have h := t5_step (F := F) d L n hn (scan L I X (128 * kk) a n.val).s r' g' (scan L I X (128 * kk) a n.val).m (scan L I X (128 * kk) a n.val).x
    rw [hr' n.val hn, hg' n.val hn] at h
    iapply h
    iexact H
  · unfold inv5
    isplitl []
    · ipureintro; rfl
    isplitl [Hr]; · iexact Hr
    isplitl [Hg]; · iexact Hg
    isplitl [Hm]; · iexact Hm
    iexact Hx
  iintro %acc HI5
  unfold inv5
  icases HI5 with ⟨%hacc, Hr, Hg, Hm, Hx⟩
  subst hacc
  sl_exec
  sl_step
  isplitl []
  · ipureintro; rfl
  isplitl [Hmw]; · iexact Hmw
  isplitl [HX]; · iexact HX
  isplitl [HI]; · iexact HI
  isplitl [Hr]; · iexists r'; iexact Hr
  isplitl [Hg]; · iexists g'; iexact Hg
  isplitl [Hm]; · iexact Hm
  isplitl [Hx]; · iexact Hx
  isplitl [Hs6]; · iexact Hs6
  isplitl [Hs7]; · iexact Hs7
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.SegKernelIdeal

end
-- ==== Proof.Bounds.lean ====
/-
  The main loop's bounds, from the words the two searches left.
-/
module

public import proofs.«01_k».proof.Proof.Search

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- How many of a row's lanes lie below `t`, as the kernel counts them. -/
def ltSum (t : BitVec 32) (ws : List (BitVec 32)) : BitVec 32 :=
  ws.foldl (fun a w => Scalar.addi a (Scalar.select (Scalar.cmpi .slt w t) 1#32 0#32)) 0#32

/-- The number of the first value whose segment is not below `t`, from the search's row and the probe of the row before it. -/
def lbW (t r : BitVec 32) (ws : List (BitVec 32)) : BitVec 32 :=
  Scalar.select (Scalar.cmpi .eq r 0#32) 0#32 (Scalar.addi (Scalar.muli 16#32 (Scalar.subi r 1#32)) (ltSum t ws))

theorem foldl_ltSum (t : BitVec 32) (ws : List (BitVec 32)) (a : BitVec 32) (h : a.toNat + ws.length < 2 ^ 32) :
    (ws.foldl (fun a w => Scalar.addi a (Scalar.select (Scalar.cmpi .slt w t) 1#32 0#32)) a).toNat = a.toNat + ws.countP (fun w => w.slt t) := by
  induction ws generalizing a with
  | nil => rfl
  | cons w ws ih =>
    rw [List.length_cons] at h
    rw [List.foldl_cons, List.countP_cons]
    have e : (Scalar.addi a (Scalar.select (Scalar.cmpi .slt w t) 1#32 0#32)).toNat = a.toNat + if w.slt t = true then 1 else 0 := by
      show (a + (if BitVec.ofBool (w.slt t) = 1 then 1#32 else 0#32)).toNat = _
      cases w.slt t
      · rw [if_neg (by decide), if_neg (by decide), BitVec.toNat_add]
        show (a.toNat + 0) % 2 ^ 32 = _
        rw [Nat.mod_eq_of_lt (by omega)]
      · rw [if_pos (by decide), if_pos rfl, BitVec.toNat_add]
        show (a.toNat + 1) % 2 ^ 32 = _
        rw [Nat.mod_eq_of_lt (by omega)]
    rw [ih _ (by rw [e]; split_ifs <;> omega), e]
    omega

theorem ltSum_toNat (t : BitVec 32) (ws : List (BitVec 32)) (h : ws.length = 16) : (ltSum t ws).toNat = ws.countP (fun w => w.slt t) := by
  rw [ltSum, foldl_ltSum t ws 0#32 (by rw [h]; decide)]; show 0 + _ = _; omega

theorem lbW_toNat (t r : BitVec 32) (ws : List (BitVec 32)) (hr : r.toNat ≤ 20000) (h : ws.length = 16) :
    (lbW t r ws).toNat = if r.toNat = 0 then 0 else 16 * (r.toNat - 1) + ws.countP (fun w => w.slt t) := by
  have hc : ws.countP (fun w => w.slt t) ≤ 16 := h ▸ List.countP_le_length
  have hs := ltSum_toNat t ws h
  unfold lbW
  show (if BitVec.ofBool (r == 0#32) = 1 then 0#32 else 16#32 * (r - 1#32) + ltSum t ws).toNat = _
  by_cases h0 : r.toNat = 0
  · have : r = 0#32 := BitVec.eq_of_toNat_eq h0
    subst this; rfl
  · have hn : (r == 0#32) = false := by
      rw [beq_eq_false_iff_ne]; rintro rfl; exact h0 rfl
    rw [hn, if_neg (by decide), if_neg h0, BitVec.toNat_add, BitVec.toNat_mul, BitVec.toNat_sub, hs]
    show (16 * ((2 ^ 32 - 1 + r.toNat) % 2 ^ 32) % 2 ^ 32 + _) % 2 ^ 32 = _
    rw [show (2 ^ 32 - 1 + r.toNat) % 2 ^ 32 = r.toNat - 1 by omega]
    omega

theorem lbW_le (t r : BitVec 32) (ws : List (BitVec 32)) (hr : r.toNat ≤ 20000) (h : ws.length = 16) : (lbW t r ws).toNat ≤ 320000 := by
  have hc : ws.countP (fun w => w.slt t) ≤ 16 := h ▸ List.countP_le_length
  rw [lbW_toNat t r ws hr h]; split_ifs <;> omega

/-- The first chunk, and the one past the last. -/
def kLoW (x : BitVec 32) : BitVec 32 := fdivW x 128#32
def kHiW (x : BitVec 32) : BitVec 32 := fdivW (Scalar.subi (Scalar.addi x 128#32) 1#32) 128#32

theorem kLoW_toNat {x : BitVec 32} (h : x.toNat ≤ 320000) : (kLoW x).toNat = x.toNat / 128 := fdivW_toNat (by omega) (.inr rfl)
theorem kHiW_toNat {x : BitVec 32} (h : x.toNat ≤ 320000) : (kHiW x).toNat = (x.toNat + 127) / 128 := by
  have e : (Scalar.subi (Scalar.addi x 128#32) 1#32).toNat = x.toNat + 127 := by
    show (x + 128#32 - 1#32).toNat = _
    rw [BitVec.toNat_sub, BitVec.toNat_add]
    show (2 ^ 32 - 1 + (x.toNat + 128) % 2 ^ 32) % 2 ^ 32 = _
    omega
  unfold kHiW
  rw [fdivW_toNat (by omega) (.inr rfl), e]; rfl

/-- The main loop's bounds. -/
def mainLoop (x y : BitVec 32) : Scf.Loop 32 :=
  ⟨kLoW x, Scalar.addi (kLoW x) (Scalar.muli (Scalar.divsi (Scalar.subi (kHiW y) (kLoW x)) 1#32) 1#32), 1#32⟩

theorem mainLoop_ub (x y : BitVec 32) : (mainLoop x y).ub = kHiW y := by
  show Scalar.addi _ (Scalar.muli (Scalar.divsi _ 1#32) 1#32) = _
  rw [Scalar.muli_divsi_one]
  show kLoW x + (kHiW y - kLoW x) = kHiW y
  rw [BitVec.add_comm, BitVec.sub_add_cancel]

theorem mainLoop_trips {x y : BitVec 32} (hx : x.toNat ≤ 320000) (hy : y.toNat ≤ 320000) :
    (mainLoop x y).trips = (y.toNat + 127) / 128 - x.toNat / 128 := by
  show Scf.trips (kLoW x) (mainLoop x y).ub 1#32 = _
  have e1 := kLoW_toNat hx
  have e2 := kHiW_toNat hy
  rw [mainLoop_ub]
  unfold Scf.trips
  rw [toInt_small (by omega : (kHiW y).toNat < 2 ^ 31), toInt_small (by omega : (kLoW x).toNat < 2 ^ 31), e1, e2, show (1#32 : BitVec 32).toInt = 1 by decide]
  omega

theorem mainLoop_ok {x y : BitVec 32} (hx : x.toNat ≤ 320000) (hy : y.toNat ≤ 320000) : (mainLoop x y).OK := by
  have e1 := kLoW_toNat hx
  have e2 := kHiW_toNat hy
  show Scf.OK (kLoW x) (mainLoop x y).ub 1#32
  rw [mainLoop_ub]
  have h1 := toInt_small (x := kLoW x) (by omega)
  have h2 := toInt_small (x := kHiW y) (by omega)
  exact Affine.ok (Affine.word _) (Affine.word _) (Affine.ofNat 1 ⟨rfl, by decide⟩) ⟨by decide, by omega⟩

theorem mainLoop_iv {x y : BitVec 32} (hx : x.toNat ≤ 320000) (hy : y.toNat ≤ 320000) (k : ℕ) (hk : k < (mainLoop x y).trips) :
    (Scalar.muli (Scf.iv (kLoW x) 1#32 k) 128#32).toNat = 128 * (x.toNat / 128 + k) := by
  rw [mainLoop_trips hx hy] at hk
  have e1 := kLoW_toNat hx
  have hi : (Scf.iv (kLoW x) 1#32 k).toNat = x.toNat / 128 + k := by
    unfold Scf.iv
    rw [BitVec.toNat_add, BitVec.toNat_mul, e1, BitVec.toNat_ofNat]
    show (x.toNat / 128 + k % 2 ^ 32 * 1 % 2 ^ 32) % 2 ^ 32 = _
    omega
  show (Scf.iv (kLoW x) 1#32 k * 128#32).toNat = _
  rw [BitVec.toNat_mul, hi]
  show (x.toNat / 128 + k) * 128 % 2 ^ 32 = _
  omega

variable (v8_0 v15 v20 v25 v30 v35 v40 v45 v50 v55 v60 v65 v70 v75 v80 v85 v90 v101_0 v108 v113 v118 v123 v128 v133 v138 v143 v148 v153 v158 v163 v168 v173 v178 v183 : BitVec 32)

/-- The two ends, of the words. -/
abbrev loW (L : grid0.Coords) : BitVec 32 := lbW (bw L) v8_0 [v15, v20, v25, v30, v35, v40, v45, v50, v55, v60, v65, v70, v75, v80, v85, v90]
abbrev hiW (L : grid0.Coords) : BitVec 32 := lbW (Scalar.addi (bw L) 128#32) v101_0 [v108, v113, v118, v123, v128, v133, v138, v143, v148, v153, v158, v163, v168, v173, v178, v183]

theorem t4_loop_eq (L : grid0.Coords) : k0_t4_loop L v8_0 v15 v20 v25 v30 v35 v40 v45 v50 v55 v60 v65 v70 v75 v80 v85 v90 v101_0 v108 v113 v118 v123 v128 v133 v138 v143 v148 v153 v158 v163 v168 v173 v178 v183 = mainLoop (loW v8_0 v15 v20 v25 v30 v35 v40 v45 v50 v55 v60 v65 v70 v75 v80 v85 v90 L) (hiW v101_0 v108 v113 v118 v123 v128 v133 v138 v143 v148 v153 v158 v163 v168 v173 v178 v183 L) := rfl
theorem t6_loop_eq (L : grid0.Coords) : k0_t6_loop L v8_0 v15 v20 v25 v30 v35 v40 v45 v50 v55 v60 v65 v70 v75 v80 v85 v90 v101_0 v108 v113 v118 v123 v128 v133 v138 v143 v148 v153 v158 v163 v168 v173 v178 v183 = ⟨Scalar.addi (kLoW (loW v8_0 v15 v20 v25 v30 v35 v40 v45 v50 v55 v60 v65 v70 v75 v80 v85 v90 L)) (Scalar.muli (Scalar.divsi (Scalar.subi (kHiW (hiW v101_0 v108 v113 v118 v123 v128 v133 v138 v143 v148 v153 v158 v163 v168 v173 v178 v183 L)) (kLoW (loW v8_0 v15 v20 v25 v30 v35 v40 v45 v50 v55 v60 v65 v70 v75 v80 v85 v90 L))) 1#32) 1#32),
    Scalar.addi (kLoW (loW v8_0 v15 v20 v25 v30 v35 v40 v45 v50 v55 v60 v65 v70 v75 v80 v85 v90 L)) (Scalar.subi (kHiW (hiW v101_0 v108 v113 v118 v123 v128 v133 v138 v143 v148 v153 v158 v163 v168 v173 v178 v183 L)) (kLoW (loW v8_0 v15 v20 v25 v30 v35 v40 v45 v50 v55 v60 v65 v70 v75 v80 v85 v90 L))), 1#32⟩ := rfl

theorem off8_eq (L : grid0.Coords) (h1 : v8_0.toNat ≤ 20000) (h2 : v101_0.toNat ≤ 20000) (k : Fin (k0_t4_loop L v8_0 v15 v20 v25 v30 v35 v40 v45 v50 v55 v60 v65 v70 v75 v80 v85 v90 v101_0 v108 v113 v118 v123 v128 v133 v138 v143 v148 v153 v158 v163 v168 v173 v178 v183).trips) :
    k0_off8 L v8_0 v15 v20 v25 v30 v35 v40 v45 v50 v55 v60 v65 v70 v75 v80 v85 v90 v101_0 v108 v113 v118 v123 v128 v133 v138 v143 v148 v153 v158 v163 v168 v173 v178 v183 k = ![128 * ((loW v8_0 v15 v20 v25 v30 v35 v40 v45 v50 v55 v60 v65 v70 v75 v80 v85 v90 L).toNat / 128 + k.val), 0] := by
  have e := mainLoop_iv (x := loW v8_0 v15 v20 v25 v30 v35 v40 v45 v50 v55 v60 v65 v70 v75 v80 v85 v90 L) (y := hiW v101_0 v108 v113 v118 v123 v128 v133 v138 v143 v148 v153 v158 v163 v168 v173 v178 v183 L) (lbW_le _ _ _ h1 rfl) (lbW_le _ _ _ h2 rfl) k.val k.isLt
  exact congrArg (fun n : ℕ => (![n, 0] : Fin 2 → ℕ)) e
theorem off9_eq (L : grid0.Coords) (h1 : v8_0.toNat ≤ 20000) (h2 : v101_0.toNat ≤ 20000) (k : Fin (k0_t4_loop L v8_0 v15 v20 v25 v30 v35 v40 v45 v50 v55 v60 v65 v70 v75 v80 v85 v90 v101_0 v108 v113 v118 v123 v128 v133 v138 v143 v148 v153 v158 v163 v168 v173 v178 v183).trips) :
    k0_off9 L v8_0 v15 v20 v25 v30 v35 v40 v45 v50 v55 v60 v65 v70 v75 v80 v85 v90 v101_0 v108 v113 v118 v123 v128 v133 v138 v143 v148 v153 v158 v163 v168 v173 v178 v183 k = ![128 * ((loW v8_0 v15 v20 v25 v30 v35 v40 v45 v50 v55 v60 v65 v70 v75 v80 v85 v90 L).toNat / 128 + k.val)] := by
  have e := mainLoop_iv (x := loW v8_0 v15 v20 v25 v30 v35 v40 v45 v50 v55 v60 v65 v70 v75 v80 v85 v90 L) (y := hiW v101_0 v108 v113 v118 v123 v128 v133 v138 v143 v148 v153 v158 v163 v168 v173 v178 v183 L) (lbW_le _ _ _ h1 rfl) (lbW_le _ _ _ h2 rfl) k.val k.isLt
  exact congrArg (fun n : ℕ => (![n] : Fin 1 → ℕ)) e

theorem t4_trips (L : grid0.Coords) (h1 : v8_0.toNat ≤ 20000) (h2 : v101_0.toNat ≤ 20000) :
    (k0_t4_loop L v8_0 v15 v20 v25 v30 v35 v40 v45 v50 v55 v60 v65 v70 v75 v80 v85 v90 v101_0 v108 v113 v118 v123 v128 v133 v138 v143 v148 v153 v158 v163 v168 v173 v178 v183).trips = ((hiW v101_0 v108 v113 v118 v123 v128 v133 v138 v143 v148 v153 v158 v163 v168 v173 v178 v183 L).toNat + 127) / 128 - (loW v8_0 v15 v20 v25 v30 v35 v40 v45 v50 v55 v60 v65 v70 v75 v80 v85 v90 L).toNat / 128 := by
  rw [t4_loop_eq]; exact mainLoop_trips (lbW_le _ _ _ h1 rfl) (lbW_le _ _ _ h2 rfl)

theorem t4_chunk (L : grid0.Coords) (h1 : v8_0.toNat ≤ 20000) (h2 : v101_0.toNat ≤ 20000) (k : Fin (k0_t4_loop L v8_0 v15 v20 v25 v30 v35 v40 v45 v50 v55 v60 v65 v70 v75 v80 v85 v90 v101_0 v108 v113 v118 v123 v128 v133 v138 v143 v148 v153 v158 v163 v168 v173 v178 v183).trips) :
    (loW v8_0 v15 v20 v25 v30 v35 v40 v45 v50 v55 v60 v65 v70 v75 v80 v85 v90 L).toNat / 128 + k.val < 2500 := by
  have h := k.isLt
  have e := t4_trips v8_0 v15 v20 v25 v30 v35 v40 v45 v50 v55 v60 v65 v70 v75 v80 v85 v90 v101_0 v108 v113 v118 v123 v128 v133 v138 v143 v148 v153 v158 v163 v168 v173 v178 v183 L h1 h2
  have b := lbW_le (Scalar.addi (bw L) 128#32) v101_0 [v108, v113, v118, v123, v128, v133, v138, v143, v148, v153, v158, v163, v168, v173, v178, v183] h2 rfl
  have b' : (hiW v101_0 v108 v113 v118 v123 v128 v133 v138 v143 v148 v153 v158 v163 v168 v173 v178 v183 L).toNat ≤ 320000 := b
  omega

theorem t6_trips (L : grid0.Coords) : (k0_t6_loop L v8_0 v15 v20 v25 v30 v35 v40 v45 v50 v55 v60 v65 v70 v75 v80 v85 v90 v101_0 v108 v113 v118 v123 v128 v133 v138 v143 v148 v153 v158 v163 v168 v173 v178 v183).trips = 0 := by
  rw [t6_loop_eq]; exact Scf.rem_trips _ _

theorem chk5 (L : grid0.Coords) (h1 : v8_0.toNat ≤ 20000) (h2 : v101_0.toNat ≤ 20000) : k0_chk5 L v8_0 v15 v20 v25 v30 v35 v40 v45 v50 v55 v60 v65 v70 v75 v80 v85 v90 v101_0 v108 v113 v118 v123 v128 v133 v138 v143 v148 v153 v158 v163 v168 v173 v178 v183 := by
  unfold k0_chk5
  refine ⟨?_, ?_, ?_, ?_, ?_, ?_⟩
  · rw [t4_loop_eq]; exact mainLoop_ok (lbW_le _ _ _ h1 rfl) (lbW_le _ _ _ h2 rfl)
  · intro k a
    have h := t4_chunk v8_0 v15 v20 v25 v30 v35 v40 v45 v50 v55 v60 v65 v70 v75 v80 v85 v90 v101_0 v108 v113 v118 v123 v128 v133 v138 v143 v148 v153 v158 v163 v168 v173 v178 v183 L h1 h2 k
    rw [off8_eq v8_0 v15 v20 v25 v30 v35 v40 v45 v50 v55 v60 v65 v70 v75 v80 v85 v90 v101_0 v108 v113 v118 v123 v128 v133 v138 v143 v148 v153 v158 v163 v168 v173 v178 v183 L h1 h2 k]
    match a with
    | 0 => show 128 * _ + 128 ≤ 320000; omega
    | 1 => exact le_refl 128
  · intro k a
    have h := t4_chunk v8_0 v15 v20 v25 v30 v35 v40 v45 v50 v55 v60 v65 v70 v75 v80 v85 v90 v101_0 v108 v113 v118 v123 v128 v133 v138 v143 v148 v153 v158 v163 v168 v173 v178 v183 L h1 h2 k
    rw [off9_eq v8_0 v15 v20 v25 v30 v35 v40 v45 v50 v55 v60 v65 v70 v75 v80 v85 v90 v101_0 v108 v113 v118 v123 v128 v133 v138 v143 v148 v153 v158 v163 v168 v173 v178 v183 L h1 h2 k]
    match a with
    | 0 => show 128 * _ + 128 ≤ 320000; omega
  · rw [t6_loop_eq]; exact Scf.rem_ok _ _
  · intro k; exact (Nat.not_lt_zero _ (lt_of_lt_of_eq k.isLt (t6_trips v8_0 v15 v20 v25 v30 v35 v40 v45 v50 v55 v60 v65 v70 v75 v80 v85 v90 v101_0 v108 v113 v118 v123 v128 v133 v138 v143 v148 v153 v158 v163 v168 v173 v178 v183 L))).elim
  · intro k; exact (Nat.not_lt_zero _ (lt_of_lt_of_eq k.isLt (t6_trips v8_0 v15 v20 v25 v30 v35 v40 v45 v50 v55 v60 v65 v70 v75 v80 v85 v90 v101_0 v108 v113 v118 v123 v128 v133 v138 v143 v148 v153 v158 v163 v168 v173 v178 v183 L))).elim

/-- The row probed for its lanes, of the row the search left. -/
def prevW (r : BitVec 32) : BitVec 32 := Scalar.maxsi (Scalar.subi r 1#32) 0#32
theorem off5_eq (r : BitVec 32) : k0_off5 r = ![(prevW r).toNat, 0] := rfl
theorem off7_eq (r : BitVec 32) : k0_off7 r = ![(prevW r).toNat, 0] := rfl
theorem prevW_toNat {r : BitVec 32} (h : r.toNat ≤ 20000) : (prevW r).toNat = r.toNat - 1 := by
  unfold prevW
  by_cases h0 : r.toNat = 0
  · have : r = 0#32 := BitVec.eq_of_toNat_eq h0
    subst this; rfl
  have e : (Scalar.subi r 1#32).toNat = r.toNat - 1 := by
    show (r - 1#32).toNat = _
    rw [BitVec.toNat_sub]
    show (2 ^ 32 - 1 + r.toNat) % 2 ^ 32 = _
    omega
  show (if (0#32).slt (Scalar.subi r 1#32) then Scalar.subi r 1#32 else 0#32).toNat = _
  rw [slt_small (by decide) (by omega), e]
  split_ifs with hc
  · exact e
  · show 0 = _
    have : ¬ (0 < r.toNat - 1) := fun h => hc (decide_eq_true h)
    omega
theorem chk2 {r : BitVec 32} (h : r.toNat ≤ 20000) : k0_chk2 r := by
  intro a
  rw [off5_eq, prevW_toNat h]
  match a with
  | 0 => show r.toNat - 1 + 1 ≤ 20000; omega
  | 1 => exact le_refl 16

end Cert.Proof.SegKernelIdeal

end
-- ==== Proof.TileVals.lean ====
/-
  What a vector subcore leaves in its parts of the three results.
-/
module

public import proofs.«01_k».proof.Proof.T1
public import proofs.«01_k».proof.Proof.T2
public import proofs.«01_k».proof.Proof.T4
public import proofs.«01_k».proof.Proof.Bounds
public import Idealize.ShloMosaic.Lib.SparseCore.FromWhole
public import Idealize.ShloMosaic.Lib.ViewIndex

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- The sixteen lanes of a row of the segments laid out sixteen to a row. -/
def rowL (J : S20000x16.Idx → BitVec 32) (n : ℕ) : List (BitVec 32) :=
  [rowJ J n 0, rowJ J n 1, rowJ J n 2, rowJ J n 3, rowJ J n 4, rowJ J n 5, rowJ J n 6, rowJ J n 7,
   rowJ J n 8, rowJ J n 9, rowJ J n 10, rowJ J n 11, rowJ J n 12, rowJ J n 13, rowJ J n 14, rowJ J n 15]

/-- Where the search for `t` ends: a number of values. -/
def lbN (t : BitVec 32) (J : S20000x16.Idx → BitVec 32) : ℕ :=
  (lbW t (sIter t J 16).1 (rowL J (prevW (sIter t J 16).1).toNat)).toNat

/-- The subcore's first chunk and how many it scans. -/
def kLoN (L : grid0.Coords) (J : S20000x16.Idx → BitVec 32) : ℕ := lbN (bw L) J / 128
def kTrN (L : grid0.Coords) (J : S20000x16.Idx → BitVec 32) : ℕ := (lbN (Scalar.addi (bw L) 128#32) J + 127) / 128 - lbN (bw L) J / 128

/-- Nothing scanned: the two buffers at zero. -/
def Acc.init : Acc F := ⟨RowSt.init, fun _ => fz, fun _ => fz⟩

/-- What a subcore makes of the values. -/
def tileAcc (L : grid0.Coords) (I : S320000.Idx → BitVec 32) (J : S20000x16.Idx → BitVec 32) (X : S320000x128.Idx → F .f32) : Acc F :=
  (scan L I X (128 * kLoN L J) Acc.init (128 * kTrN L J)).last L

/-- The gathered root rows. -/
def rootRow (R : S4096.Idx → BitVec 32) (X : S320000x128.Idx → F .f32) (y : S4096x128.Idx) : F .f32 :=
  if h : (R (ix1 (y 0))).toNat < 320000 then X (ix2 ⟨_, h⟩ (y 1)) else fz

/-- The subcore's parts of the three results. -/
abbrev sMean (L : grid0.Coords) : Memref sig .scVector .hbm S16384 .f32 := (aMean).slice (Rect.unit (s := S524288) (k0_off33 L) S16384.size (k0_off33_inb L)) (fun _ => rfl)
abbrev sMax (L : grid0.Coords) : Memref sig .scVector .hbm S16384 .f32 := (aMax).slice (Rect.unit (s := S524288) (k0_off33 L) S16384.size (k0_off33_inb L)) (fun _ => rfl)
abbrev sRoot (L : grid0.Coords) : Memref sig .scVector .hbm S128x128 .f32 := (aRoot).slice (Rect.unit (s := S4096x128) (k0_off2 L) S128x128.size (k0_off2_inb L)) (fun _ => rfl)

theorem inb_of_roots (L : grid0.Coords) (R : S4096.Idx → BitVec 32) (hR : ∀ j, (R j).toNat < 320000)
    (fs : S128.Idx → BitVec 32) (pay : S128.Idx → Elt F .i32)
    (hpay : pay = (aRts).view.readAt (Elt F) (Rect.unit (s := S4096) (k0_off1 L) S128.size (k0_off1_inb L)).toLoadRect R) :
    ∀ x, ((bRix).view.read (Elt F) (View.write (Elt F) (bRix).view fs pay Finset.univ) x).toNat < S320000x128.size gathers_S320000x128_S128x128.axis := by
  subst hpay; intro x
  rw [View.write_whole_univ]
  exact hR _

/-- A part of an array written whole holds any contents that read there as what was written. -/
theorem outs_eq {sp : Space} {s : Shape} {e : EltTy} (v : View sig .scVector sp s e) (f g : v.ty.Contents (Elt F)) (w : s.Idx → Elt F e)
    (h : ∀ x, v.read (Elt F) g x = w x) : ∀ i ∈ v.set, v.writes (Elt F) f [⟨Rect.whole s, w⟩] i = g i := by
  intro i hi
  obtain ⟨x, -, rfl⟩ := Finset.mem_map.mp hi
  apply View.eq_of_read_eq
  rw [h x]
  exact View.read_writes_cons_hit v f (Rect.whole s) w [] x x (Rect.emb_eq_of_coords _ _ _ fun a => by show _ = 0 + 1 * (x a).val; omega)

/-- The rows that a subcore gathers are the rows its indices name. -/
theorem root_val (L : grid0.Coords) (R : S4096.Idx → BitVec 32) (X : S320000x128.Idx → F .f32) (hR : ∀ j, (R j).toNat < 320000)
    (r4 : S128.Idx → BitVec 32) (pay : S128.Idx → Elt F .i32)
    (hpay : pay = (aRts).view.readAt (Elt F) (Rect.unit (s := S4096) (k0_off1 L) S128.size (k0_off1_inb L)).toLoadRect R)
    (hn : S128.numel = S128x128.size gathers_S320000x128_S128x128.axis')
    (h : ∀ x, ((bRix).view.read (Elt F) (View.write (Elt F) (bRix).view r4 pay Finset.univ) x).toNat < S320000x128.size gathers_S320000x128_S128x128.axis)
    (inb : ∀ a, (![0, 0] : Fin 2 → ℕ) a + S320000x128.size a ≤ S320000x128.size a) (x : S128x128.Idx) :
    (sRoot L).view.read (Elt F) (rootRow R X) x
      = SparseCore.gatherPayload (F := F) (e := .f32) gathers_S320000x128_S128x128 (View.read (Elt F)
          ((aVal).slice (Rect.unit (s := S320000x128) ![0, 0] S320000x128.size inb) (fun _ => rfl)).view X)
          (SparseCore.rows (F := F) (si := S128) ((bRix).view.read (Elt F) (View.write (Elt F) (bRix).view r4 pay Finset.univ)) hn h) x := by
  subst hpay
  revert h
  rw [View.write_whole_univ]
  intro h
  have hx0 : ((sRoot L).view.emb x 0).val = 256 * (L 1).val + 128 * (L 0).val + (x 0).val := by
    show k0_off2 L 0 + 1 * (x 0).val = _
    rw [k0_off2_eq]; show _ + 1 * (x 0).val = _; rw [Nat.one_mul]; rfl
  have hx1 : ((sRoot L).view.emb x 1).val = (x 1).val := by
    show k0_off2 L 1 + 1 * (x 1).val = _
    rw [k0_off2_eq]; show 0 + 1 * (x 1).val = _; omega
  show rootRow R X ((sRoot L).view.emb x) = _
  unfold rootRow
  rw [dif_pos (hR _)]
  have hrow : S128.rowMajor.symm ((x 0).cast hn.symm) = (ix1 (show Fin 128 from x 0) : S128.Idx) :=
    (Equiv.symm_apply_eq S128.rowMajor).mpr (Fin.ext (Shape.rowMajor_val_one (d := ![128]) (ix1 (show Fin 128 from x 0))).symm)
  refine congrArg X (funext fun a => ?_)
  match a with
  | ⟨0, _⟩ =>
    refine Fin.ext ?_
    show _ = 0 + 1 * (R ((Rect.unit (s := S4096) (k0_off1 L) S128.size (k0_off1_inb L)).emb (S128.rowMajor.symm ((x 0).cast hn.symm)))).toNat
    rw [hrow, Nat.zero_add, Nat.one_mul]
    refine congrArg (fun j => (R j).toNat) (funext fun b => ?_)
    match b with
    | ⟨0, _⟩ =>
      refine Fin.ext (hx0.trans ?_)
      show _ = k0_off1 L 0 + 1 * (x 0).val
      rw [k0_off1_eq]; show _ = _ + 1 * (x 0).val; rw [Nat.one_mul]; rfl
  | ⟨1, _⟩ =>
    refine Fin.ext (hx1.trans ?_)
    show (x 1).val = 0 + 1 * (x 1).val
    omega

end Cert.Proof.SegKernelIdeal

end
-- ==== Proof.Tile.lean ====
/-
  The whole body on one vector subcore.
-/
module

public import proofs.«01_k».proof.Proof.T1
public import proofs.«01_k».proof.Proof.T2
public import proofs.«01_k».proof.Proof.T4
public import proofs.«01_k».proof.Proof.Bounds
public import proofs.«01_k».proof.Proof.TileVals
public import Idealize.ShloMosaic.Lib.SparseCore.FromWhole
public import Idealize.ShloMosaic.Lib.ViewIndex

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- The zeroing loop's invariant. -/
def inv1 (d : Dev nD) (L : grid0.Coords) (n : ℕ) (_ : PUnit) : sProp 𝕄 :=
  iprop(∃ (fm : Buf (Elt F) ((V d (cV L) (jV L)).loc cc0_scratch2)) (fx : Buf (Elt F) ((V d (cV L) (jV L)).loc cc0_scratch3)), ⌜ZeroTo (F := F) (128 * n) fm⌝ ∗ ⌜ZeroTo (F := F) (128 * n) fx⌝
    ∗ ((bMean).view.loc (V d (cV L) (jV L)) ↦{fullShare} fm) ∗ ((bMax).view.loc (V d (cV L) (jV L)) ↦{fullShare} fx))

theorem zero_all (f : S16384.Idx → F .f32) (h : ZeroTo (128 * k0_t1_loop.trips) f) : f = fun _ => fz :=
  funext fun y => h y (lt_of_lt_of_eq (y 0).isLt (by decide))

theorem t1_cont (d : Dev nD) (L : grid0.Coords) (k : Fin k0_t1_loop.trips) (u : PUnit)
    (fm : Buf (Elt F) ((V d (cV L) (jV L)).loc cc0_scratch2)) (fx : Buf (Elt F) ((V d (cV L) (jV L)).loc cc0_scratch3)) (hm : ZeroTo (F := F) (128 * k.val) fm) (hx : ZeroTo (F := F) (128 * k.val) fx) :
    iprop(((bMean).view.loc (V d (cV L) (jV L)) ↦{fullShare} fm) ∗ ((bMax).view.loc (V d (cV L) (jV L)) ↦{fullShare} fx))
      ⊢ (wp frame (wpE (defs₀ (F := F)) 𝒱₀ (V d (cV L) (jV L)) none) Set.univ (t1At (F := F) L k u) fun u => inv1 d L (k.val + 1) u : sProp 𝕄) :=
  (t1_step (F := F) d L k u fm fx).trans (wp_mono frame _ _ fun _ => by
    unfold inv1
    iintro ⟨Hm, Hx⟩
    iexists _; iexists _
    isplitl []; · ipureintro; exact zeroTo_put8 hm
    isplitl []; · ipureintro; exact zeroTo_put8 hx
    isplitl [Hm] <;> iassumption)

/-- A search's invariant. -/
def inv2 (d : Dev nD) (L : grid0.Coords) (t : BitVec 32) (q : PosShare TreeShare) (O : CellTallies nD τ sig (HIx 1)) (W : Waits sig (HIx 1))
    (J : Buf (Elt F) ((V d (cV L) (jV L)).loc main_v0_scv)) (sm : DmaSems sig S_) (n : ℕ) (p : BitVec 32 × BitVec 32) : sProp 𝕄 :=
  iprop(⌜p = sIter t J n⌝ ∗ Transfers.MayWaits (V d (cV L) (jV L)) (none : HIx 1) O
       ∗ ((aId2).view.loc (V d (cV L) (jV L)) ↦{q} J) ∗ (∃ r, (bPrb).view.loc (V d (cV L) (jV L)) ↦{fullShare} r) ∗ semVal ((V d (cV L) (jV L)), SemLoc.dma sm.sem) 0
       ∗ ∃ W', ⌜∀ p ∈ W', p ∈ W ∨ p.2 = none⌝ ∗ owes (V d (cV L) (jV L)) O W')

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp; · exact .inr (hp ▸ rfl)
  exact h p hp

/-- A lane of the probe's buffer after the row has been copied into it, as the row's word. -/
theorem probe_word (J : S20000x16.Idx → BitVec 32) {n : ℕ} {off : Fin S20000x16.rank → ℕ} (ho : off = ![n, 0])
    (inb : ∀ a, off a + S1x16.size a ≤ S20000x16.size a) (r : S1x16.Idx → BitVec 32) (j : Fin 16) {off' : Fin S16.rank → ℕ} (ho' : off' = ![j.val]) (h : S16.Slices off' S1) :
    extractAt ![0] (extractStridedSlice S1 off' (shapeCast S16 ((bPrb).view.readAt (Elt F)
      (Rect.unit (s := S1x16) ![0, 0] S1x16.size inb_S1x16_S1x16_0_0).toLoadRect ((bPrb).view.write (Elt F) r
        ((aId2).view.readAt (Elt F) (Rect.unit (s := S20000x16) off S1x16.size inb).toLoadRect J) Finset.univ)) shapeCasts_S1x16_S16) h) inpos_S1_p0
      = rowJ J n j :=
  (probe_write_lane (F := F) r _ j ho' h).trans (probe_read (F := F) J ho inb j)

/-- The scanning loop's invariant. -/
def inv4 (d : Dev nD) (L : grid0.Coords) (q : PosShare TreeShare) (O : CellTallies nD τ sig (HIx 1)) (W : Waits sig (HIx 1))
    (I : Buf (Elt F) ((V d (cV L) (jV L)).loc main_arg1_scv)) (X : Buf (Elt F) ((V d (cV L) (jV L)).loc main_arg0_scv)) (S : ℕ → Acc F) (n : ℕ) (acc : BitVec 32 × F .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = (S n).s.tup⌝ ∗ Transfers.MayWaits (V d (cV L) (jV L)) (none : HIx 1) O
       ∗ ((aVal).view.loc (V d (cV L) (jV L)) ↦{q} X) ∗ ((aIds).view.loc (V d (cV L) (jV L)) ↦{q} I)
       ∗ (∃ r, (bRow).view.loc (V d (cV L) (jV L)) ↦{fullShare} r) ∗ (∃ g, (bIds).view.loc (V d (cV L) (jV L)) ↦{fullShare} g)
       ∗ ((bMean).view.loc (V d (cV L) (jV L)) ↦{fullShare} (S n).m) ∗ ((bMax).view.loc (V d (cV L) (jV L)) ↦{fullShare} (S n).x)
       ∗ semVal ((V d (cV L) (jV L)), SemLoc.dma cc0_scoped6.sem) 0 ∗ semVal ((V d (cV L) (jV L)), SemLoc.dma cc0_scoped7.sem) 0
       ∗ ∃ W', ⌜∀ p ∈ W', p ∈ W ∨ p.2 = none⌝ ∗ owes (V d (cV L) (jV L)) O W')

theorem inv4_open (d : Dev nD) (L : grid0.Coords) (q : PosShare TreeShare) (O : CellTallies nD τ sig (HIx 1)) (W : Waits sig (HIx 1))
    (I : Buf (Elt F) ((V d (cV L) (jV L)).loc main_arg1_scv)) (X : Buf (Elt F) ((V d (cV L) (jV L)).loc main_arg0_scv)) (S : ℕ → Acc F) (n m : ℕ) (h : n = m) (acc : BitVec 32 × F .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) :
    (inv4 d L q O W I X S n acc : sProp 𝕄) ⊢ iprop(∃ a : Acc F, ⌜a = S m⌝ ∗ ⌜acc = a.s.tup⌝ ∗ ((aVal).view.loc (V d (cV L) (jV L)) ↦{q} X) ∗ ((aIds).view.loc (V d (cV L) (jV L)) ↦{q} I)
       ∗ (∃ r, (bRow).view.loc (V d (cV L) (jV L)) ↦{fullShare} r) ∗ (∃ g, (bIds).view.loc (V d (cV L) (jV L)) ↦{fullShare} g)
       ∗ ((bMean).view.loc (V d (cV L) (jV L)) ↦{fullShare} a.m) ∗ ((bMax).view.loc (V d (cV L) (jV L)) ↦{fullShare} a.x)
       ∗ semVal ((V d (cV L) (jV L)), SemLoc.dma cc0_scoped6.sem) 0 ∗ semVal ((V d (cV L) (jV L)), SemLoc.dma cc0_scoped7.sem) 0
       ∗ ∃ W', ⌜∀ p ∈ W', p ∈ W ∨ p.2 = none⌝ ∗ owes (V d (cV L) (jV L)) O W') := by
  subst h; unfold inv4
  iintro ⟨%hacc, -, H⟩
  iexists _
  isplitl []; · ipureintro; rfl
  isplitl []; · ipureintro; exact hacc
  iexact H

set_option maxHeartbeats 4000000 in
theorem tile_core (d : Dev nD) (L : grid0.Coords) (q : PosShare TreeShare) (O : CellTallies nD τ sig (HIx 1)) (W : Waits sig (HIx 1))
    (X : Buf (Elt F) ((V d (cV L) (jV L)).loc main_arg0_scv)) (I : Buf (Elt F) ((V d (cV L) (jV L)).loc main_arg1_scv)) (J : Buf (Elt F) ((V d (cV L) (jV L)).loc main_v0_scv)) (R : Buf (Elt F) ((V d (cV L) (jV L)).loc main_arg2_scv))
    (hR : ∀ j, (R j).toNat < 320000)
    (gM : Buf (Elt F) ((V d (cV L) (jV L)).loc main_v1_0_scv)) (gX : Buf (Elt F) ((V d (cV L) (jV L)).loc main_v1_1_scv))
    (hgM : ∀ x, (sMean L).view.read (Elt F) gM x = (tileAcc L I J X).m x) (hgX : ∀ x, (sMax L).view.read (Elt F) gX x = (tileAcc L I J X).x x)
    (f1 : Buf (Elt F) ((V d (cV L) (jV L)).loc main_v1_0_scv)) (f2 : Buf (Elt F) ((V d (cV L) (jV L)).loc main_v1_1_scv)) (f3 : Buf (Elt F) ((V d (cV L) (jV L)).loc main_v1_2_scv)) :
    iprop(Transfers.MayWaits (V d (cV L) (jV L)) (none : HIx 1) O ∗ ((aVal).view.loc (V d (cV L) (jV L)) ↦{q} X) ∗ ((aIds).view.loc (V d (cV L) (jV L)) ↦{q} I)
       ∗ ((aId2).view.loc (V d (cV L) (jV L)) ↦{q} J) ∗ ((aRts).view.loc (V d (cV L) (jV L)) ↦{q} R)
       ∗ ((sMean L).view.loc (V d (cV L) (jV L)) ↦[(sMean L).view.set]{fullShare} f1) ∗ ((sMax L).view.loc (V d (cV L) (jV L)) ↦[(sMax L).view.set]{fullShare} f2)
       ∗ ((sRoot L).view.loc (V d (cV L) (jV L)) ↦[(sRoot L).view.set]{fullShare} f3)
       ∗ (∃ r, (bRow).view.loc (V d (cV L) (jV L)) ↦{fullShare} r) ∗ (∃ r, (bPrb).view.loc (V d (cV L) (jV L)) ↦{fullShare} r) ∗ (∃ r, (bMean).view.loc (V d (cV L) (jV L)) ↦{fullShare} r) ∗ (∃ r, (bMax).view.loc (V d (cV L) (jV L)) ↦{fullShare} r) ∗ (∃ r, (bRix).view.loc (V d (cV L) (jV L)) ↦{fullShare} r) ∗ (∃ r, (bRrow).view.loc (V d (cV L) (jV L)) ↦{fullShare} r) ∗ (∃ r, (bIds).view.loc (V d (cV L) (jV L)) ↦{fullShare} r)
       ∗ semVal ((V d (cV L) (jV L)), SemLoc.dma cc0_scratch7.sem) 0
       ∗ semVal ((V d (cV L) (jV L)), SemLoc.dma cc0_scoped0.sem) 0
       ∗ semVal ((V d (cV L) (jV L)), SemLoc.dma cc0_scoped1.sem) 0
       ∗ semVal ((V d (cV L) (jV L)), SemLoc.dma cc0_scoped2.sem) 0
       ∗ semVal ((V d (cV L) (jV L)), SemLoc.dma cc0_scoped3.sem) 0
       ∗ semVal ((V d (cV L) (jV L)), SemLoc.dma cc0_scoped4.sem) 0
       ∗ semVal ((V d (cV L) (jV L)), SemLoc.dma cc0_scoped5.sem) 0
       ∗ semVal ((V d (cV L) (jV L)), SemLoc.dma cc0_scoped6.sem) 0
       ∗ semVal ((V d (cV L) (jV L)), SemLoc.dma cc0_scoped7.sem) 0
       ∗ semVal ((V d (cV L) (jV L)), SemLoc.dma cc0_scoped10.sem) 0
       ∗ semVal ((V d (cV L) (jV L)), SemLoc.dma cc0_scoped11.sem) 0
       ∗ ∃ W', ⌜∀ p ∈ W', p ∈ W ∨ p.2 = none⌝ ∗ owes (V d (cV L) (jV L)) O W')
      ⊢ (wp frame (wpE (defs₀ (F := F)) 𝒱₀ (V d (cV L) (jV L)) none) Set.univ (bodyAt (F := F) L)
          fun _ => iprop(((aVal).view.loc (V d (cV L) (jV L)) ↦{q} X) ∗ ((aIds).view.loc (V d (cV L) (jV L)) ↦{q} I)
       ∗ ((aId2).view.loc (V d (cV L) (jV L)) ↦{q} J) ∗ ((aRts).view.loc (V d (cV L) (jV L)) ↦{q} R)
       ∗ ((sMean L).view.loc (V d (cV L) (jV L)) ↦[(sMean L).view.set]{fullShare} gM) ∗ ((sMax L).view.loc (V d (cV L) (jV L)) ↦[(sMax L).view.set]{fullShare} gX)
       ∗ ((sRoot L).view.loc (V d (cV L) (jV L)) ↦[(sRoot L).view.set]{fullShare} rootRow R X)
       ∗ (∃ r, (bRow).view.loc (V d (cV L) (jV L)) ↦{fullShare} r) ∗ (∃ r, (bPrb).view.loc (V d (cV L) (jV L)) ↦{fullShare} r) ∗ (∃ r, (bMean).view.loc (V d (cV L) (jV L)) ↦{fullShare} r) ∗ (∃ r, (bMax).view.loc (V d (cV L) (jV L)) ↦{fullShare} r) ∗ (∃ r, (bRix).view.loc (V d (cV L) (jV L)) ↦{fullShare} r) ∗ (∃ r, (bRrow).view.loc (V d (cV L) (jV L)) ↦{fullShare} r) ∗ (∃ r, (bIds).view.loc (V d (cV L) (jV L)) ↦{fullShare} r)
       ∗ semVal ((V d (cV L) (jV L)), SemLoc.dma cc0_scratch7.sem) 0
       ∗ semVal ((V d (cV L) (jV L)), SemLoc.dma cc0_scoped0.sem) 0
       ∗ semVal ((V d (cV L) (jV L)), SemLoc.dma cc0_scoped1.sem) 0
       ∗ semVal ((V d (cV L) (jV L)), SemLoc.dma cc0_scoped2.sem) 0
       ∗ semVal ((V d (cV L) (jV L)), SemLoc.dma cc0_scoped3.sem) 0
       ∗ semVal ((V d (cV L) (jV L)), SemLoc.dma cc0_scoped4.sem) 0
       ∗ semVal ((V d (cV L) (jV L)), SemLoc.dma cc0_scoped5.sem) 0
       ∗ semVal ((V d (cV L) (jV L)), SemLoc.dma cc0_scoped6.sem) 0
       ∗ semVal ((V d (cV L) (jV L)), SemLoc.dma cc0_scoped7.sem) 0
       ∗ semVal ((V d (cV L) (jV L)), SemLoc.dma cc0_scoped10.sem) 0
       ∗ semVal ((V d (cV L) (jV L)), SemLoc.dma cc0_scoped11.sem) 0
       ∗ ∃ W', ⌜∀ p ∈ W', p ∈ W ∨ p.2 = none⌝ ∗ owes (V d (cV L) (jV L)) O W')
         : sProp 𝕄) := by
  unfold bodyAt
  rw [cc0__sc_body_eq_skeleton]; unfold cc0__sc_body_skel
  iintro ⟨#Hmw, HX, HI, HJ, HR, Hsm, Hsx, Hsr, ⟨%r0, Hrow⟩, ⟨%r1, Hprb⟩, ⟨%r2, Hm⟩, ⟨%r3, Hx⟩, ⟨%r4, Hrix⟩, ⟨%r5, Hrr⟩, ⟨%r6, Hg⟩, HsA, Hs0, Hs1, Hs2, Hs3, Hs4, Hs5, Hs6, Hs7, Hs10, Hs11, %W', %hW', HO⟩
  sl_exec (disch := exact View.amount_pos _ _ (show 0 < 128 by decide))
  have hN : ∀ h : S320000x128.Gathers 0 S128x128, ∑ j, ((bRrow).slice (S128x128.rowRect h.axis' j) (S128x128.stride_rowRect h.axis' j)).view.dmaCredit
      = (bRrow).view.dmaCredit := by decide
  iapply (SparseCore.wp_gatherFromWhole countersEmb 𝒱₀ (V d (cV L) (jV L)) none (hg := gathers_S320000x128_S128x128) (default : HIx 1)
      (bRrow).view.dmaCredit (hN _) (by decide) (inb_of_roots (F := F) L R hR r4 _ rfl)) $$ [HX Hrr Hrix HsA]
  · isplitl [HX]; · iexact HX
    isplitl [Hrr]; · iexact Hrr
    isplitl [Hrix]; · iexact Hrix
    iexact HsA
  iintro Hfl
  sl_exec
  iapply (Transfers.wp_waitLocalO countersEmb 𝒱₀ (V d (cV L) (jV L)) none (default : HIx 1) (rfl : (bRrow).view.dmaCredit = _)) $$ [Hfl HO]
  · isplitl [Hfl]; · iexact Hfl
    isplitl [HO]; · iexact HO
    iapply (Transfers.MayWaits.elim (SemLoc.dma cc0_scratch7.sem)) $$ Hmw
  iintro ⟨⟨Hrr, HX, Hrix⟩, HsA, HO⟩
  sl_exec (disch := exact View.amount_pos _ _ (show 0 < 128 by decide))
  sl_for (inv1 d L) $$ [Hm Hx]
  case region =>
    intro k u
    unfold inv1
    iintro ⟨%fm, %fx, %hm, %hx, Hm, Hx⟩
    iapply (t1_cont (F := F) d L k u fm fx hm hx) $$ [Hm Hx]
    isplitl [Hm] <;> iassumption
  · unfold inv1
    iexists r2; iexists r3
    isplitl []; · ipureintro; exact fun y h => absurd h (by simp)
    isplitl []; · ipureintro; exact fun y h => absurd h (by simp)
    isplitl [Hm]; · iexact Hm
    iexact Hx
  iintro %u1 HI1
  unfold inv1
  icases HI1 with ⟨%fm, %fx, %hfm, %hfx, Hm, Hx⟩
  have hfm' : fm = fun _ => fz := zero_all fm hfm
  have hfx' : fx = fun _ => fz := zero_all fx hfx
  subst hfm' hfx'
  sl_exec
  sl_for (inv2 d L (bw L) q O W J cc0_scoped2) $$ [HJ Hprb Hs2 HO]
  case region =>
    intro k p
    unfold inv2
    iintro ⟨%hp, H⟩
    subst hp
    iapply (t2_step (F := F) d L (bw L) k (sIter (bw L) J k.val) (sIter_bnd _ _ _) q O W J)
    iexact H
  · unfold inv2
    isplitl []; · ipureintro; rfl
    isplitl []; · iexact Hmw
    isplitl [HJ]; · iexact HJ
    isplitl [Hprb]; · iexists _; iexact Hprb
    isplitl [Hs2]; · iexact Hs2
    iexists _; isplitr
    swap; · iexact HO
    ipureintro
    exact waits_insert (waits_insert (waits_insert hW'))
  iintro %p2 HI2
  unfold inv2
  icases HI2 with ⟨%hp2, -, HJ, ⟨%r1', Hprb⟩, Hs2, %W2, %hW2, HO⟩
  obtain ⟨lo2, hi2⟩ := p2
  have hp2' : (lo2, hi2) = sIter (bw L) J 16 := hp2
  have hb2 : lo2.toNat ≤ 20000 := by
    have h := (sIter_bnd (bw L) J 16).1
    rw [← hp2'] at h; exact h
  have hc2 : k0_chk2 lo2 := chk2 hb2
  sl_exec (disch := exact View.amount_pos _ _ (show 0 < 16 by decide))
  sl_for (inv2 d L (Scalar.addi (bw L) 128#32) q O W J cc0_scoped4) $$ [HJ Hprb Hs4 HO]
  case region =>
    intro k p
    unfold inv2
    iintro ⟨%hp, H⟩
    subst hp
    iapply (t3_step (F := F) d L 0#32 0#32 0#32 0#32 (Scalar.addi (bw L) 128#32) k (sIter (Scalar.addi (bw L) 128#32) J k.val) (sIter_bnd _ _ _) q O W J)
    iexact H
  · unfold inv2
    isplitl []; · ipureintro; rfl
    isplitl []; · iexact Hmw
    isplitl [HJ]; · iexact HJ
    isplitl [Hprb]; · iexists _; iexact Hprb
    isplitl [Hs4]; · iexact Hs4
    iexists _; isplitr
    swap; · iexact HO
    ipureintro
    exact waits_insert hW2
  iintro %p3 HI3
  unfold inv2
  icases HI3 with ⟨%hp3, -, HJ, ⟨%r1'', Hprb⟩, Hs4, %W3, %hW3, HO⟩
  obtain ⟨lo3, hi3⟩ := p3
  have hp3' : (lo3, hi3) = sIter (Scalar.addi (bw L) 128#32) J 16 := hp3
  have hb3 : lo3.toNat ≤ 20000 := by
    have h := (sIter_bnd (Scalar.addi (bw L) 128#32) J 16).1
    rw [← hp3'] at h; exact h
  have hc3 : k0_chk4 lo3 := chk2 hb3
  sl_exec (disch := first | exact View.amount_pos _ _ (show 0 < 16 by decide) | exact chk5 _ _ _ _ _ _ _ _ _ _ _ _ _ _ _ _ _ _ _ _ _ _ _ _ _ _ _ _ _ _ _ _ _ _ L hb2 hb3)
  have ev15 : tile_core.sl.v15 d L J r1' lo2 hc2 = rowJ J (prevW lo2).toNat 0 := probe_word (F := F) J (off5_eq lo2) (k0_off5_inb lo2 hc2) r1' 0 rfl slices_S16_o0_S1
  have ev20 : tile_core.sl.v20 d L J r1' lo2 hc2 = rowJ J (prevW lo2).toNat 1 := probe_word (F := F) J (off5_eq lo2) (k0_off5_inb lo2 hc2) r1' 1 rfl slices_S16_o1_S1
  have ev25 : tile_core.sl.v25 d L J r1' lo2 hc2 = rowJ J (prevW lo2).toNat 2 := probe_word (F := F) J (off5_eq lo2) (k0_off5_inb lo2 hc2) r1' 2 rfl slices_S16_o2_S1
  have ev30 : tile_core.sl.v30 d L J r1' lo2 hc2 = rowJ J (prevW lo2).toNat 3 := probe_word (F := F) J (off5_eq lo2) (k0_off5_inb lo2 hc2) r1' 3 rfl slices_S16_o3_S1
  have ev35 : tile_core.sl.v35 d L J r1' lo2 hc2 = rowJ J (prevW lo2).toNat 4 := probe_word (F := F) J (off5_eq lo2) (k0_off5_inb lo2 hc2) r1' 4 rfl slices_S16_o4_S1
  have ev40 : tile_core.sl.v40 d L J r1' lo2 hc2 = rowJ J (prevW lo2).toNat 5 := probe_word (F := F) J (off5_eq lo2) (k0_off5_inb lo2 hc2) r1' 5 rfl slices_S16_o5_S1
  have ev45 : tile_core.sl.v45 d L J r1' lo2 hc2 = rowJ J (prevW lo2).toNat 6 := probe_word (F := F) J (off5_eq lo2) (k0_off5_inb lo2 hc2) r1' 6 rfl slices_S16_o6_S1
  have ev50 : tile_core.sl.v50 d L J r1' lo2 hc2 = rowJ J (prevW lo2).toNat 7 := probe_word (F := F) J (off5_eq lo2) (k0_off5_inb lo2 hc2) r1' 7 rfl slices_S16_o7_S1
  have ev55 : tile_core.sl.v55 d L J r1' lo2 hc2 = rowJ J (prevW lo2).toNat 8 := probe_word (F := F) J (off5_eq lo2) (k0_off5_inb lo2 hc2) r1' 8 rfl slices_S16_o8_S1
  have ev60 : tile_core.sl.v60 d L J r1' lo2 hc2 = rowJ J (prevW lo2).toNat 9 := probe_word (F := F) J (off5_eq lo2) (k0_off5_inb lo2 hc2) r1' 9 rfl slices_S16_o9_S1
  have ev65 : tile_core.sl.v65 d L J r1' lo2 hc2 = rowJ J (prevW lo2).toNat 10 := probe_word (F := F) J (off5_eq lo2) (k0_off5_inb lo2 hc2) r1' 10 rfl slices_S16_o10_S1
  have ev70 : tile_core.sl.v70 d L J r1' lo2 hc2 = rowJ J (prevW lo2).toNat 11 := probe_word (F := F) J (off5_eq lo2) (k0_off5_inb lo2 hc2) r1' 11 rfl slices_S16_o11_S1
  have ev75 : tile_core.sl.v75 d L J r1' lo2 hc2 = rowJ J (prevW lo2).toNat 12 := probe_word (F := F) J (off5_eq lo2) (k0_off5_inb lo2 hc2) r1' 12 rfl slices_S16_o12_S1
  have ev80 : tile_core.sl.v80 d L J r1' lo2 hc2 = rowJ J (prevW lo2).toNat 13 := probe_word (F := F) J (off5_eq lo2) (k0_off5_inb lo2 hc2) r1' 13 rfl slices_S16_o13_S1
  have ev85 : tile_core.sl.v85 d L J r1' lo2 hc2 = rowJ J (prevW lo2).toNat 14 := probe_word (F := F) J (off5_eq lo2) (k0_off5_inb lo2 hc2) r1' 14 rfl slices_S16_o14_S1
  have ev90 : tile_core.sl.v90 d L J r1' lo2 hc2 = rowJ J (prevW lo2).toNat 15 := probe_word (F := F) J (off5_eq lo2) (k0_off5_inb lo2 hc2) r1' 15 rfl slices_S16_o15_S1
  have ev108 : tile_core.sl.v108 d L J r1'' lo3 hc3 = rowJ J (prevW lo3).toNat 0 := probe_word (F := F) J (off7_eq lo3) (k0_off7_inb lo3 hc3) r1'' 0 rfl slices_S16_o0_S1
  have ev113 : tile_core.sl.v113 d L J r1'' lo3 hc3 = rowJ J (prevW lo3).toNat 1 := probe_word (F := F) J (off7_eq lo3) (k0_off7_inb lo3 hc3) r1'' 1 rfl slices_S16_o1_S1
  have ev118 : tile_core.sl.v118 d L J r1'' lo3 hc3 = rowJ J (prevW lo3).toNat 2 := probe_word (F := F) J (off7_eq lo3) (k0_off7_inb lo3 hc3) r1'' 2 rfl slices_S16_o2_S1
  have ev123 : tile_core.sl.v123 d L J r1'' lo3 hc3 = rowJ J (prevW lo3).toNat 3 := probe_word (F := F) J (off7_eq lo3) (k0_off7_inb lo3 hc3) r1'' 3 rfl slices_S16_o3_S1
  have ev128 : tile_core.sl.v128 d L J r1'' lo3 hc3 = rowJ J (prevW lo3).toNat 4 := probe_word (F := F) J (off7_eq lo3) (k0_off7_inb lo3 hc3) r1'' 4 rfl slices_S16_o4_S1
  have ev133 : tile_core.sl.v133 d L J r1'' lo3 hc3 = rowJ J (prevW lo3).toNat 5 := probe_word (F := F) J (off7_eq lo3) (k0_off7_inb lo3 hc3) r1'' 5 rfl slices_S16_o5_S1
  have ev138 : tile_core.sl.v138 d L J r1'' lo3 hc3 = rowJ J (prevW lo3).toNat 6 := probe_word (F := F) J (off7_eq lo3) (k0_off7_inb lo3 hc3) r1'' 6 rfl slices_S16_o6_S1
  have ev143 : tile_core.sl.v143 d L J r1'' lo3 hc3 = rowJ J (prevW lo3).toNat 7 := probe_word (F := F) J (off7_eq lo3) (k0_off7_inb lo3 hc3) r1'' 7 rfl slices_S16_o7_S1
  have ev148 : tile_core.sl.v148 d L J r1'' lo3 hc3 = rowJ J (prevW lo3).toNat 8 := probe_word (F := F) J (off7_eq lo3) (k0_off7_inb lo3 hc3) r1'' 8 rfl slices_S16_o8_S1
  have ev153 : tile_core.sl.v153 d L J r1'' lo3 hc3 = rowJ J (prevW lo3).toNat 9 := probe_word (F := F) J (off7_eq lo3) (k0_off7_inb lo3 hc3) r1'' 9 rfl slices_S16_o9_S1
  have ev158 : tile_core.sl.v158 d L J r1'' lo3 hc3 = rowJ J (prevW lo3).toNat 10 := probe_word (F := F) J (off7_eq lo3) (k0_off7_inb lo3 hc3) r1'' 10 rfl slices_S16_o10_S1
  have ev163 : tile_core.sl.v163 d L J r1'' lo3 hc3 = rowJ J (prevW lo3).toNat 11 := probe_word (F := F) J (off7_eq lo3) (k0_off7_inb lo3 hc3) r1'' 11 rfl slices_S16_o11_S1
  have ev168 : tile_core.sl.v168 d L J r1'' lo3 hc3 = rowJ J (prevW lo3).toNat 12 := probe_word (F := F) J (off7_eq lo3) (k0_off7_inb lo3 hc3) r1'' 12 rfl slices_S16_o12_S1
  have ev173 : tile_core.sl.v173 d L J r1'' lo3 hc3 = rowJ J (prevW lo3).toNat 13 := probe_word (F := F) J (off7_eq lo3) (k0_off7_inb lo3 hc3) r1'' 13 rfl slices_S16_o13_S1
  have ev178 : tile_core.sl.v178 d L J r1'' lo3 hc3 = rowJ J (prevW lo3).toNat 14 := probe_word (F := F) J (off7_eq lo3) (k0_off7_inb lo3 hc3) r1'' 14 rfl slices_S16_o14_S1
  have ev183 : tile_core.sl.v183 d L J r1'' lo3 hc3 = rowJ J (prevW lo3).toNat 15 := probe_word (F := F) J (off7_eq lo3) (k0_off7_inb lo3 hc3) r1'' 15 rfl slices_S16_o15_S1
  have hlo : (loW lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) L).toNat = lbN (bw L) J := by
    unfold loW lbN; rw [← hp2', ev15, ev20, ev25, ev30, ev35, ev40, ev45, ev50, ev55, ev60, ev65, ev70, ev75, ev80, ev85, ev90]; rfl
  have hhi : (hiW lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L).toNat = lbN (Scalar.addi (bw L) 128#32) J := by
    unfold hiW lbN; rw [← hp3', ev108, ev113, ev118, ev123, ev128, ev133, ev138, ev143, ev148, ev153, ev158, ev163, ev168, ev173, ev178, ev183]; rfl
  have htr : (k0_t4_loop L lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3)).trips = kTrN L J :=
    (t4_trips lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L hb2 hb3).trans (by rw [hlo, hhi]; rfl)
  obtain ⟨S, hS⟩ : ∃ S : ℕ → Acc F, S = fun n => scan L I X (128 * kLoN L J) Acc.init (128 * n) := ⟨_, rfl⟩
  sl_for (inv4 d L q O W I X S) $$ [HX HI Hrow Hg Hm Hx Hs6 Hs7 HO]
  case region =>
    intro k acc
    unfold inv4
    iintro ⟨%hacc, H⟩
    subst hacc
    have hkk : kLoN L J + k.val < 2500 := by
      have := t4_chunk lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L hb2 hb3 k
      rw [hlo] at this; exact this
    have ho8 : k0_off8 L lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) k = ![128 * (kLoN L J + k.val), 0] := by
      have := off8_eq lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L hb2 hb3 k
      rw [hlo] at this; exact this
    have ho9 : k0_off9 L lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) k = ![128 * (kLoN L J + k.val)] := by
      have := off9_eq lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L hb2 hb3 k
      rw [hlo] at this; exact this
    have hnext : S (k.val + 1) = scan L I X (128 * (kLoN L J + k.val)) (S k.val) 128 := by
      rw [hS]; show scan L I X _ Acc.init (128 * k.val + 128) = _
      rw [scan_add]; show scan L I X (128 * kLoN L J + 128 * k.val) _ 128 = _; rw [← Nat.mul_add]
    rw [hnext]
    iapply (t4_step (F := F) lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) d L (chk5 lo2 (tile_core.sl.v15 d L J r1' lo2 hc2) (tile_core.sl.v20 d L J r1' lo2 hc2) (tile_core.sl.v25 d L J r1' lo2 hc2) (tile_core.sl.v30 d L J r1' lo2 hc2) (tile_core.sl.v35 d L J r1' lo2 hc2) (tile_core.sl.v40 d L J r1' lo2 hc2) (tile_core.sl.v45 d L J r1' lo2 hc2) (tile_core.sl.v50 d L J r1' lo2 hc2) (tile_core.sl.v55 d L J r1' lo2 hc2) (tile_core.sl.v60 d L J r1' lo2 hc2) (tile_core.sl.v65 d L J r1' lo2 hc2) (tile_core.sl.v70 d L J r1' lo2 hc2) (tile_core.sl.v75 d L J r1' lo2 hc2) (tile_core.sl.v80 d L J r1' lo2 hc2) (tile_core.sl.v85 d L J r1' lo2 hc2) (tile_core.sl.v90 d L J r1' lo2 hc2) lo3 (tile_core.sl.v108 d L J r1'' lo3 hc3) (tile_core.sl.v113 d L J r1'' lo3 hc3) (tile_core.sl.v118 d L J r1'' lo3 hc3) (tile_core.sl.v123 d L J r1'' lo3 hc3) (tile_core.sl.v128 d L J r1'' lo3 hc3) (tile_core.sl.v133 d L J r1'' lo3 hc3) (tile_core.sl.v138 d L J r1'' lo3 hc3) (tile_core.sl.v143 d L J r1'' lo3 hc3) (tile_core.sl.v148 d L J r1'' lo3 hc3) (tile_core.sl.v153 d L J r1'' lo3 hc3) (tile_core.sl.v158 d L J r1'' lo3 hc3) (tile_core.sl.v163 d L J r1'' lo3 hc3) (tile_core.sl.v168 d L J r1'' lo3 hc3) (tile_core.sl.v173 d L J r1'' lo3 hc3) (tile_core.sl.v178 d L J r1'' lo3 hc3) (tile_core.sl.v183 d L J r1'' lo3 hc3) L hb2 hb3) k (kLoN L J + k.val) hkk ho8 ho9 (S k.val) q O W I X)
    iexact H
  · unfold inv4
    isplitl []; · ipureintro; rw [hS]; rfl
    isplitl []; · iexact Hmw
    isplitl [HX]; · iexact HX
    isplitl [HI]; · iexact HI
    isplitl [Hrow]; · iexists _; iexact Hrow
    isplitl [Hg]; · iexists _; iexact Hg
    isplitl [Hm]; · rw [hS]; iexact Hm
    isplitl [Hx]; · rw [hS]; iexact Hx
    isplitl [Hs6]; · iexact Hs6
    isplitl [Hs7]; · iexact Hs7
    iexists _; isplitr
    swap; · iexact HO
    ipureintro
    exact waits_insert hW3
  iintro %acc HI4
  ihave HI5 := (inv4_open (F := F) d L q O W I X S _ _ htr acc) $$ HI4
  icases HI5 with ⟨%a4, %ha, %hacc, HX, HI, ⟨%r7, Hrow⟩, ⟨%r8, Hg⟩, Hm, Hx, Hs6, Hs7, %W4, %hW4, HO⟩
  have ha4 : a4.last L = tileAcc L I J X := by rw [ha, hS]; rfl
  clear ha hS
  subst hacc
  unfold RowSt.tup
  have hch8 := chk8 L
  by_cases hcd : k0_cond3 L a4.s.cur a4.s.some = 1#1
  · sl_exec (disch := first | exact View.amount_pos _ _ (show 0 < 16384 by decide))
    have hroot : ∀ x, (sRoot L).view.read (Elt F) (rootRow R X) x = tile_core.sl.dma0_1 d L X R hR r4 r5 x := fun x => by
      clear * - x
      unfold tile_core.sl.dma0_1
      refine Eq.trans ?_ (congrFun (View.write_whole_univ _ _ _ : (bRrow).view.write (Elt F) r5 _ Finset.univ = _) x).symm
      exact root_val (F := F) L R X hR r4 _ rfl _ _ _ x
    have ht := ((cond3_iff L a4.s.cur _).mp hcd).1
    have hM : ∀ x, (sMean L).view.read (Elt F) gM x = tile_core.sl.dma32 L a4 hch8 hcd x := fun x => by
      rw [hgM, ← ha4]
      show (if k0_cond3 L a4.s.cur a4.s.some = 1#1 then a4.s.putMean L a4.m else a4.m) x = _
      rw [if_pos hcd]
      refine ((congrFun ((writes8 (F := F) (bMean).view a4.m (rowOff L a4.s.cur) (fun j => k0_off32 L a4.s.cur (BitVec.ofNat 32 (16 * j.val))) (fun j => off32_eq L a4.s.cur ht j)
        (fun j => k0_off32_inb L a4.s.cur a4.s.some (hch8 _ _) hcd j) (fun j => shapeCast S16 (divf (a4.s.sum j) (broadcast S16 a4.s.cnt)) shapeCasts_S16_S16)).trans ?_) x).symm)
      exact congrArg (fun w => put8 (rowOff L a4.s.cur) w a4.m) (funext fun j => shapeCast_self _ _)
    have hX : ∀ x, (sMax L).view.read (Elt F) gX x = tile_core.sl.dma32_1 L a4 hch8 hcd x := fun x => by
      rw [hgX, ← ha4]
      show (if k0_cond3 L a4.s.cur a4.s.some = 1#1 then a4.s.putMax L a4.x else a4.x) x = _
      rw [if_pos hcd]
      refine ((congrFun ((writes8 (F := F) (bMax).view a4.x (rowOff L a4.s.cur) (fun j => k0_off32 L a4.s.cur (BitVec.ofNat 32 (16 * j.val))) (fun j => off32_eq L a4.s.cur ht j)
        (fun j => k0_off32_inb L a4.s.cur a4.s.some (hch8 _ _) hcd j) (fun j => shapeCast S16 (a4.s.mx j) shapeCasts_S16_S16)).trans ?_) x).symm)
      exact congrArg (fun w => put8 (rowOff L a4.s.cur) w a4.x) (funext fun j => shapeCast_self _ _)
    sl_step
    isplitl [HX]; · iexact HX
    isplitl [HI]; · iexact HI
    isplitl [HJ]; · iexact HJ
    isplitl [HR]; · iexact HR
    isplitl [Hsm]; · iapply (Entails.of_eq (pointsTo_congr (outs_eq (F := F) (sMean L).view f1 gM _ hM))); iexact Hsm
    isplitl [Hsx]; · iapply (Entails.of_eq (pointsTo_congr (outs_eq (F := F) (sMax L).view f2 gX _ hX))); iexact Hsx
    isplitl [Hsr]; · iapply (Entails.of_eq (pointsTo_congr (outs_eq (F := F) (sRoot L).view _ (rootRow R X) _ hroot))); iexact Hsr
    isplitl [Hrow]; · iexists _; iexact Hrow
    isplitl [Hprb]; · iexists _; iexact Hprb
    isplitl [Hm]; · iexists _; iexact Hm
    isplitl [Hx]; · iexists _; iexact Hx
    isplitl [Hrix]; · iexists _; iexact Hrix
    isplitl [Hrr]; · iexists _; iexact Hrr
    isplitl [Hg]; · iexists _; iexact Hg
    isplitl [HsA]; · iexact HsA
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs10]; · iexact Hs10
    isplitl [Hs11]; · iexact Hs11
    iexists _; isplitr
    swap; · iexact HO
    ipureintro
    exact waits_insert (waits_insert hW4)
  · sl_exec (disch := first | exact View.amount_pos _ _ (show 0 < 16384 by decide))
    have hroot : ∀ x, (sRoot L).view.read (Elt F) (rootRow R X) x = tile_core.sl.dma0_1 d L X R hR r4 r5 x := fun x => by
      clear * - x
      unfold tile_core.sl.dma0_1
      refine Eq.trans ?_ (congrFun (View.write_whole_univ _ _ _ : (bRrow).view.write (Elt F) r5 _ Finset.univ = _) x).symm
      exact root_val (F := F) L R X hR r4 _ rfl _ _ _ x
    have hM : ∀ x, (sMean L).view.read (Elt F) gM x = tile_core.sl.dma0_4 a4 x := fun x => by
      rw [hgM, ← ha4]
      show (if k0_cond3 L a4.s.cur a4.s.some = 1#1 then a4.s.putMean L a4.m else a4.m) x = _
      rw [if_neg hcd]; rfl
    have hX : ∀ x, (sMax L).view.read (Elt F) gX x = tile_core.sl.dma0_5 a4 x := fun x => by
      rw [hgX, ← ha4]
      show (if k0_cond3 L a4.s.cur a4.s.some = 1#1 then a4.s.putMax L a4.x else a4.x) x = _
      rw [if_neg hcd]; rfl
    sl_step
    isplitl [HX]; · iexact HX
    isplitl [HI]; · iexact HI
    isplitl [HJ]; · iexact HJ
    isplitl [HR]; · iexact HR
    isplitl [Hsm]; · iapply (Entails.of_eq (pointsTo_congr (outs_eq (F := F) (sMean L).view f1 gM _ hM))); iexact Hsm
    isplitl [Hsx]; · iapply (Entails.of_eq (pointsTo_congr (outs_eq (F := F) (sMax L).view f2 gX _ hX))); iexact Hsx
    isplitl [Hsr]; · iapply (Entails.of_eq (pointsTo_congr (outs_eq (F := F) (sRoot L).view _ (rootRow R X) _ hroot))); iexact Hsr
    isplitl [Hrow]; · iexists _; iexact Hrow
    isplitl [Hprb]; · iexists _; iexact Hprb
    isplitl [Hm]; · iexists _; iexact Hm
    isplitl [Hx]; · iexists _; iexact Hx
    isplitl [Hrix]; · iexists _; iexact Hrix
    isplitl [Hrr]; · iexists _; iexact Hrr
    isplitl [Hg]; · iexists _; iexact Hg
    isplitl [HsA]; · iexact HsA
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs10]; · iexact Hs10
    isplitl [Hs11]; · iexact Hs11
    iexists _; isplitr
    swap; · iexact HO
    ipureintro
    exact waits_insert (waits_insert hW4)

end Cert.Proof.SegKernelIdeal

end
-- ==== Proof.Task.lean ====
/-
  One vector subcore's task as the launch asks for it, and what the launch's handshakes carry.
-/
module

public import proofs.«01_k».proof.Proof.Tile

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-! ## The subcores, numbered -/

/-- The pair of coordinates `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The number of a subcore: twice its place on its SparseCore, and which SparseCore. -/
def wid (L : grid0.Coords) : ℕ := 2 * (L 1).val + (L 0).val

/-- The subcore of a number. -/
def Lw (w : ℕ) : grid0.Coords := coordsV ⟨w % 2, Nat.mod_lt _ (by decide)⟩ ⟨w / 2 % 16, Nat.mod_lt _ (by decide)⟩

omit [FloatOps F] in
theorem wid_lt (L : grid0.Coords) : wid L < 32 := by
  have h0 : (L 0).val < 2 := (L 0).isLt
  have h1 : (L 1).val < 16 := (L 1).isLt
  unfold wid; omega

omit [FloatOps F] in
theorem Lw_wid (L : grid0.Coords) : Lw (wid L) = L := by
  have h0 : (L 0).val < 2 := (L 0).isLt
  have h1 : (L 1).val < 16 := (L 1).isLt
  funext a
  match a with
  | 0 => exact Fin.ext (show (2 * (L 1).val + (L 0).val) % 2 = (L 0).val by omega)
  | 1 => exact Fin.ext (show (2 * (L 1).val + (L 0).val) / 2 % 16 = (L 1).val by omega)

omit [FloatOps F] in
theorem wid_Lw {w : ℕ} (h : w < 32) : wid (Lw w) = w := by
  show 2 * (w / 2 % 16) + w % 2 = w
  omega

omit [FloatOps F] in
theorem off33_wid (L : grid0.Coords) : k0_off33 L 0 = 16384 * wid L := by
  rw [k0_off33_eq]; show 32768 * (L 1).val + 16384 * (L 0).val = 16384 * (2 * (L 1).val + (L 0).val); omega

omit [FloatOps F] in
theorem off2_wid (L : grid0.Coords) : k0_off2 L 0 = 128 * wid L := by
  rw [k0_off2_eq]; show 256 * (L 1).val + 128 * (L 0).val = 128 * (2 * (L 1).val + (L 0).val); omega

/-! ## What the subcores leave, as whole arrays -/

/-- The means: entry `y` is the entry `y % 16384` of subcore `y / 16384`. -/
def meanOut (I : S320000.Idx → BitVec 32) (J : S20000x16.Idx → BitVec 32) (X : S320000x128.Idx → F .f32) (y : S524288.Idx) : F .f32 :=
  (tileAcc (Lw ((y 0).val / 16384)) I J X).m (ix1 ⟨(y 0).val % 16384, Nat.mod_lt _ (by decide)⟩)

/-- The maxima, likewise. -/
def maxOut (I : S320000.Idx → BitVec 32) (J : S20000x16.Idx → BitVec 32) (X : S320000x128.Idx → F .f32) (y : S524288.Idx) : F .f32 :=
  (tileAcc (Lw ((y 0).val / 16384)) I J X).x (ix1 ⟨(y 0).val % 16384, Nat.mod_lt _ (by decide)⟩)

omit [FloatOps F] in
theorem emb33 (L : grid0.Coords) (x : S16384.Idx) :
    ((Rect.unit (s := S524288) (k0_off33 L) S16384.size (k0_off33_inb L)).emb x 0).val = 16384 * wid L + (x 0).val := by
  show k0_off33 L 0 + 1 * (x 0).val = _
  rw [off33_wid]; omega

theorem meanOut_read (L : grid0.Coords) (I : S320000.Idx → BitVec 32) (J : S20000x16.Idx → BitVec 32) (X : S320000x128.Idx → F .f32) (x : S16384.Idx) :
    (sMean L).view.read (Elt F) (meanOut I J X) x = (tileAcc L I J X).m x := by
  have hx : (x 0).val < 16384 := (x 0).isLt
  show meanOut I J X ((Rect.unit (s := S524288) (k0_off33 L) S16384.size (k0_off33_inb L)).emb x) = _
  unfold meanOut
  have e1 : ((Rect.unit (s := S524288) (k0_off33 L) S16384.size (k0_off33_inb L)).emb x 0).val / 16384 = wid L := by rw [emb33]; omega
  have e2 : (ix1 ⟨((Rect.unit (s := S524288) (k0_off33 L) S16384.size (k0_off33_inb L)).emb x 0).val % 16384, Nat.mod_lt _ (by decide)⟩ : S16384.Idx) = x := by
    funext a; match a with
    | 0 => exact Fin.ext (show _ % 16384 = (x 0).val by rw [emb33]; omega)
  rw [e1, e2, Lw_wid]

theorem maxOut_read (L : grid0.Coords) (I : S320000.Idx → BitVec 32) (J : S20000x16.Idx → BitVec 32) (X : S320000x128.Idx → F .f32) (x : S16384.Idx) :
    (sMax L).view.read (Elt F) (maxOut I J X) x = (tileAcc L I J X).x x := by
  have hx : (x 0).val < 16384 := (x 0).isLt
  show maxOut I J X ((Rect.unit (s := S524288) (k0_off33 L) S16384.size (k0_off33_inb L)).emb x) = _
  unfold maxOut
  have e1 : ((Rect.unit (s := S524288) (k0_off33 L) S16384.size (k0_off33_inb L)).emb x 0).val / 16384 = wid L := by rw [emb33]; omega
  have e2 : (ix1 ⟨((Rect.unit (s := S524288) (k0_off33 L) S16384.size (k0_off33_inb L)).emb x 0).val % 16384, Nat.mod_lt _ (by decide)⟩ : S16384.Idx) = x := by
    funext a; match a with
    | 0 => exact Fin.ext (show _ % 16384 = (x 0).val by rw [emb33]; omega)
  rw [e1, e2, Lw_wid]

/-! ## The launch memory and what the handshakes carry -/

variable (m : (ℓ : Loc nD τ sig) → Buf (Elt F) ℓ)

abbrev lX (d : Dev nD) : Loc nD τ sig := (SparseCore.T d).loc main_arg0
abbrev lI (d : Dev nD) : Loc nD τ sig := (SparseCore.T d).loc main_arg1
abbrev lR (d : Dev nD) : Loc nD τ sig := (SparseCore.T d).loc main_arg2
abbrev lJ (d : Dev nD) : Loc nD τ sig := (SparseCore.T d).loc main_v0
abbrev lM (d : Dev nD) : Loc nD τ sig := (SparseCore.T d).loc main_v1_0
abbrev lMx (d : Dev nD) : Loc nD τ sig := (SparseCore.T d).loc main_v1_1
abbrev lRt (d : Dev nD) : Loc nD τ sig := (SparseCore.T d).loc main_v1_2

/-- The segments laid out sixteen to a row, as the program makes them. -/
abbrev opJ : HloOp τ sig (Elt F) := StableHlo.reshape main_arg1 main_v0 (rfl : (.i32 : EltTy) = .i32) shapeCasts_S320000_S20000x16
def jv (d : Dev nD) : Buf (Elt F) (lJ d) := (opJ (F := F)).result (fun b => m (d, b)) main_v0

/-- The three results of the SparseCore call. -/
def gMean (d : Dev nD) : Buf (Elt F) (lM d) := meanOut (m (lI d)) (jv m d) (m (lX d))
def gMax (d : Dev nD) : Buf (Elt F) (lMx d) := maxOut (m (lI d)) (jv m d) (m (lX d))
def gRoot (d : Dev nD) : Buf (Elt F) (lRt d) := rootRow (m (lR d)) (m (lX d))

/-- The read share of subcore `L`. -/
abbrev tq (L : grid0.Coords) : PosShare TreeShare := Transfers.shareTokN fullShare (wid L)

/-- What subcore `L` is given: a read share of the four arrays it reads, its parts of the three it writes; -/
abbrev tIn (d : Dev nD) (L : grid0.Coords) : sProp 𝕄 :=
  iprop((lX d ↦{tq L} m (lX d)) ∗ (lI d ↦{tq L} m (lI d)) ∗ (lJ d ↦{tq L} jv m d) ∗ (lR d ↦{tq L} m (lR d))
    ∗ (lM d ↦[(sMean L).view.set]{fullShare} m (lM d)) ∗ (lMx d ↦[(sMax L).view.set]{fullShare} m (lMx d)) ∗ lRt d ↦[(sRoot L).view.set]{fullShare} m (lRt d))

/-- and what it gives back: the shares, and its parts written. -/
abbrev tOut (d : Dev nD) (L : grid0.Coords) : sProp 𝕄 :=
  iprop((lX d ↦{tq L} m (lX d)) ∗ (lI d ↦{tq L} m (lI d)) ∗ (lJ d ↦{tq L} jv m d) ∗ (lR d ↦{tq L} m (lR d))
    ∗ (lM d ↦[(sMean L).view.set]{fullShare} gMean m d) ∗ (lMx d ↦[(sMax L).view.set]{fullShare} gMax m d) ∗ lRt d ↦[(sRoot L).view.set]{fullShare} gRoot m d)

abbrev LL (c : Fin ((K (F := F)).nCore 0)) (i : Fin ((K (F := F)).nSub 0)) : grid0.Coords := coordsV c i

/-- The call takes every subcore's part and brings it back. -/
def P : (K (F := F)).Pay (nD := nD) (Val := Elt F) (Name := ℕ) (U := UU) where
  st := fun q d c => match q with | 0 => bigSep Finset.univ fun i => tIn m d (LL (F := F) c i)
  dn := fun q d c => match q with | 0 => bigSep Finset.univ fun i => tOut m d (LL (F := F) c i)
  go := fun q d c i => match q with | 0 => tIn m d (LL (F := F) c i)
  td := fun q d c i => match q with | 0 => tOut m d (LL (F := F) c i)
  x := fun _ _ => iprop(emp)

instance P_storable : (P (F := F) m).IsStorable where
  st q d c := match q with
    | 0 => (inferInstance : BI.Storable (upEmb : UEmb _ 𝕄) (bigSep Finset.univ fun i => tIn m d (LL (F := F) c i)))
  dn q d c := match q with
    | 0 => (inferInstance : BI.Storable (upEmb : UEmb _ 𝕄) (bigSep Finset.univ fun i => tOut m d (LL (F := F) c i)))
  go q d c i := match q with
    | 0 => (inferInstance : BI.Storable (upEmb : UEmb _ 𝕄) (tIn m d (LL (F := F) c i)))
  td q d c i := match q with
    | 0 => (inferInstance : BI.Storable (upEmb : UEmb _ 𝕄) (tOut m d (LL (F := F) c i)))

/-- What the proof asks of the launch memory: every root index names a row. -/
def PreOK : Prop := ∀ (d : Dev nD) (j : S4096.Idx), (m (lR d) j).toNat < 320000

/-! ## The task -/

section Tile

variable (d : Dev nD) (L : grid0.Coords)

abbrev cA (s : DmaSem sig) : GSem nD τ sig := (V d (cV L) (jV L), .dma s)

omit [FloatOps F] in
theorem mem_cA (s : DmaSem sig) (h : (SemLoc.dma s : SemLoc sig).isScoped .scVector = true) : cA d L s ∈ ownCells (V d (cV L) (jV L)) :=
  mem_ownCells.mpr ⟨rfl, h⟩

omit [FloatOps F] in
theorem cA_ne {s s' : DmaSem sig} (h : s ≠ s') : cA d L s ≠ cA d L s' := fun e => h (SemLoc.dma.inj (Prod.mk.inj e).2)

/-- The kernel's eleven semaphores. -/
abbrev semL : List (DmaSem sig) := [cc0_scratch7.sem, cc0_scoped0.sem, cc0_scoped1.sem, cc0_scoped2.sem, cc0_scoped3.sem, cc0_scoped4.sem,
  cc0_scoped5.sem, cc0_scoped6.sem, cc0_scoped7.sem, cc0_scoped10.sem, cc0_scoped11.sem]

omit [FloatOps F] in
/-- The semaphores of a list come out of a set that holds them. -/
theorem sems_list (S : Finset (GSem nD τ sig)) : ∀ l : List (DmaSem sig), l.Nodup → (∀ s ∈ l, cA d L s ∈ S) →
    (bigSep S fun g => (semVal g 0 : sProp 𝕄))
      = l.foldr (fun s R => iprop(semVal (cA d L s) 0 ∗ R)) (bigSep (l.foldl (fun S s => S.erase (cA d L s)) S) fun g => semVal g 0) := by
  intro l
  induction l generalizing S with
  | nil => intro _ _; rfl
  | cons s l ih =>
    intro hn hS
    obtain ⟨hs, hn⟩ := List.nodup_cons.mp hn
    rw [SparseCore.bigSep_erase' (hS s List.mem_cons_self),
      ih (S.erase (cA d L s)) hn fun s' h' => Finset.mem_erase.mpr ⟨cA_ne d L fun e => hs (e ▸ h'), hS s' (List.mem_cons_of_mem _ h')⟩]
    rfl

/-- The semaphores a task leaves alone. -/
abbrev semRest : sProp 𝕄 := bigSep (semL.foldl (fun S s => S.erase (cA d L s)) (ownCells (V d (cV L) (jV L)))) fun g => semVal g 0

omit [FloatOps F] in
theorem ownSems0_V :
    (ownSems0 (V d (cV L) (jV L)) : sProp 𝕄)
      = iprop(semVal (cA d L cc0_scratch7.sem) 0 ∗ semVal (cA d L cc0_scoped0.sem) 0 ∗ semVal (cA d L cc0_scoped1.sem) 0
        ∗ semVal (cA d L cc0_scoped2.sem) 0 ∗ semVal (cA d L cc0_scoped3.sem) 0 ∗ semVal (cA d L cc0_scoped4.sem) 0
        ∗ semVal (cA d L cc0_scoped5.sem) 0 ∗ semVal (cA d L cc0_scoped6.sem) 0 ∗ semVal (cA d L cc0_scoped7.sem) 0
        ∗ semVal (cA d L cc0_scoped10.sem) 0 ∗ semVal (cA d L cc0_scoped11.sem) 0 ∗ semRest (F := F) d L) := by
  unfold SparseCore.Cfg.ownSems0
  exact sems_list (F := F) d L _ semL (by decide) fun s hs => mem_cA d L s ((show ∀ s ∈ semL, (SemLoc.dma s : SemLoc sig).isScoped .scVector = true by decide) s hs)

/-- The kernel's seven buffers. -/
abbrev bufL : List (Ref sig .scVector) := [cc0_scratch0, cc0_scratch1, cc0_scratch2, cc0_scratch3, cc0_scratch4, cc0_scratch5, cc0_scratch6]

abbrev bA (b : Ref sig .scVector) : DevRef τ sig := (Proc.scVector (cV L) (jV L)).devRef b

omit [FloatOps F] in
theorem bufs_list (S : Finset (DevRef τ sig)) : ∀ l : List (Ref sig .scVector), l.Nodup → (∀ s ∈ l, bA L s ∈ S) →
    (bigSep S fun b => (iprop(∃ f, ((d, b) : Loc nD τ sig) ↦{fullShare} f) : sProp 𝕄))
      = l.foldr (fun s R => iprop((∃ f, ((d, bA L s) : Loc nD τ sig) ↦{fullShare} f) ∗ R))
          (bigSep (l.foldl (fun S s => S.erase (bA L s)) S) fun b => iprop(∃ f, ((d, b) : Loc nD τ sig) ↦{fullShare} f)) := by
  intro l
  induction l generalizing S with
  | nil => intro _ _; rfl
  | cons s l ih =>
    intro hn hS
    obtain ⟨hs, hn⟩ := List.nodup_cons.mp hn
    rw [SparseCore.bigSep_erase' (hS s List.mem_cons_self),
      ih (S.erase (bA L s)) hn fun s' h' => Finset.mem_erase.mpr ⟨fun e => hs (Proc.devRef_injective _ e ▸ h'), hS s' (List.mem_cons_of_mem _ h')⟩]
    rfl

/-- The buffers a task leaves alone. -/
abbrev bufRest : sProp 𝕄 := bigSep (bufL.foldl (fun S s => S.erase (bA L s)) (ownRefs (τ := τ) (.scVector (cV L) (jV L)))) fun b => iprop(∃ f, ((d, b) : Loc nD τ sig) ↦{fullShare} f)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)
        ∗ (∃ f, (V d (cV L) (jV L)).loc cc0_scratch4 ↦{fullShare} f) ∗ (∃ f, (V d (cV L) (jV L)).loc cc0_scratch5 ↦{fullShare} f)
        ∗ (∃ f, (V d (cV L) (jV L)).loc cc0_scratch6 ↦{fullShare} f) ∗ bufRest (F := F) d L) := by
  unfold SparseCore.Cfg.ownBufs
  refine bufs_list (F := F) d L _ bufL (by decide) fun s hs => SparseCore.Cfg.mem_ownRefs_of_owner (p := Proc.scVector (cV L) (jV L)) ?_
  fin_cases hs <;> rfl

/-- The task on vector subcore `L`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt (F := F) L)
          fun _ => iprop(tOut m d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨HX, HI, HJ, HR, Hm, Hx, Hr⟩, ⟨B0, B1, B2, B3, B4, B5, B6, Hbufs⟩, ⟨SA, S0, S1, S2, S3, S4, S5, S6, S7, S10, S11, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (tile_core (F := F) d L (tq L) O W (m (lX d)) (m (lI d)) (jv m d) (m (lR d)) (hpre d) (gMean m d) (gMax m d)
    (meanOut_read L _ _ _) (maxOut_read L _ _ _) (m (lM d)) (m (lMx d)) (m (lRt d))) $$ [Hmw HX HI HJ HR Hm Hx Hr B0 B1 B2 B3 B4 B5 B6 SA S0 S1 S2 S3 S4 S5 S6 S7 S10 S11 HO]
  · isplitl [Hmw]; · iexact Hmw
    isplitl [HX]; · iexact HX
    isplitl [HI]; · iexact HI
    isplitl [HJ]; · iexact HJ
    isplitl [HR]; · iexact HR
    isplitl [Hm]; · iexact Hm
    isplitl [Hx]; · iexact Hx
    isplitl [Hr]; · iexact Hr
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [SA]; · iexact SA
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S10]; · iexact S10
    isplitl [S11]; · iexact S11
    iexists W; isplitr
    swap; · iexact HO
    ipureintro; exact fun p hp => Or.inl hp
  iapply (wp_wand frame _ _) $$ Hwp
  iintro %_ ⟨HX, HI, HJ, HR, Hm, Hx, Hr, B0, B1, B2, B3, B4, B5, B6, SA, S0, S1, S2, S3, S4, S5, S6, S7, S10, S11, HO⟩
  isplitl [HX HI HJ HR Hm Hx Hr]
  · isplitl [HX]; · iexact HX
    isplitl [HI]; · iexact HI
    isplitl [HJ]; · iexact HJ
    isplitl [HR]; · iexact HR
    isplitl [Hm]; · iexact Hm
    isplitl [Hx]; · iexact Hx
    iexact Hr
  isplitl [B0 B1 B2 B3 B4 B5 B6 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact Hbufs
  isplitl [SA S0 S1 S2 S3 S4 S5 S6 S7 S10 S11 Hsems]
  · isplitl [SA]; · iexact SA
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S10]; · iexact S10
    isplitl [S11]; · iexact S11
    iexact Hsems
  iexact HO

end Tile

/-! ## The obligation -/

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show (bigSep Finset.univ fun i => tIn m d (LL (F := F) c i)) ⊢ |={Set.univ}=> iprop(
      (bigSep Finset.univ fun i => tIn m d (LL (F := F) c i))
      ∗ ((bigSep Finset.univ fun i => tOut m d (LL (F := F) c i)) -∗ (bigSep Finset.univ fun i => tOut m d (LL (F := F) c i))))
  iintro H; imodintro
  isplitl [H]; · iexact H
  iintro H; iexact H

end Cert.Proof.SegKernelIdeal

end
-- ==== Proof.Split.lean ====
/-
  The arrays of the SparseCore call dealt to its thirty-two subcores and joined again.
-/
module

public import proofs.«01_k».proof.Proof.Task

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-! ## The subcores' parts, numbered from 0 to 31 -/

/-- A SparseCore and a subcore of it, against the subcore's number. -/
def widE : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt
    exact Prod.ext (Fin.ext (show (2 * p.2.val + p.1.val) % 2 = p.1.val by omega)) (Fin.ext (show (2 * p.2.val + p.1.val) / 2 = p.2.val by omega))
  right_inv w := Fin.ext (show 2 * (w.val / 2) + w.val % 2 = w.val by omega)

omit [FloatOps F] in
theorem bigSep_LL (Φ : grid0.Coords → sProp 𝕄) :
    (bigSep Finset.univ fun c : Fin ((K (F := F)).nCore 0) => bigSep Finset.univ fun i : Fin ((K (F := F)).nSub 0) => Φ (LL (F := F) c i))
      = bigSep Finset.univ fun w : Fin 32 => Φ (Lw w.val) := by
  rw [bigSep_univ_equiv widE (fun w : Fin 32 => Φ (Lw w.val)), bigSep_univ_prod]
  refine bigSep_congr fun c _ => bigSep_congr fun i _ => ?_
  show Φ (LL (F := F) c i) = Φ (Lw (2 * i.val + c.val))
  rw [show 2 * i.val + c.val = wid (LL (F := F) c i) from rfl, Lw_wid]

omit [FloatOps F] in
/-- An array read by every subcore: dealt into thirty-two read shares and a remainder. -/
theorem deal_shares (ℓ : Loc nD τ sig) (f : Buf (Elt F) ℓ) :
    (ℓ ↦{fullShare} f : sProp 𝕄)
      ⊣⊢ iprop((ℓ ↦{Transfers.shareDrop fullShare 32} f) ∗ bigSep Finset.univ fun w : Fin 32 => ℓ ↦{tq (Lw w.val)} f) := by
  have h := Transfers.pointsTo_toks (nD := nD) (τ := τ) (sig := sig) (Ix := HIx 1) (Val := Elt F) (Name := ℕ) (U := UU) (Lvl := ℕ) (ℓ := ℓ) (S := Finset.univ) (f := f) fullShare 32
  rw [show (bigSep Finset.univ fun w : Fin 32 => (ℓ ↦{tq (Lw w.val)} f : sProp 𝕄))
      = bigSep Finset.univ fun i : Fin 32 => ℓ ↦[Finset.univ]{Transfers.shareTok fullShare 32 i} f from
    bigSep_congr fun w _ => by rw [show tq (Lw w.val) = Transfers.shareTok fullShare 32 w from by rw [tq, wid_Lw w.isLt]]]
  exact h

omit [FloatOps F] in
theorem mem_sMean (L : grid0.Coords) (y : S524288.Idx) : y ∈ (sMean L).view.set ↔ (y 0).val / 16384 = wid L := by
  have e : (sMean L).view.set = (Rect.unit (s := S524288) (k0_off33 L) S16384.size (k0_off33_inb L)).set := by
    show ((View.whole (main_v1_0_scv : Ref sig .scVector)).slice _).set = _
    rw [View.set_slice]; exact Finset.map_refl
  rw [e, Rect.mem_set_unit]
  constructor
  · intro h
    have h0 : k0_off33 L 0 ≤ (y 0).val ∧ (y 0).val < k0_off33 L 0 + 16384 := h 0
    rw [off33_wid] at h0
    omega
  · intro h a
    match a with
    | 0 => exact (show k0_off33 L 0 ≤ (y 0).val ∧ (y 0).val < k0_off33 L 0 + 16384 by rw [off33_wid]; omega)

omit [FloatOps F] in
theorem mem_sMax (L : grid0.Coords) (y : S524288.Idx) : y ∈ (sMax L).view.set ↔ (y 0).val / 16384 = wid L := by
  have e : (sMax L).view.set = (Rect.unit (s := S524288) (k0_off33 L) S16384.size (k0_off33_inb L)).set := by
    show ((View.whole (main_v1_1_scv : Ref sig .scVector)).slice _).set = _
    rw [View.set_slice]; exact Finset.map_refl
  rw [e, Rect.mem_set_unit]
  constructor
  · intro h
    have h0 : k0_off33 L 0 ≤ (y 0).val ∧ (y 0).val < k0_off33 L 0 + 16384 := h 0
    rw [off33_wid] at h0
    omega
  · intro h a
    match a with
    | 0 => exact (show k0_off33 L 0 ≤ (y 0).val ∧ (y 0).val < k0_off33 L 0 + 16384 by rw [off33_wid]; omega)

omit [FloatOps F] in
theorem mem_sRoot (L : grid0.Coords) (y : S4096x128.Idx) : y ∈ (sRoot L).view.set ↔ (y 0).val / 128 = wid L := by
  have e : (sRoot L).view.set = (Rect.unit (s := S4096x128) (k0_off2 L) S128x128.size (k0_off2_inb L)).set := by
    show ((View.whole (main_v1_2_scv : Ref sig .scVector)).slice _).set = _
    rw [View.set_slice]; exact Finset.map_refl
  have hy1 : (y 1).val < 128 := (y 1).isLt
  rw [e, Rect.mem_set_unit]
  constructor
  · intro h
    have h0 : k0_off2 L 0 ≤ (y 0).val ∧ (y 0).val < k0_off2 L 0 + 128 := h 0
    rw [off2_wid] at h0
    omega
  · intro h a
    match a with
    | 0 => exact (show k0_off2 L 0 ≤ (y 0).val ∧ (y 0).val < k0_off2 L 0 + 128 by rw [off2_wid]; omega)
    | 1 => exact (show k0_off2 L 1 ≤ (y 1).val ∧ (y 1).val < k0_off2 L 1 + 128 by rw [show k0_off2 L 1 = 0 from by rw [k0_off2_eq]; rfl]; omega)

/-- Sets told apart by a number below thirty-two are disjoint and together everything. -/
theorem parts_of {ι : Type} [Fintype ι] [DecidableEq ι] (S : grid0.Coords → Finset ι) (k : ι → ℕ) (h : ∀ L y, y ∈ S L ↔ k y = wid L) (hk : ∀ y, k y < 32) :
    (∀ w ∈ (Finset.univ : Finset (Fin 32)), ∀ w' ∈ (Finset.univ : Finset (Fin 32)), w ≠ w' → Disjoint (S (Lw w.val)) (S (Lw w'.val)))
      ∧ (Finset.univ : Finset (Fin 32)).biUnion (fun w => S (Lw w.val)) = Finset.univ := by
  refine ⟨fun w _ w' _ hne => Finset.disjoint_left.mpr fun y hy hy' => hne (Fin.ext ?_), ?_⟩
  · have h1 := (h _ _).mp hy
    have h2 := (h _ _).mp hy'
    rw [wid_Lw w.isLt] at h1
    rw [wid_Lw w'.isLt] at h2
    exact h1.symm.trans h2
  · refine Finset.eq_univ_iff_forall.mpr fun y => Finset.mem_biUnion.mpr ⟨⟨k y, hk y⟩, Finset.mem_univ _, (h _ _).mpr ?_⟩
    rw [wid_Lw (hk y)]

omit [FloatOps F] in
theorem deal_mean (d : Dev nD) (f : Buf (Elt F) (lM d)) :
    (lM d ↦{fullShare} f : sProp 𝕄) = bigSep Finset.univ fun w : Fin 32 => lM d ↦[(sMean (Lw w.val)).view.set]{fullShare} f := by
  have hp := parts_of (fun L => (sMean L).view.set) (fun y : S524288.Idx => (y 0).val / 16384) mem_sMean
    (fun y => by have : (y 0).val < 524288 := (y 0).isLt; show (y 0).val / 16384 < 32; omega)
  rw [← pointsTo_biUnion Finset.univ (ℓ := lM d) (fun w : Fin 32 => (sMean (Lw w.val)).view.set) hp.1, hp.2]

omit [FloatOps F] in
theorem deal_max (d : Dev nD) (f : Buf (Elt F) (lMx d)) :
    (lMx d ↦{fullShare} f : sProp 𝕄) = bigSep Finset.univ fun w : Fin 32 => lMx d ↦[(sMax (Lw w.val)).view.set]{fullShare} f := by
  have hp := parts_of (fun L => (sMax L).view.set) (fun y : S524288.Idx => (y 0).val / 16384) mem_sMax
    (fun y => by have : (y 0).val < 524288 := (y 0).isLt; show (y 0).val / 16384 < 32; omega)
  rw [← pointsTo_biUnion Finset.univ (ℓ := lMx d) (fun w : Fin 32 => (sMax (Lw w.val)).view.set) hp.1, hp.2]

omit [FloatOps F] in
theorem deal_root (d : Dev nD) (f : Buf (Elt F) (lRt d)) :
    (lRt d ↦{fullShare} f : sProp 𝕄) = bigSep Finset.univ fun w : Fin 32 => lRt d ↦[(sRoot (Lw w.val)).view.set]{fullShare} f := by
  have hp := parts_of (fun L => (sRoot L).view.set) (fun y : S4096x128.Idx => (y 0).val / 128) mem_sRoot
    (fun y => by have : (y 0).val < 4096 := (y 0).isLt; show (y 0).val / 128 < 32; omega)
  rw [← pointsTo_biUnion Finset.univ (ℓ := lRt d) (fun w : Fin 32 => (sRoot (Lw w.val)).view.set) hp.1, hp.2]

variable (m : (ℓ : Loc nD τ sig) → Buf (Elt F) ℓ)

/-- What is left of the four arrays the subcores read while they hold their shares. -/
abbrev kept (d : Dev nD) : sProp 𝕄 :=
  iprop((lX d ↦{Transfers.shareDrop fullShare 32} m (lX d)) ∗ (lI d ↦{Transfers.shareDrop fullShare 32} m (lI d))
    ∗ (lJ d ↦{Transfers.shareDrop fullShare 32} jv m d) ∗ (lR d ↦{Transfers.shareDrop fullShare 32} m (lR d)))

/-- The seven arrays of the call, as it is started; -/
abbrev arrIn (d : Dev nD) : sProp 𝕄 :=
  iprop((lX d ↦{fullShare} m (lX d)) ∗ (lI d ↦{fullShare} m (lI d)) ∗ (lJ d ↦{fullShare} jv m d) ∗ (lR d ↦{fullShare} m (lR d))
    ∗ (lM d ↦{fullShare} m (lM d)) ∗ (lMx d ↦{fullShare} m (lMx d)) ∗ lRt d ↦{fullShare} m (lRt d))

/-- and as it leaves them. -/
abbrev arrOut (d : Dev nD) : sProp 𝕄 :=
  iprop((lX d ↦{fullShare} m (lX d)) ∗ (lI d ↦{fullShare} m (lI d)) ∗ (lJ d ↦{fullShare} jv m d) ∗ (lR d ↦{fullShare} m (lR d))
    ∗ (lM d ↦{fullShare} gMean m d) ∗ (lMx d ↦{fullShare} gMax m d) ∗ lRt d ↦{fullShare} gRoot m d)

theorem call_split (d : Dev nD) :
    arrIn m d ⊢ iprop((bigSep Finset.univ fun c : Fin ((K (F := F)).nCore 0) => (P m).st 0 d c) ∗ kept m d) := by
  rw [show (bigSep Finset.univ fun c : Fin ((K (F := F)).nCore 0) => (P m).st 0 d c) = bigSep Finset.univ fun w : Fin 32 => tIn m d (Lw w.val) from
    bigSep_LL (fun L => tIn m d L)]
  simp only [tIn, bigSep_sep']
  iintro ⟨HX, HI, HJ, HR, Hm, Hx, Hr⟩
  ihave HX := (deal_shares (lX d) (m (lX d))).1 $$ HX
  ihave HI := (deal_shares (lI d) (m (lI d))).1 $$ HI
  ihave HJ := (deal_shares (lJ d) (jv m d)).1 $$ HJ
  ihave HR := (deal_shares (lR d) (m (lR d))).1 $$ HR
  ihave Hm := (Entails.of_eq (deal_mean d (m (lM d)))) $$ Hm
  ihave Hx := (Entails.of_eq (deal_max d (m (lMx d)))) $$ Hx
  ihave Hr := (Entails.of_eq (deal_root d (m (lRt d)))) $$ Hr
  icases HX with ⟨HX0, HX⟩
  icases HI with ⟨HI0, HI⟩
  icases HJ with ⟨HJ0, HJ⟩
  icases HR with ⟨HR0, HR⟩
  isplitl [HX HI HJ HR Hm Hx Hr]
  · isplitl [HX]; · iexact HX
    isplitl [HI]; · iexact HI
    isplitl [HJ]; · iexact HJ
    isplitl [HR]; · iexact HR
    isplitl [Hm]; · iexact Hm
    isplitl [Hx]; · iexact Hx
    iexact Hr
  isplitl [HX0]; · iexact HX0
  isplitl [HI0]; · iexact HI0
  isplitl [HJ0]; · iexact HJ0
  iexact HR0

theorem call_join (d : Dev nD) :
    iprop((bigSep Finset.univ fun c : Fin ((K (F := F)).nCore 0) => (P m).dn 0 d c) ∗ kept m d) ⊢ arrOut m d := by
  rw [show (bigSep Finset.univ fun c : Fin ((K (F := F)).nCore 0) => (P m).dn 0 d c) = bigSep Finset.univ fun w : Fin 32 => tOut m d (Lw w.val) from
    bigSep_LL (fun L => tOut m d L)]
  simp only [tOut, bigSep_sep']
  iintro ⟨⟨HX, HI, HJ, HR, Hm, Hx, Hr⟩, HX0, HI0, HJ0, HR0⟩
  isplitl [HX HX0]
  · iapply (deal_shares (lX d) (m (lX d))).2; isplitl [HX0] <;> iassumption
  isplitl [HI HI0]
  · iapply (deal_shares (lI d) (m (lI d))).2; isplitl [HI0] <;> iassumption
  isplitl [HJ HJ0]
  · iapply (deal_shares (lJ d) (jv m d)).2; isplitl [HJ0] <;> iassumption
  isplitl [HR HR0]
  · iapply (deal_shares (lR d) (m (lR d))).2; isplitl [HR0] <;> iassumption
  isplitl [Hm]; · iapply (Entails.of_eq (deal_mean d (gMean m d)).symm); iexact Hm
  isplitl [Hx]; · iapply (Entails.of_eq (deal_max d (gMax m d)).symm); iexact Hx
  iapply (Entails.of_eq (deal_root d (gRoot m d)).symm); iexact Hr

end Cert.Proof.SegKernelIdeal

end
-- ==== Proof.Region.lean ====
/-
  The dense layer on the TensorCore: its body run, and its pipeline as a region over the thread state.
-/
module

public import proofs.«01_k».proof.Proof.Base
public import Idealize.ShloMosaic.Lib.Pipeline.RegionsLoop

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-! ## The resource algebra of the dense layer's pipeline -/

abbrev EH : Emb UH 𝕄 := embL
/-- The pipeline's rounds, in the middle component. -/
abbrev EP : Emb UP 𝕄 := (Emb.inl : Emb UP (UP × Counters)).trans embR

instance EP_landsIn : (EP : Emb UP 𝕄).LandsIn (upEmb : UEmb _ 𝕄) := by
  unfold EP embR; infer_instance

/-- The pipeline has no table to prefetch. -/
abbrev adm : (p : Fin 1) → (pcfgs (F := F) p).Adm := fun p => (cfgs p).toPCfg_adm

/-! ## The dense layer's body -/

/-- Memref `M`'s buffer on core `c`: its contents type, and it held whole at `f`. -/
abbrev Bf (c : Dev nD) {sp : Space} {S : Shape} {e : EltTy} (M : Memref sig .tc sp S e) : Type := Buf (Elt F) (M.view.loc (SparseCore.T c : Thread nD τ))
abbrev pt (c : Dev nD) {sp : Space} {S : Shape} {e : EltTy} (M : Memref sig .tc sp S e) (f : Bf (F := F) c M) : sProp 𝕄 :=
  M.view.loc (SparseCore.T c : Thread nD τ) ↦{fullShare} f

set_option maxHeartbeats 2000000 in
/-- What the body leaves in the result's staging buffer, with the proof that from the staging buffers held whole the
    body runs to its return, handing the operands' buffers back as they were. -/
noncomputable def denseRun (c : Dev nD) (M0 : Memref sig .tc .vmem S4096x128 .f32) (h0 : M0.IsWhole) (M1 : Memref sig .tc .vmem S4096x128 .f32) (h1 : M1.IsWhole)
    (M2 : Memref sig .tc .vmem S4096x128 .f32) (h2 : M2.IsWhole) (M3 : Memref sig .tc .vmem S384x128 .f32) (h3 : M3.IsWhole)
    (M4 : Memref sig .tc .vmem S1x128 .f32) (h4 : M4.IsWhole) (M5 : Memref sig .tc .vmem S4096x128 .f32) (h5 : M5.IsWhole)
    (f0 : Bf (F := F) c M0) (f1 : Bf (F := F) c M1) (f2 : Bf (F := F) c M2) (f3 : Bf (F := F) c M3) (f4 : Bf (F := F) c M4) :
    { W : Bf (F := F) c M5 // ∀ (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none (SparseCore.T c) none) E (cc1__tc_body M0 h0 M1 h1 M2 h2 M3 h3 M4 h4 M5 h5) Q } := by
  refine ⟨?_, fun f5 E Q => ?run⟩
  case run =>
    rw [cc1__tc_body_eq_skeleton]
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-! ## The proof data, at an entry valuation -/

variable (V : (c : Dev nD) → (b : Ref sig .tc) → Buf (Elt F) ((SparseCore.T c : Thread nD τ).loc b))

/-- The operands' blocks as the fetches stage them: each array at the entry valuation, read through its window. -/
abbrev stg0 (c : Dev nD) : (cfg1.win 0).block.Idx → Elt F (cfg1.win 0).elt := ((cfg1.win 0).blk t1_0).view.read (Elt F) (V c main_v2)
abbrev stg1 (c : Dev nD) : (cfg1.win 1).block.Idx → Elt F (cfg1.win 1).elt := ((cfg1.win 1).blk t1_0).view.read (Elt F) (V c main_v3)
abbrev stg2 (c : Dev nD) : (cfg1.win 2).block.Idx → Elt F (cfg1.win 2).elt := ((cfg1.win 2).blk t1_0).view.read (Elt F) (V c main_v1_2)
abbrev stg3 (c : Dev nD) : (cfg1.win 3).block.Idx → Elt F (cfg1.win 3).elt := ((cfg1.win 3).blk t1_0).view.read (Elt F) (V c main_arg4)
abbrev stg4 (c : Dev nD) : (cfg1.win 4).block.Idx → Elt F (cfg1.win 4).elt := ((cfg1.win 4).blk t1_0).view.read (Elt F) (V c main_v4)

/-- The run at the staged blocks. -/
abbrev runAt (c : Dev nD) := denseRun (F := F) c (stage1_0 0) (hstage1_0 0) (stage1_1 0) (hstage1_1 0) (stage1_2 0) (hstage1_2 0) (stage1_3 0) (hstage1_3 0)
  (stage1_4 0) (hstage1_4 0) (stage1_5 0) (hstage1_5 0) (stg0 V c) (stg1 V c) (stg2 V c) (stg3 V c) (stg4 V c)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

/-- The recorded waits the dense layer is entered with: those of the first call, all at or below its levels. -/
abbrev recd (c : Dev nD) : Set (SemLoc sig × HIx 1) := {p | (K (F := F)).lev (SparseCore.T c, p.1) p.2 ≤ 8 * SparseCore.Cfg.Blocks.fst (Q := 1) (N := 1) 1}

/-- The proof data: the arrays at `V`; after the body the operands' buffers as fetched and the result's at the run's
    value; the invariant; nothing owed; full shares. -/
def dat (c : Dev nD) : Pipeline.Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => (runAt V c).1
  Φ _ := Φc c
  q _ := fullShare
  owed _ := 0
  recorded _ := recd (F := F) c

/-- The family over the program's one pipeline. -/
def pdats : (p : Fin 1) → (c : Dev nD) → Pipeline.Dat τ (Elt F) (HIx 1) ℕ UU ℕ (Pipeline.pin (pcfgs (F := F)) adm p) c
  | ⟨0, _⟩ => fun c => dat V c

theorem before0 (c : Dev nD) (d : (cfg1.win 0).block.Idx → Elt F (cfg1.win 0).elt) : (dat V c).before 0 t1_0 d = stg0 V c := by
  unfold Pipeline.Dat.before; rw [if_pos (by decide)]; rfl
theorem before1 (c : Dev nD) (d : (cfg1.win 1).block.Idx → Elt F (cfg1.win 1).elt) : (dat V c).before 1 t1_0 d = stg1 V c := by
  unfold Pipeline.Dat.before; rw [if_pos (by decide)]; rfl
theorem before2 (c : Dev nD) (d : (cfg1.win 2).block.Idx → Elt F (cfg1.win 2).elt) : (dat V c).before 2 t1_0 d = stg2 V c := by
  unfold Pipeline.Dat.before; rw [if_pos (by decide)]; rfl
theorem before3 (c : Dev nD) (d : (cfg1.win 3).block.Idx → Elt F (cfg1.win 3).elt) : (dat V c).before 3 t1_0 d = stg3 V c := by
  unfold Pipeline.Dat.before; rw [if_pos (by decide)]; rfl
theorem before4 (c : Dev nD) (d : (cfg1.win 4).block.Idx → Elt F (cfg1.win 4).elt) : (dat V c).before 4 t1_0 d = stg4 V c := by
  unfold Pipeline.Dat.before; rw [if_pos (by decide)]; rfl

/-- The body's obligation at the pipeline's one point. -/
theorem body_obligation (c : Dev nD) : Pipeline.BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0
  rw [before1] at hf1
  rw [before2] at hf2
  rw [before3] at hf3
  rw [before4] at hf4
  subst hf0 hf1 hf2 hf3 hf4
  iapply ((runAt V c).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-! ## The region over the thread state -/

/-- The TensorCore's unscoped references: what the thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (SparseCore.T c) ucRefs W := by
  unfold unscopedBufs StableHlo.held ucRefs StableHlo.tcRefs
  rw [Finset.filter_map, bigSep_map]
  rfl

/-- The result's array after the region, as the library computes it. -/
def outAt (c : Dev nD) : Buf (Elt F) ((SparseCore.T c : Thread nD τ).loc main_v5) := (dat V c).arrAt 5 cfg1.N

variable (Vp : (c : Dev nD) → (b : Ref sig .tc) → Buf (Elt F) ((SparseCore.T c : Thread nD τ).loc b))

/-- What the core owes around the dense layer: nothing, with the waits it has recorded at or below the levels of the
    SparseCore's call. -/
abbrev owed1 (c : Dev nD) : sProp 𝕄 :=
  iprop(∃ W, ⌜(K (F := F)).WBelow (SparseCore.T c) W (8 * SparseCore.Cfg.Blocks.fst (Q := 1) (N := 1) 1)⌝ ∗ owes (SparseCore.T c) (0 : CellTallies nD τ sig (HIx 1)) W)

set_option backward.isDefEq.respectTransparency.types false in
/-- The dense layer over the thread state "every unscoped buffer at `V c`, and what the core owes": entered by taking
    the six arrays out of the unscoped buffers, left with them put back at `Vp`. -/
def reg (hVp_out : ∀ c, Vp c main_v5 = outAt V c)
    (hVp_ne : ∀ c (b : Ref sig .tc), b ≠ main_v5 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owed1 (F := F) c)
  post c := iprop(unscopedBufs c (Vp c) ∗ owed1 (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v2 (by decide)).symm
        · exact ((pdats V 0 c).arrAt_in 1 rfl _).trans (hVp_ne c main_v3 (by decide)).symm
        · exact ((pdats V 0 c).arrAt_in 2 rfl _).trans (hVp_ne c main_v1_2 (by decide)).symm
        · exact ((pdats V 0 c).arrAt_in 3 rfl _).trans (hVp_ne c main_arg4 (by decide)).symm
        · exact ((pdats V 0 c).arrAt_in 4 rfl _).trans (hVp_ne c main_v4 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.SegKernelIdeal

end
-- ==== Proof.Dense.lean ====
/-
  The dense layer's call within @main.
-/
module

public import proofs.«01_k».proof.Proof.Region

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

variable (V Vp : (c : Dev nD) → (b : Ref sig .tc) → Buf (Elt F) ((SparseCore.T c : Thread nD τ).loc b))

/-- What the dense layer's pipeline on device `d` draws from the launch. -/
abbrev G (d : Dev nD) : sProp 𝕄 := iprop(Pipeline.cellsGhost cfgs EP 0 d ∗ Pipeline.toksInit cfgs EP 0 d)

/-- @main's call of the dense layer. -/
abbrev denseCall : Prog (TpuEff nD τ sig (Elt F) (ΛP (F := F)) .tc) PUnit := .op (.customCall (Pipeline.entry 0) ()) fun x => .ret x

theorem denseCall_lift : SparseCore.liftProg (Q := 1) (denseCall (F := F)) = Prog.lift (.customCall (SparseCore.inner (Pipeline.entry 0)) ()) := rfl

set_option backward.isDefEq.respectTransparency.types false in
set_option maxHeartbeats 1000000 in
theorem dense_inner (h1 : ∀ c, Vp c main_v5 = outAt V c) (h2 : ∀ c (b : Ref sig .tc), b ≠ main_v5 → Vp c b = V c b) (d : Dev nD) (Q : PUnit → sProp 𝕄) :
    iprop((iprop(boundary (SparseCore.T d) ∗ (unscopedBufs d (Vp d) ∗ owed1 (F := F) d)) -∗ Q ⟨⟩)
        ∗ boundary (SparseCore.T d) ∗ (unscopedBufs d (V d) ∗ owed1 (F := F) d) ∗ levAts (K (F := F)).L (K (F := F)).lev ∗ G (F := F) d)
      ⊢ wp frame (wpE (D (F := F)) 𝒱 (SparseCore.T d) none) Set.univ (denseCall (F := F)) Q := by
  have H : iprop((iprop(boundary (SparseCore.T d) ∗ (unscopedBufs d (Vp d) ∗ owed1 (F := F) d))
          -∗ wp frame (wpE (D (F := F)) 𝒱 (SparseCore.T d) none) Set.univ (.ret ⟨⟩ : Prog (TpuEff nD τ sig (Elt F) (ΛP (F := F)) .tc) PUnit) Q)
        ∗ boundary (SparseCore.T d) ∗ (unscopedBufs d (V d) ∗ owed1 (F := F) d) ∗ levAts (K (F := F)).L (K (F := F)).lev ∗ G (F := F) d)
      ⊢ wp frame (wpE (D (F := F)) 𝒱 (SparseCore.T d) none) Set.univ (denseCall (F := F)) Q :=
    Pipeline.RegionSeg.wp (pcfgs (F := F)) adm (pdats V) (none : HIx 1) cellOf_inj EP defs₀ 𝒱₀ (K (F := F)).L (K (F := F)).lev
    (reg V Vp h1 h2) d none (fun u hu => nomatch hu) (fun x => .ret x) Q
  have E : iprop((iprop(boundary (SparseCore.T d) ∗ (unscopedBufs d (Vp d) ∗ owed1 (F := F) d)) -∗ Q ⟨⟩)
        ∗ boundary (SparseCore.T d) ∗ (unscopedBufs d (V d) ∗ owed1 (F := F) d) ∗ levAts (K (F := F)).L (K (F := F)).lev ∗ G (F := F) d)
      ⊢ (iprop((iprop(boundary (SparseCore.T d) ∗ (unscopedBufs d (Vp d) ∗ owed1 (F := F) d))
          -∗ wp frame (wpE (D (F := F)) 𝒱 (SparseCore.T d) none) Set.univ (.ret ⟨⟩ : Prog (TpuEff nD τ sig (Elt F) (ΛP (F := F)) .tc) PUnit) Q)
        ∗ boundary (SparseCore.T d) ∗ (unscopedBufs d (V d) ∗ owed1 (F := F) d) ∗ levAts (K (F := F)).L (K (F := F)).lev ∗ G (F := F) d) : sProp 𝕄) := by
    iintro ⟨HQ, Hb, Hpre, HL, HG⟩
    isplitl [HQ]
    · iintro H
      rw [wp_ret]; imodintro
      iapply HQ; iexact H
    isplitl [Hb]; · iexact Hb
    isplitl [Hpre]; · iexact Hpre
    isplitl [HL]; · iexact HL
    iexact HG
  exact E.trans H

/-- The dense layer's call of @main, from the arrays before it to the arrays after it. -/
theorem dense_step (h1 : ∀ c, Vp c main_v5 = outAt V c) (h2 : ∀ c (b : Ref sig .tc), b ≠ main_v5 → Vp c b = V c b) (d : Dev nD) (Q : PUnit → sProp 𝕄) :
    iprop((iprop(boundary (SparseCore.T d) ∗ (unscopedBufs d (Vp d) ∗ owed1 (F := F) d)) -∗ Q ⟨⟩)
        ∗ boundary (SparseCore.T d) ∗ (unscopedBufs d (V d) ∗ owed1 (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have H := (K (F := F)).wp_liftProg (D (F := F)) 𝒱 (SparseCore.T d) Set.univ none (denseCall (F := F)) Q
  rw [denseCall_lift] at H
  exact (dense_inner V Vp h1 h2 d Q).trans H

end Cert.Proof.SegKernelIdeal

end
-- ==== Proof.Launch.lean ====
/-
  The launch: @main's operations in order, and the program's run.
-/
module

public import proofs.«01_k».proof.Proof.Split
public import proofs.«01_k».proof.Proof.Dense

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

open Idealize.ShloMosaic.StableHlo (held)

variable (m : (ℓ : Loc nD τ sig) → Buf (Elt F) ℓ) (ρ : Dev nD → PrngReg)

/-! ## The arrays' contents from one operation of @main to the next -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev r0' : DevRef τ sig := Proc.devRef .tc (main_v0 : Ref sig .tc)
abbrev rM' : DevRef τ sig := Proc.devRef .tc (main_v1_0 : Ref sig .tc)
abbrev rX' : DevRef τ sig := Proc.devRef .tc (main_v1_1 : Ref sig .tc)
abbrev rR' : DevRef τ sig := Proc.devRef .tc (main_v1_2 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

abbrev op2 : HloOp τ sig (Elt F) := StableHlo.reshape main_v1_0 main_v2 (rfl : (.f32 : EltTy) = .f32) shapeCasts_S524288_S4096x128
abbrev op3 : HloOp τ sig (Elt F) := StableHlo.reshape main_v1_1 main_v3 (rfl : (.f32 : EltTy) = .f32) shapeCasts_S524288_S4096x128
abbrev op4 : HloOp τ sig (Elt F) := StableHlo.reshape main_arg5 main_v4 (rfl : (.f32 : EltTy) = .f32) shapeCasts_S128_S1x128

/-- At the launch, and after the node numbers are copied into rows of sixteen. -/
def V0 (d : Dev nD) : Valuation τ sig (Elt F) := fun b => m (d, b)
def V1 (d : Dev nD) : Valuation τ sig (Elt F) := (opJ (F := F)).result (V0 m d)
/-- After the SparseCore's call: the three results it wrote. -/
def V2 (d : Dev nD) : Valuation τ sig (Elt F) :=
  Function.update (Function.update (Function.update (V1 m d) rM' (gMean m d)) rX' (gMax m d)) rR' (gRoot m d)
/-- After the three changes of shape before the dense layer. -/
def V3 (d : Dev nD) : Valuation τ sig (Elt F) := (op4 (F := F)).result ((op3 (F := F)).result ((op2 (F := F)).result (V2 m d)))
/-- After the dense layer: the result. -/
def V4 (d : Dev nD) : Valuation τ sig (Elt F) := Function.update (V3 m d) r5' (outAt (fun c b => V3 m c b) d)

/-- The result of the whole program. -/
def outcome (d : Dev nD) : Buf (Elt F) ((SparseCore.T d : Thread nD τ).loc main_v5) := outAt (fun c b => V3 m c b) d

theorem V1_ne (d : Dev nD) {b : DevRef τ sig} (h : b ∉ ({r0'} : Finset (DevRef τ sig))) : V1 m d b = m (d, b) :=
  (opJ (F := F)).result_of_not_mem (V0 m d) h

theorem V2_ne (d : Dev nD) {b : DevRef τ sig} (h : b ≠ rM') (h' : b ≠ rX') (h'' : b ≠ rR') : V2 m d b = V1 m d b := by
  unfold V2
  rw [Function.update_of_ne h'', Function.update_of_ne h', Function.update_of_ne h]
theorem V2_M (d : Dev nD) : V2 m d rM' = gMean m d := by
  unfold V2
  rw [Function.update_of_ne (by decide), Function.update_of_ne (by decide), Function.update_self]
theorem V2_X (d : Dev nD) : V2 m d rX' = gMax m d := by
  unfold V2
  rw [Function.update_of_ne (by decide), Function.update_self]
theorem V2_R (d : Dev nD) : V2 m d rR' = gRoot m d := by
  unfold V2
  rw [Function.update_self]

theorem V3_ne (d : Dev nD) {b : DevRef τ sig} (h : b ∉ ({r2'} : Finset (DevRef τ sig))) (h' : b ∉ ({r3'} : Finset (DevRef τ sig)))
    (h'' : b ∉ ({r4'} : Finset (DevRef τ sig))) : V3 m d b = V2 m d b := by
  unfold V3
  rw [(op4 (F := F)).result_of_not_mem _ h'', (op3 (F := F)).result_of_not_mem _ h', (op2 (F := F)).result_of_not_mem _ h]

theorem V4_out (d : Dev nD) : V4 m d r5' = outcome m d := Function.update_self _ _ _
theorem V4_ne (d : Dev nD) {b : DevRef τ sig} (h : b ≠ r5') : V4 m d b = V3 m d b := Function.update_of_ne h _ _

/-- An argument keeps its launch contents to the end. -/
theorem V4_arg (d : Dev nD) {b : DevRef τ sig} (h : b ∈ ({a0', a1', a2', a3', a4', a5'} : Finset (DevRef τ sig))) : V4 m d b = m (d, b) := by
  have key : ∀ b ∈ ({a0', a1', a2', a3', a4', a5'} : Finset (DevRef τ sig)), b ≠ r5' ∧ (b ∉ ({r2'} : Finset (DevRef τ sig)) ∧ b ∉ ({r3'} : Finset (DevRef τ sig))
      ∧ b ∉ ({r4'} : Finset (DevRef τ sig))) ∧ (b ≠ rM' ∧ b ≠ rX' ∧ b ≠ rR') ∧ b ∉ ({r0'} : Finset (DevRef τ sig)) := by decide
  obtain ⟨h1, ⟨h2, h3, h4⟩, ⟨h5, h6, h7⟩, h8⟩ := key b h
  rw [V4_ne m d h1, V3_ne m d h2 h3 h4, V2_ne m d h5 h6 h7, V1_ne m d h8]

/-! ## The call's arrays out of all of them, and back -/

/-- The arrays the SparseCore's call is given. -/
abbrev callRefs : Finset (DevRef τ sig) := {a0', a1', r0', a2', rM', rX', rR'}

theorem callRefs_sub : callRefs ⊆ ucRefs := by decide

omit [FloatOps F] in
theorem held_call (d : Dev nD) (W : Valuation τ sig (Elt F)) :
    (held (SparseCore.T d) callRefs W : sProp 𝕄)
      = iprop((lX d ↦{fullShare} W a0') ∗ (lI d ↦{fullShare} W a1') ∗ (lJ d ↦{fullShare} W r0') ∗ (lR d ↦{fullShare} W a2')
          ∗ (lM d ↦{fullShare} W rM') ∗ (lMx d ↦{fullShare} W rX') ∗ lRt d ↦{fullShare} W rR') := by
  unfold StableHlo.held callRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_V1 (d : Dev nD) :
    (held (SparseCore.T d) ucRefs (V1 m d) : sProp 𝕄) = iprop(arrIn m d ∗ held (SparseCore.T d) (ucRefs \ callRefs) (V1 m d)) := by
  rw [StableHlo.held_sub_split (SparseCore.T d) callRefs_sub (V1 m d), held_call,
    V1_ne m d (b := a0') (by decide), V1_ne m d (b := a1') (by decide), V1_ne m d (b := a2') (by decide),
    V1_ne m d (b := rM') (by decide), V1_ne m d (b := rX') (by decide), V1_ne m d (b := rR') (by decide)]
  rfl

theorem held_V2 (d : Dev nD) :
    (held (SparseCore.T d) ucRefs (V2 m d) : sProp 𝕄) = iprop(arrOut m d ∗ held (SparseCore.T d) (ucRefs \ callRefs) (V1 m d)) := by
  have key : ∀ b ∈ ucRefs \ callRefs, b ≠ rM' ∧ b ≠ rX' ∧ b ≠ rR' := by decide
  rw [StableHlo.held_sub_split (SparseCore.T d) callRefs_sub (V2 m d), held_call, V2_M, V2_X, V2_R,
    V2_ne m d (b := a0') (by decide) (by decide) (by decide), V2_ne m d (b := a1') (by decide) (by decide) (by decide),
    V2_ne m d (b := a2') (by decide) (by decide) (by decide), V2_ne m d (b := r0') (by decide) (by decide) (by decide),
    V1_ne m d (b := a0') (by decide), V1_ne m d (b := a1') (by decide), V1_ne m d (b := a2') (by decide),
    StableHlo.held_congr (SparseCore.T d) (fun b hb => V2_ne m d (key b hb).1 (key b hb).2.1 (key b hb).2.2)]
  rfl

/-! ## The launch's ghost state -/

def u₀ : UU := (initOf (K (F := F)).hsCells (K (F := F)).hsToks, initOf (Pipeline.cells cfgs cellOf_inj) (Pipeline.launchToks cfgs cellOf_inj), 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HP⟩
  ihave H := (own_pair_emb embR (initOf (Pipeline.cells cfgs cellOf_inj) (Pipeline.launchToks cfgs cellOf_inj)) (1 : Counters)) $$ HP
  icases H with ⟨HP, -⟩
  imod (Pipeline.fund_ghost cfgs EP cellOf_inj) $$ HP with H
  icases H with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1)) :
        (bigSep Finset.univ fun d : Dev nD => bigSep Finset.univ fun p : Fin 1 => Pipeline.cellsGhost cfgs EP p d : sProp 𝕄)
          ⊢ bigSep Finset.univ (Pipeline.cellsGhost cfgs EP 0)); iexact Hc
    · iapply (Entails.of_eq (bigSep_congr fun d _ => bigSep_univ_of_subsingleton (0 : Fin 1)) :
        (bigSep Finset.univ fun d : Dev nD => bigSep Finset.univ fun p : Fin 1 => Pipeline.toksInit cfgs EP p d : sProp 𝕄)
          ⊢ bigSep Finset.univ (Pipeline.toksInit cfgs EP 0)); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem hJ : (opJ (F := F)).bufs ⊆ ucRefs := show ({a1', r0'} : Finset (DevRef τ sig)) ⊆ ucRefs by decide
theorem h2 : (op2 (F := F)).bufs ⊆ ucRefs := show ({rM', r2'} : Finset (DevRef τ sig)) ⊆ ucRefs by decide
theorem h3 : (op3 (F := F)).bufs ⊆ ucRefs := show ({rX', r3'} : Finset (DevRef τ sig)) ⊆ ucRefs by decide
theorem h4 : (op4 (F := F)).bufs ⊆ ucRefs := show ({a5', r4'} : Finset (DevRef τ sig)) ⊆ ucRefs by decide

/-- The launch's unscoped buffers are all of them held at their launch contents. -/
theorem unscoped_V0 (d : Dev nD) : (unscopedBufs d (fun b => m ((SparseCore.T d).loc b)) : sProp 𝕄) = held (SparseCore.T d) ucRefs (V0 m d) :=
  unscopedBufs_held d (V0 m d)

/-- After the one call the TensorCore owes nothing more. -/
theorem Otc_one (d : Dev nD) : (K (F := F)).Otc d 1 = (0 : CellTallies nD τ sig (HIx 1)) := by
  unfold SparseCore.Cfg.Otc
  exact Finset.sum_eq_zero fun q _ => if_neg (by have := q.isLt; omega)

/-- What @main leaves at the end: every array, the result at the outcome. -/
abbrev FIN (d : Dev nD) : sProp 𝕄 := held (SparseCore.T d) ucRefs (V4 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0]
  simp only [main, wp_bind, wp_pure]
  iintro ⟨#Hctx, Hst, ⟨Hb, Hheld, Hts, -⟩, HG⟩
  iapply (StableHlo.wp_hlo_within 𝒱 (SparseCore.T d) none Set.univ (op := opJ) (S := ucRefs) hJ (V := V0 m d)) $$ [Hb Hheld]
  · isplitl [Hb] <;> iassumption
  iintro ⟨Hb, Hheld⟩
  rw [wp_ret]; imodintro
  ihave H := (Entails.of_eq (show (held (SparseCore.T d) ucRefs ((opJ (F := F)).result (V0 m d)) : sProp 𝕄) = _ from held_V1 m d)) $$ Hheld
  icases H with ⟨Hin, Hrest⟩
  ihave H := (call_split m d) $$ Hin
  icases H with ⟨Hin, Hkept⟩
  iapply ((K (F := F)).wp_run (D (F := F)) 𝒱 (EH := EH) (P := P m) κ d 0) $$ [Hst Hin Hb Hrest Hkept Hts HG]
  isplitr; · iexact Hctx
  isplitl [Hst]; · iexact Hst
  isplitl [Hin]; · iexact Hin
  iintro ⟨Hst, Hdn⟩
  ihave Hout := (call_join m d) $$ [Hdn Hkept]
  · isplitl [Hdn] <;> iassumption
  ihave Hheld := (Entails.of_eq (held_V2 m d).symm) $$ [Hout Hrest]
  · isplitl [Hout] <;> iassumption
  iapply (StableHlo.wp_hlo_within 𝒱 (SparseCore.T d) none Set.univ (op := op2) (S := ucRefs) h2 (V := V2 m d)) $$ [Hb Hheld]
  · isplitl [Hb] <;> iassumption
  iintro ⟨Hb, Hheld⟩
  rw [wp_ret]; imodintro
  iapply (StableHlo.wp_hlo_within 𝒱 (SparseCore.T d) none Set.univ (op := op3) (S := ucRefs) h3 (V := (op2 (F := F)).result (V2 m d))) $$ [Hb Hheld]
  · isplitl [Hb] <;> iassumption
  iintro ⟨Hb, Hheld⟩
  rw [wp_ret]; imodintro
  iapply (StableHlo.wp_hlo_within 𝒱 (SparseCore.T d) none Set.univ (op := op4) (S := ucRefs) h4 (V := (op3 (F := F)).result ((op2 (F := F)).result (V2 m d)))) $$ [Hb Hheld]
  · isplitl [Hb] <;> iassumption
  iintro ⟨Hb, Hheld⟩
  rw [wp_ret]; imodintro
  ihave Hub := (Entails.of_eq (show (held (SparseCore.T d) ucRefs ((op4 (F := F)).result ((op3 (F := F)).result ((op2 (F := F)).result (V2 m d)))) : sProp 𝕄)
      = unscopedBufs d (fun b => V3 m d b) from (unscopedBufs_held d (V3 m d)).symm)) $$ Hheld
  ihave #HL := (SparseCore.Cfg.ctx_levAts κ) $$ Hctx
  unfold SparseCore.Cfg.tcSt
  icases Hst with ⟨HO, Hst⟩
  icases HO with ⟨%W0, %hW0, HO⟩
  ihave HO := (Entails.of_eq (show (owes (SparseCore.T d) ((K (F := F)).Otc d ((0 : Fin 1).val + 1)) W0 : sProp 𝕄)
      = owes (SparseCore.T d) (0 : CellTallies nD τ sig (HIx 1)) W0 by rw [show (K (F := F)).Otc d ((0 : Fin 1).val + 1) = 0 from Otc_one d])) $$ HO
  iapply (dense_step (fun c b => V3 m c b) (fun c b => V4 m c b) (fun c => V4_out m c)
    (fun c b h => V4_ne m c (fun e => h (Proc.devRef_injective _ e))) d _)
  isplitl [Hst Hts]
  · iintro ⟨Hb, Hub, HO⟩
    ihave Hheld := (Entails.of_eq (unscopedBufs_held d (V4 m d))) $$ Hub
    imodintro
    isplitl [HO Hst]
    · isplitl [HO]
      · rw [Otc_one]; iexact HO
      · iexact Hst
    isplitl [Hheld]; · iexact Hheld
    isplitl [Hb] <;> iassumption
  isplitl [Hb]; · iexact Hb
  isplitl [Hub HO]
  · isplitl [Hub]; · iexact Hub
    iexists W0; isplitr
    · ipureintro; exact hW0
    · iexact HO
  isplitr; · iexact HL
  iexact HG

/-! ## The program's run -/

/-- What a final state says of device `d`. -/
def fq (d : Dev nD) (s' : Phys nD τ sig (Elt F)) : Prop :=
  s'.mem.mem ((SparseCore.T d : Thread nD τ).loc main_v5) = outcome m d
    ∧ ∀ b ∈ ({a0', a1', a2', a3', a4', a5'} : Finset (DevRef τ sig)), s'.mem.mem (d, b) = m (d, b)

set_option maxRecDepth 16384 in
theorem hfin (d : Dev nD) (s' : Phys nD τ sig (Elt F)) : iprop(FIN m d ∗ SI s') ⊢ (⌜fq m d s'⌝ : sProp 𝕄) := by
  have sub : ({a0', a1', a2', a3', a4', a5'} : Finset (DevRef τ sig)) ⊆ ucRefs := by decide
  have key : ∀ b : DevRef τ sig, b ∈ ucRefs → (iprop(FIN m d ∗ SI s') ⊢ (⌜s'.mem.mem (d, b) = V4 m d b⌝ : sProp 𝕄)) := fun b hb => by
    iintro ⟨H, HSI⟩
    ihave H := (show (FIN m d : sProp 𝕄) ⊢ ((d, b) ↦{fullShare} V4 m d b) from bigSep_elim hb) $$ H
    ihave H := (SI_pointsTo_agree (st := s') (ℓ := (d, b)) (I := Finset.univ) (q := fullShare) (f := V4 m d b)) $$ [HSI H]
    · isplitl [HSI] <;> iassumption
    icases H with %h
    ipureintro; exact funext fun i => h i (Finset.mem_univ i)
  have all : iprop(FIN m d ∗ SI s') ⊢ (⌜∀ b : DevRef τ sig, b ∈ ucRefs → s'.mem.mem (d, b) = V4 m d b⌝ : sProp 𝕄) :=
    (forall_intro fun b => (forall_intro fun hb => key b hb).trans pure_forall.2).trans pure_forall.2
  refine all.trans (Laws.pure_mono fun h => ⟨(h r5' (by decide)).trans (V4_out m d), fun b hb => (h b (sub hb)).trans (V4_arg m d hb)⟩)

/-- Every weakly fair run ends, nothing in flight, with the result at the outcome and the arguments unchanged. -/
theorem run_main [∀ e, Nonempty (Elt F e)] (hpre : PreOK m) :
    θ_run (defs (F := F)) threads ⟨m, fun _ => 0, ρ⟩ (fun r => (∀ d, r.2.mem ((SparseCore.T d : Thread nD τ).loc main_v5) = outcome m d
      ∧ ∀ b ∈ ({a0', a1', a2', a3', a4', a5'} : Finset (DevRef τ sig)), r.2.mem (d, b) = m (d, b)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) u₀ (sep_elim_left.trans (hu₀ m)) (hmain m ρ) (fq m) (hfin m) _
    (fun _ h hz => ⟨h, hz⟩)

end Cert.Proof.SegKernelIdeal

end
-- ==== Proof.Frames.lean ====
/-
  The frames: every run of each program ends with its arguments unchanged and every counter at zero.
-/
module

public import proofs.«01_k».proof.Proof.Pre
public import proofs.«01_k».proof.Proof.Launch
public import proofs.«01_k».proof.Proof.KernelLaunch
public import proofs.«01_k».proof.Proof.Gen.ReferenceIdeal.Run

@[expose] public section

noncomputable section

namespace Cert.Proof

open Idealize.ShloMosaic Idealize.SL.Sem

/-- The kernel, at any floats, from a memory whose roots name rows of the table. -/
theorem frame_of {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : SegKernelIdeal.PreOK m) :
    θ_run (Cert.KernelIdeal.defs (F := F)) (Cert.KernelIdeal.threads (F := F)) ⟨m, fun _ => 0, g⟩ (fun r => (∀ c : Dev Cert.KernelIdeal.nD,
      (r.2.mem ((c.tc : Thread Cert.KernelIdeal.nD Cert.KernelIdeal.τ).loc Cert.KernelIdeal.main_v5) = SegKernelIdeal.outcome m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun r h => ⟨fun c => ⟨(h.1 c).1, (h.1 c).2 SegKernelIdeal.a0' (by decide), (h.1 c).2 SegKernelIdeal.a1' (by decide),
      (h.1 c).2 SegKernelIdeal.a2' (by decide), (h.1 c).2 SegKernelIdeal.a3' (by decide), (h.1 c).2 SegKernelIdeal.a4' (by decide), (h.1 c).2 SegKernelIdeal.a5' (by decide)⟩, h.2⟩)
    (SegKernelIdeal.run_main m g h)

theorem frame_PI : Cert.quiescent_KernelIdeal := fun m g hpre =>
  (θ_run Cert.KernelIdeal.defs _ _).mono (fun _ h => ⟨fun c => (h.1 c).2, h.2⟩) (frame_of (F := Ideal) m g fun d j => Pre.roots (hpre d) j)

theorem frame_P : Cert.quiescent_Kernel := fun m g hpre =>
  (θ_run Cert.Kernel.defs _ _).mono (fun r h => ⟨fun c => ⟨(h.1 c).2 SegKernel.a0' (by decide), (h.1 c).2 SegKernel.a1' (by decide),
      (h.1 c).2 SegKernel.a2' (by decide), (h.1 c).2 SegKernel.a3' (by decide), (h.1 c).2 SegKernel.a4' (by decide), (h.1 c).2 SegKernel.a5' (by decide)⟩, h.2⟩)
    (SegKernel.run_main (F := Bits) m g fun d j => Pre.roots (hpre d) j)

/-- The reference's run has no semaphore to leave anything on. -/
theorem frame_RI : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.PreSorted.lean ====
/-
  What the precondition of the algebraic claim says of the words of the argument arrays.
-/
module

public import proofs.«01_k».proof.Proof.Pre
public import proofs.«01_k».proof.Proof.Gen.Pre_sorted_segments
public import Idealize.ShloMosaic.Lib.ReduceAll
public import Idealize.ShloMosaic.Lib.Pointwise
public import Idealize.ShloMosaic.Lib.ViewIndex

@[expose] public section

noncomputable section

namespace Cert.Proof.Pre

open Idealize.ShloMosaic

variable {F : FTy → Type} [FloatOps F]

instance : Subsingleton (Cert.Pre_sorted_segments.S_.Idx) := ⟨fun a b => funext fun i => i.elim0⟩

/-- What the precondition of the algebraic claim says. -/
structure Sorted (I : IVec Cert.Pre_sorted_segments.S320000 32) (R K : IVec Cert.Pre_sorted_segments.S4096 32) : Prop where
  roots : ∀ j, (R j).toNat < 320000
  ids : ∀ i, (I i).toNat < 4096
  sorted : ∀ i : Fin 319999, (I (ix1 ⟨i.val, by omega⟩)).toNat ≤ (I (ix1 ⟨i.val + 1, by omega⟩)).toNat
  arange : ∀ j : Cert.Pre_sorted_segments.S4096.Idx, K j = BitVec.ofNat 32 (j 0).val

theorem sorted [Cert.Pre_sorted_segments.Facts] {X : FVec F Cert.Pre_sorted_segments.S320000x128 .f32} {I : IVec Cert.Pre_sorted_segments.S320000 32}
    {R K : IVec Cert.Pre_sorted_segments.S4096 32} {W : FVec F Cert.Pre_sorted_segments.S384x128 .f32} {b : FVec F Cert.Pre_sorted_segments.S128 .f32}
    (h : Cert.Pre_sorted_segments.fn (F := F) X I R K W b = fun _ => 1#1) : Sorted I R K := by
  have e := congrFun h (fun i => i.elim0)
  unfold Cert.Pre_sorted_segments.fn Cert.Pre_sorted_segments.fn_part1 at e
  obtain ⟨e, hK⟩ := and_one e
  obtain ⟨e, hS⟩ := and_one e
  obtain ⟨e, hI2⟩ := and_one e
  obtain ⟨e, hI1⟩ := and_one e
  obtain ⟨hR1, hR2⟩ := and_one e
  have ids : ∀ i, (I i).toNat < 4096 := fun i =>
    range_of (n := 4096#32) (by decide) (Host.reduce_andi_all _ _ _ _ _ hI1 i) (Host.reduce_andi_all _ _ _ _ _ hI2 i)
  refine ⟨fun j => range_of (n := 320000#32) (by decide) (Host.reduce_andi_all _ _ _ _ _ hR1 j) (Host.reduce_andi_all _ _ _ _ _ hR2 j), ids, fun i => ?_, fun j => ?_⟩
  · have q := Host.reduce_andi_all _ _ _ _ _ hS (ix1 i)
    have a1 : (extractStridedSlice Cert.Pre_sorted_segments.S319999 ![0] I Cert.Pre_sorted_segments.Facts.slices_S320000_S319999_0) (ix1 i)
        = I (ix1 ⟨i.val, by omega⟩) := congrArg I (funext fun a => match a with | ⟨0, _⟩ => Fin.ext (show 0 + i.val = i.val by omega))
    have a2 : (extractStridedSlice Cert.Pre_sorted_segments.S319999 ![1] I Cert.Pre_sorted_segments.Facts.slices_S320000_S319999_1) (ix1 i)
        = I (ix1 ⟨i.val + 1, by omega⟩) := congrArg I (funext fun a => match a with | ⟨0, _⟩ => Fin.ext (show 1 + i.val = i.val + 1 by omega))
    have q' : IntOp.cmpi .sle (I (ix1 ⟨i.val, by omega⟩)) (I (ix1 ⟨i.val + 1, by omega⟩)) = 1#1 := by
      rw [← a1, ← a2]; exact q
    exact le_of ((ids _).trans (by decide)) ((ids _).trans (by decide)) q'
  · have q := Host.reduce_andi_all _ _ _ _ _ hK j
    have ofBool_eq_one (p : Bool) : (BitVec.ofBool p = 1#1) ↔ p = true := by cases p <;> decide
    have q' : IntOp.cmpi .eq (K j) (BitVec.ofNat 32 (j 0).val) = 1#1 := q
    simpa [IntOp.cmpi, ofBool_eq_one] using q'

end Cert.Proof.Pre

end
-- ==== Proof.DenseVal.lean ====
/-
  The dense layer's result as the written-out dense arithmetic of the arrays it is given.
-/
module

public import proofs.«01_k».proof.Proof.Dense
public import Idealize.ShloMosaic.Lib.Pipeline.ValueKit.Point
public import Idealize.ShloMosaic.Lib.Pipeline.ValueKit.Acc

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "aVal" => (Memref.whole Cert.KernelIdeal.main_arg0_scv : Memref Cert.KernelIdeal.sig Kind.scVector Space.hbm Cert.KernelIdeal.S320000x128 EltTy.f32)
local notation "aIds" => (Memref.whole Cert.KernelIdeal.main_arg1_scv : Memref Cert.KernelIdeal.sig Kind.scVector Space.hbm Cert.KernelIdeal.S320000 EltTy.i32)
local notation "aId2" => (Memref.whole Cert.KernelIdeal.main_v0_scv : Memref Cert.KernelIdeal.sig Kind.scVector Space.hbm Cert.KernelIdeal.S20000x16 EltTy.i32)
local notation "aRts" => (Memref.whole Cert.KernelIdeal.main_arg2_scv : Memref Cert.KernelIdeal.sig Kind.scVector Space.hbm Cert.KernelIdeal.S4096 EltTy.i32)
local notation "aMean" => (Memref.whole Cert.KernelIdeal.main_v1_0_scv : Memref Cert.KernelIdeal.sig Kind.scVector Space.hbm Cert.KernelIdeal.S524288 EltTy.f32)
local notation "aMax" => (Memref.whole Cert.KernelIdeal.main_v1_1_scv : Memref Cert.KernelIdeal.sig Kind.scVector Space.hbm Cert.KernelIdeal.S524288 EltTy.f32)
local notation "aRoot" => (Memref.whole Cert.KernelIdeal.main_v1_2_scv : Memref Cert.KernelIdeal.sig Kind.scVector Space.hbm Cert.KernelIdeal.S4096x128 EltTy.f32)
local notation "bRow" => (Memref.whole Cert.KernelIdeal.cc0_scratch0 : Memref Cert.KernelIdeal.sig Kind.scVector Space.vmem Cert.KernelIdeal.S128x128 EltTy.f32)
local notation "bPrb" => (Memref.whole Cert.KernelIdeal.cc0_scratch1 : Memref Cert.KernelIdeal.sig Kind.scVector Space.vmem Cert.KernelIdeal.S1x16 EltTy.i32)
local notation "bMean" => (Memref.whole Cert.KernelIdeal.cc0_scratch2 : Memref Cert.KernelIdeal.sig Kind.scVector Space.vmem Cert.KernelIdeal.S16384 EltTy.f32)
local notation "bMax" => (Memref.whole Cert.KernelIdeal.cc0_scratch3 : Memref Cert.KernelIdeal.sig Kind.scVector Space.vmem Cert.KernelIdeal.S16384 EltTy.f32)
local notation "bRix" => (Memref.whole Cert.KernelIdeal.cc0_scratch4 : Memref Cert.KernelIdeal.sig Kind.scVector Space.vmem Cert.KernelIdeal.S128 EltTy.i32)
local notation "bRrow" => (Memref.whole Cert.KernelIdeal.cc0_scratch5 : Memref Cert.KernelIdeal.sig Kind.scVector Space.vmem Cert.KernelIdeal.S128x128 EltTy.f32)
local notation "bIds" => (Memref.whole Cert.KernelIdeal.cc0_scratch6 : Memref Cert.KernelIdeal.sig Kind.scVector Space.vmem Cert.KernelIdeal.S144 EltTy.i32)
local notation "𝕄" => MT nD τ sig (HIx 1) (Elt F) ℕ UU ℕ

/-- What the dense layer's body leaves in its result's buffer, at any buffers. -/
theorem denseRun_val (c : Dev nD) (M0 : Memref sig .tc .vmem S4096x128 .f32) (h0 : M0.IsWhole) (M1 : Memref sig .tc .vmem S4096x128 .f32) (h1 : M1.IsWhole)
    (M2 : Memref sig .tc .vmem S4096x128 .f32) (h2 : M2.IsWhole) (M3 : Memref sig .tc .vmem S384x128 .f32) (h3 : M3.IsWhole)
    (M4 : Memref sig .tc .vmem S1x128 .f32) (h4 : M4.IsWhole) (M5 : Memref sig .tc .vmem S4096x128 .f32) (h5 : M5.IsWhole)
    (f0 : Bf (F := F) c M0) (f1 : Bf (F := F) c M1) (f2 : Bf (F := F) c M2) (f3 : Bf (F := F) c M3) (f4 : Bf (F := F) c M4) :
    M5.view.read (Elt F) (denseRun c M0 h0 M1 h1 M2 h2 M3 h3 M4 h4 M5 h5 f0 f1 f2 f3 f4).1
      = k1_pay1 (View.read (Elt F) M0.view f0)
      (View.ld (View.read (Elt F) M3.view f3) (Rect.unit ![0, 0] ![128, 128] inb_S384x128_S128x128_0_0))
      (View.read (Elt F) M1.view f1)
      (View.ld (View.read (Elt F) M3.view f3) (Rect.unit ![128, 0] ![128, 128] inb_S384x128_S128x128_128_0))
      (View.read (Elt F) M2.view f2)
      (View.ld (View.read (Elt F) M3.view f3) (Rect.unit ![256, 0] ![128, 128] inb_S384x128_S128x128_256_0))
      (View.read (Elt F) M4.view f4) := by
  unfold denseRun
  dsimp only
  funext j
  unfold denseRun.sl.H5_1
  frame_out

variable (V : (c : Dev nD) → (b : Ref sig .tc) → Buf (Elt F) ((SparseCore.T c : Thread nD τ).loc b))

set_option maxRecDepth 100000 in
theorem stg0_eq (c : Dev nD) : stg0 V c = V c main_v2 := by
  funext i
  show V c main_v2 _ = V c main_v2 i
  refine congrArg (V c main_v2) (funext fun a => Fin.ext ?_)
  match a with
  | ⟨0, _⟩ => exact (Nat.zero_add _).trans (Nat.one_mul _)
  | ⟨1, _⟩ => exact (Nat.zero_add _).trans (Nat.one_mul _)

set_option maxRecDepth 100000 in
theorem stg1_eq (c : Dev nD) : stg1 V c = V c main_v3 := by
  funext i
  show V c main_v3 _ = V c main_v3 i
  refine congrArg (V c main_v3) (funext fun a => Fin.ext ?_)
  match a with
  | ⟨0, _⟩ => exact (Nat.zero_add _).trans (Nat.one_mul _)
  | ⟨1, _⟩ => exact (Nat.zero_add _).trans (Nat.one_mul _)

set_option maxRecDepth 100000 in
theorem stg2_eq (c : Dev nD) : stg2 V c = V c main_v1_2 := by
  funext i
  show V c main_v1_2 _ = V c main_v1_2 i
  refine congrArg (V c main_v1_2) (funext fun a => Fin.ext ?_)
  match a with
  | ⟨0, _⟩ => exact (Nat.zero_add _).trans (Nat.one_mul _)
  | ⟨1, _⟩ => exact (Nat.zero_add _).trans (Nat.one_mul _)

set_option maxRecDepth 100000 in
theorem stg3_eq (c : Dev nD) : stg3 V c = V c main_arg4 := by
  funext i
  show V c main_arg4 _ = V c main_arg4 i
  refine congrArg (V c main_arg4) (funext fun a => Fin.ext ?_)
  match a with
  | ⟨0, _⟩ => exact (Nat.zero_add _).trans (Nat.one_mul _)
  | ⟨1, _⟩ => exact (Nat.zero_add _).trans (Nat.one_mul _)

set_option maxRecDepth 100000 in
theorem stg4_eq (c : Dev nD) : stg4 V c = V c main_v4 := by
  funext i
  show V c main_v4 _ = V c main_v4 i
  refine congrArg (V c main_v4) (funext fun a => Fin.ext ?_)
  match a with
  | ⟨0, _⟩ => exact (Nat.zero_add _).trans (Nat.one_mul _)
  | ⟨1, _⟩ => exact (Nat.zero_add _).trans (Nat.one_mul _)

/-- What the one step leaves in the result's buffer. -/
theorem runAt_val (c : Dev nD) :
    (runAt V c).1 = k1_pay1 (F := F) (stg0 V c) (View.ld (stg3 V c) (Rect.unit ![0, 0] ![128, 128] inb_S384x128_S128x128_0_0)) (stg1 V c)
      (View.ld (stg3 V c) (Rect.unit ![128, 0] ![128, 128] inb_S384x128_S128x128_128_0))
      (stg2 V c) (View.ld (stg3 V c) (Rect.unit ![256, 0] ![128, 128] inb_S384x128_S128x128_256_0)) (stg4 V c) :=
  denseRun_val c (stage1_0 0) (hstage1_0 0) (stage1_1 0) (hstage1_1 0) (stage1_2 0) (hstage1_2 0) (stage1_3 0) (hstage1_3 0)
    (stage1_4 0) (hstage1_4 0) (stage1_5 0) (hstage1_5 0) (stg0 V c) (stg1 V c) (stg2 V c) (stg3 V c) (stg4 V c)

set_option maxRecDepth 100000 in
theorem outAt_run (c : Dev nD) : outAt V c = (runAt V c).1 := by
  unfold outAt
  refine (dat V c).arrAt_eq_of_after_last 5 t1_0 (by decide +kernel) _ fun j => ?_
  have ha : (dat V c).after 5 t1_0 = (runAt V c).1 := by
    dsimp only [dat]
  generalize (runAt V c).1 = f at ha ⊢
  rw [ha]
  rfl

/-- The dense layer's result, from the arrays it is given. -/
theorem outAt_eq (c : Dev nD) :
    outAt V c = k1_pay1 (F := F) (V c main_v2) (View.ld (V c main_arg4) (Rect.unit ![0, 0] ![128, 128] inb_S384x128_S128x128_0_0)) (V c main_v3)
      (View.ld (V c main_arg4) (Rect.unit ![128, 0] ![128, 128] inb_S384x128_S128x128_128_0))
      (V c main_v1_2) (View.ld (V c main_arg4) (Rect.unit ![256, 0] ![128, 128] inb_S384x128_S128x128_256_0)) (V c main_v4) := by
  rw [outAt_run, runAt_val, stg0_eq, stg1_eq, stg2_eq, stg3_eq, stg4_eq]

end Cert.Proof.SegKernelIdeal

end
-- ==== Proof.RefTerm.lean ====
/-
  The reference's result, in stages: the index words of a gather, the sums, counts and maxima of the segments, the rows that the dense layer
  reads, the dense layer and the unit norm. The composed term of the reference's run is these stages put together.
-/
module

public import proofs.«01_k».proof.Proof.Gen.ReferenceIdeal.Run

@[expose] public section

noncomputable section

namespace Cert.Proof.SegRef

open Cert.ReferenceIdeal Cert.ReferenceIdeal.Gen Idealize.ShloMosaic Idealize.ShloMosaic.TcCoe Idealize.SL.Sem

variable {F : FTy → Type} [FloatOps F]

/-- The rows a gather reads: a negative word counts from the end. -/
def ixOf (K : IVec S4096 32) (n : BitVec 32) : IVec S4096x1 32 :=
  broadcastInDim S4096x1 ![0] bcast_S4096_S4096x1_0 (select (cmpi .slt K (broadcastInDim S4096 ![] bcast_S_S4096 (constantI S_ 32 0#32)))
    (addi K (broadcastInDim S4096 ![] bcast_S_S4096 (constantI S_ 32 n))) K)

/-- Whether a row lies inside the table. -/
def okOf (J : IVec S4096x1 32) (n : BitVec 32) : IVec S4096 1 :=
  Host.reduce IntOp.andi (andi (cmpi .sge J (broadcastInDim S4096x1 ![] bcast_S_S4096x1 (constantI S_ 32 0#32)))
    (cmpi .sle J (broadcastInDim S4096x1 ![0, 1] bcast_S1x1_S4096x1_0_1 (broadcastInDim S1x1 ![1] bcast_S1_S1x1_1 (constantI S1 32 n)))))
    (constantI S_ 1 1#1) reducesTo_S4096x1_S4096_d1 h_S_

/-- The root rows. -/
def roots (X : FVec F S320000x128 .f32) (R : IVec S4096 32) : FVec F S4096x128 .f32 :=
  select (broadcastInDim S4096x128 ![0] bcast_S4096_S4096x128_0 (okOf (ixOf R 320000#32) 319999#32))
    (Host.gather gather_S320000x128_S4096x1_S4096x128_1_0_n_n_0_1_1128 X (ixOf R 320000#32))
    (broadcastInDim S4096x128 ![] bcast_S_S4096x128 (constant S_ .f32 0x7FC00000#32))

/-- The rows of a table of segments. -/
def taken (Y : FVec F S4096x256 .f32) (K : IVec S4096 32) : FVec F S4096x256 .f32 :=
  select (broadcastInDim S4096x256 ![0] bcast_S4096_S4096x256_0 (okOf (ixOf K 4096#32) 4095#32))
    (Host.gather gather_S4096x256_S4096x1_S4096x256_1_0_n_n_0_1_1256 Y (ixOf K 4096#32))
    (broadcastInDim S4096x256 ![] bcast_S_S4096x256 (constant S_ .f32 0x7FC00000#32))

/-- How many rows a segment has. -/
def counts (I : IVec S320000 32) : FVec F S4096x1 .f32 :=
  Host.scatterAdd scatter_S4096x1_S320000x1_S320000x1_1_0_0_1 (broadcastInDim S4096x1 ![] bcast_S_S4096x1 (constant S_ .f32 0x00000000#32))
    (broadcastInDim S320000x1 ![0] bcast_S320000_S320000x1_0 I) (broadcastInDim S320000x1 ![] bcast_S_S320000x1 (constant S_ .f32 0x3F800000#32))

/-- The sum of a segment's rows. -/
def sums (X : FVec F S320000x128 .f32) (I : IVec S320000 32) : FVec F S4096x128 .f32 :=
  Host.scatterAdd scatter_S4096x128_S320000x1_S320000x128_1_0_0_1 (broadcastInDim S4096x128 ![] bcast_S_S4096x128 (constant S_ .f32 0x00000000#32))
    (broadcastInDim S320000x1 ![0] bcast_S320000_S320000x1_0 I) X

/-- The segments' means. -/
def means (X : FVec F S320000x128 .f32) (I : IVec S320000 32) : FVec F S4096x128 .f32 :=
  Host.divf (sums X I) (broadcastInDim S4096x128 ![0, 1] bcast_S4096x1_S4096x128_0_1
    (maximumf (counts I) (broadcastInDim S4096x1 ![] bcast_S_S4096x1 (constant S_ .f32 0x3F800000#32))))

/-- Which rows a segment has. -/
def hits (I : IVec S320000 32) : IVec S4096x320000 1 :=
  cmpi .eq (broadcastInDim S4096x320000 ![0, 1] bcast_S1x320000_S4096x320000_0_1 (broadcastInDim S1x320000 ![1] bcast_S320000_S1x320000_1 I))
    (broadcastInDim S4096x320000 ![0, 1] bcast_S4096x1_S4096x320000_0_1 (broadcastInDim S4096x1 ![0] bcast_S4096_S4096x1_0 (iotaInDim S4096 32 0)))

/-- The rows, those of other segments masked out. -/
def masked (X : FVec F S320000x128 .f32) (I : IVec S320000 32) : FVec F S4096x320000x128 .f32 :=
  select (broadcastInDim S4096x320000x128 ![0, 1, 2] bcast_S4096x320000x1_S4096x320000x128_0_1_2
      (broadcastInDim S4096x320000x1 ![0, 1] bcast_S4096x320000_S4096x320000x1_0_1 (hits I)))
    (broadcastInDim S4096x320000x128 ![0, 1, 2] bcast_S1x320000x128_S4096x320000x128_0_1_2
      (broadcastInDim S1x320000x128 ![1, 2] bcast_S320000x128_S1x320000x128_1_2 X))
    (broadcastInDim S4096x320000x128 ![] bcast_S_S4096x320000x128 (id (constant S_ .f32 0xFF800000#32)))

/-- The segments' maxima, zero where a segment is empty. -/
def maxima (X : FVec F S320000x128 .f32) (I : IVec S320000 32) : FVec F S4096x128 .f32 :=
  select (broadcastInDim S4096x128 ![0, 1] bcast_S4096x1_S4096x128_0_1
      (cmpf .ogt (counts I : FVec F S4096x1 .f32) (broadcastInDim S4096x1 ![] bcast_S_S4096x1 (constant S_ .f32 0x00000000#32))))
    (Host.reduce FloatOps.maximumf (masked X I) (constant S_ .f32 0xFF800000#32) reducesTo_S4096x320000x128_S4096x128_d1 h_S_)
    (broadcastInDim S4096x128 ![] bcast_S_S4096x128 (constant S_ .f32 0x00000000#32))

/-- Means beside maxima. -/
def table (M Q : FVec F S4096x128 .f32) : FVec F S4096x256 .f32 :=
  concatenate S4096x256 1 [⟨S4096x128, M⟩, ⟨S4096x128, Q⟩] concatenates_S4096x128_S4096x128_S4096x256_d1

/-- What the dense layer reads. -/
def embs (A : FVec F S4096x256 .f32) (B : FVec F S4096x128 .f32) : FVec F S4096x384 .f32 :=
  concatenate S4096x384 1 [⟨S4096x256, A⟩, ⟨S4096x128, B⟩] concatenates_S4096x256_S4096x128_S4096x384_d1

/-- The dense layer. -/
def dense (E : FVec F S4096x384 .f32) (W : FVec F S384x128 .f32) (b : FVec F S128 .f32) : FVec F S4096x128 .f32 :=
  addf (Host.dotGeneral dot_S4096x384_S384x128_S4096x128_1_0_0_1_n_n none E W)
    (broadcastInDim S4096x128 ![0, 1] bcast_S1x128_S4096x128_0_1 (broadcastInDim S1x128 ![1] bcast_S128_S1x128_1 b))

/-- The unit norm. -/
def unit (x : FVec F S4096x128 .f32) : FVec F S4096x128 .f32 :=
  Host.divf x (broadcastInDim S4096x128 ![0, 1] bcast_S4096x1_S4096x128_0_1 (addf (broadcastInDim S4096x1 ![] bcast_S_S4096x1 (constant S_ .f32 0x33D6BF95#32))
    (Host.sqrt (broadcastInDim S4096x1 ![0] bcast_S4096_S4096x1_0
      (Host.reduceAdd (mulf x x) (constant S_ .f32 0x00000000#32) reducesTo_S4096x128_S4096_d1 h_S_)))))

/-- The whole reference. -/
def refOut (X : FVec F S320000x128 .f32) (I : IVec S320000 32) (R K : IVec S4096 32) (W : FVec F S384x128 .f32) (b : FVec F S128 .f32) :
    FVec F S4096x128 .f32 :=
  unit (dense (embs (taken (table (means X I) (maxima X I)) K) (roots X R)) W b)

set_option maxRecDepth 8192 in
theorem res_eq (m : (ℓ : Loc nD τ sig) → Buf (Elt F) ℓ) (c : Dev nD) :
    Value.res_main_v40 m c = refOut (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.Proof.SegRef

end
-- ==== Proof.FoldVal.lean ====
/-
  What a subcore's scan leaves, over the extended reals: each segment's mean and maximum over the rows scanned.
-/
module

public import proofs.«01_k».proof.Proof.TileVals
public import Idealize.ShloMosaic.Lib.IdealHost
public import Idealize.ShloMosaic.PureOps.Ideal.Laws

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

/-! ## A segment's rows in a window, and what they add up to -/

/-- The rows of segment `q` among the `n` rows from `lo` on. -/
def seg (d : ℕ → ℕ) (lo n q : ℕ) : Finset ℕ := (Finset.Ico lo (lo + n)).filter fun i => d i = q

/-- Their count, sum, maximum, and the mean and maximum that are written out: zero for no rows. -/
def sCnt (A : Finset ℕ) : EReal := ∑ _i ∈ A, (1 : EReal)
def sSum (v : ℕ → EReal) (A : Finset ℕ) : EReal := ∑ i ∈ A, v i
def sMx (v : ℕ → EReal) (A : Finset ℕ) : EReal := A.sup v
def wMean (v : ℕ → EReal) (A : Finset ℕ) : EReal := if A = ∅ then 0 else Ideal.div (sSum v A) (sCnt A)
def wMax (v : ℕ → EReal) (A : Finset ℕ) : EReal := if A = ∅ then 0 else sMx v A

theorem seg_zero (d : ℕ → ℕ) (lo q : ℕ) : seg d lo 0 q = ∅ := by unfold seg; rw [Nat.add_zero, Finset.Ico_self, Finset.filter_empty]

theorem seg_succ (d : ℕ → ℕ) (lo n q : ℕ) : seg d lo (n + 1) q = if d (lo + n) = q then insert (lo + n) (seg d lo n q) else seg d lo n q := by
  unfold seg
  rw [← Nat.add_assoc, Nat.Ico_succ_right_eq_insert_Ico (Nat.le_add_right _ _), Finset.filter_insert]

theorem not_mem_seg (d : ℕ → ℕ) (lo n q : ℕ) : lo + n ∉ seg d lo n q := fun h => by
  have := (Finset.mem_Ico.mp (Finset.mem_of_mem_filter _ h)).2; omega

theorem seg_succ_same {d : ℕ → ℕ} {lo n q : ℕ} (h : d (lo + n) = q) : seg d lo (n + 1) q = insert (lo + n) (seg d lo n q) := by
  rw [seg_succ, if_pos h]
theorem seg_succ_ne {d : ℕ → ℕ} {lo n q : ℕ} (h : d (lo + n) ≠ q) : seg d lo (n + 1) q = seg d lo n q := by
  rw [seg_succ, if_neg h]

/-- In sorted rows a segment that begins now has no row before. -/
theorem seg_new {d : ℕ → ℕ} {N lo n : ℕ} (hs : ∀ i j, i ≤ j → j < N → d i ≤ d j) (hn : 0 < n) (hN : lo + n < N) (h : d (lo + n) ≠ d (lo + n - 1)) :
    seg d lo n (d (lo + n)) = ∅ := by
  unfold seg
  rw [Finset.filter_eq_empty_iff]
  intro i hi e
  rw [Finset.mem_Ico] at hi
  have h1 := hs i (lo + n - 1) (by omega) (by omega)
  have h2 := hs (lo + n - 1) (lo + n) (by omega) hN
  omega

theorem seg_last_ne {d : ℕ → ℕ} {lo n : ℕ} (hn : 0 < n) : seg d lo n (d (lo + n - 1)) ≠ ∅ := by
  refine Finset.nonempty_iff_ne_empty.mp ⟨lo + n - 1, Finset.mem_filter.mpr ⟨Finset.mem_Ico.mpr ⟨by omega, by omega⟩, rfl⟩⟩

theorem sCnt_pos {A : Finset ℕ} (h : A ≠ ∅) : 0 < sCnt A := by
  obtain ⟨i, hi⟩ := Finset.nonempty_iff_ne_empty.mpr h
  exact lt_of_lt_of_le zero_lt_one (Finset.single_le_sum (f := fun _ => (1 : EReal)) (fun _ _ => zero_le_one) hi)

/-! ## The scalar operations over the extended reals -/

theorem sel_ne {w : ℕ} {α : Type} (a b : BitVec w) (x y : α) : Scalar.select (Scalar.cmpi .ne a b) x y = if a ≠ b then x else y := by
  by_cases h : a = b
  · rw [if_neg (not_not.mpr h)]; subst h
    show (if BitVec.ofBool (a != a) = 1 then x else y) = y
    rw [bne_self_eq_false]; rfl
  · rw [if_pos h]
    show (if BitVec.ofBool (a != b) = 1 then x else y) = x
    rw [(bne_iff_ne).mpr h]; rfl

theorem fz_eq : (fz : Ideal .f32) = 0 := Ideal.ofBits_zero_f32
theorem fo_eq : (fo : Ideal .f32) = 1 := Ideal.ofBits_one_f32

theorem some_of_pos {s : RowSt Ideal} (h : (0 : EReal) < s.cnt) : s.some = 1#1 := by
  show BitVec.ofBool (decide ((fz : Ideal .f32) < s.cnt)) = 1#1
  rw [fz_eq, decide_eq_true h]; rfl

/-! ## The buffers by row and column -/

theorem ix_lt (r l : Fin 128) : 128 * r.val + l.val < 16384 := by have := r.isLt; have := l.isLt; omega

/-- Entry `(r, l)` of a subcore's buffer. -/
def bAt (f : S16384.Idx → Ideal .f32) (r l : Fin 128) : EReal := f (ix1 ⟨128 * r.val + l.val, ix_lt r l⟩)

/-- Column `l` as a block and a lane. -/
def cB (l : Fin 128) : Fin 8 := ⟨l.val / 16, by have := l.isLt; omega⟩
def cL (l : Fin 128) : S16.Idx := ix1 ⟨l.val % 16, Nat.mod_lt _ (by decide)⟩

theorem bAt_put8 (r0 : ℕ) (w : Fin 8 → S16.Idx → Ideal .f32) (f : S16384.Idx → Ideal .f32) (r l : Fin 128) :
    bAt (put8 (r0 * 128) w f) r l = if r.val = r0 then w (cB l) (cL l) else bAt f r l := by
  have hl := l.isLt
  unfold bAt put8
  show (if h : r0 * 128 ≤ 128 * r.val + l.val ∧ 128 * r.val + l.val < r0 * 128 + 128 then
    w ⟨(128 * r.val + l.val - r0 * 128) / 16, _⟩ (ix1 ⟨(128 * r.val + l.val - r0 * 128) % 16, _⟩) else _) = _
  by_cases h : r.val = r0
  · subst h
    rw [dif_pos (by omega), if_pos rfl]
    have e : 128 * r.val + l.val - r.val * 128 = l.val := by omega
    have e1 : (⟨(128 * r.val + l.val - r.val * 128) / 16, by omega⟩ : Fin 8) = cB l := Fin.ext (by show _ / 16 = l.val / 16; rw [e])
    have e2 : (ix1 ⟨(128 * r.val + l.val - r.val * 128) % 16, Nat.mod_lt _ (by decide)⟩ : S16.Idx) = cL l := by
      unfold cL; congr 1; exact Fin.ext (by show _ % 16 = l.val % 16; rw [e])
    rw [e1, e2]
  · rw [dif_neg (by omega), if_neg h]

/-! ## The scan -/

variable (L : grid0.Coords) (I : S320000.Idx → BitVec 32) (X : S320000x128.Idx → Ideal .f32)

/-- The segment of row `n` as a number, and column `l` of its values. -/
abbrev dN (n : ℕ) : ℕ := (idN I n).toNat
abbrev vN (l : Fin 128) (n : ℕ) : EReal := valN X n (cB l) (cL l)

/-- What the subcore holds after `n` rows from row `lo` on. -/
structure Inv (lo n : ℕ) (a : Acc Ideal) : Prop where
  zero : n = 0 → a.s = RowSt.init
  cur : 0 < n → a.s.cur = idN I (lo + n - 1)
  cnt : 0 < n → a.s.cnt = sCnt (seg (dN I) lo n (dN I (lo + n - 1)))
  sum : 0 < n → ∀ l, a.s.sum (cB l) (cL l) = sSum (vN X l) (seg (dN I) lo n (dN I (lo + n - 1)))
  mx : 0 < n → ∀ l, a.s.mx (cB l) (cL l) = sMx (vN X l) (seg (dN I) lo n (dN I (lo + n - 1)))
  bm : ∀ r l : Fin 128, bAt a.m r l = if 0 < n ∧ dN I (lo + n - 1) = bs L + r.val then 0 else wMean (vN X l) (seg (dN I) lo n (bs L + r.val))
  bx : ∀ r l : Fin 128, bAt a.x r l = if 0 < n ∧ dN I (lo + n - 1) = bs L + r.val then 0 else wMax (vN X l) (seg (dN I) lo n (bs L + r.val))

theorem inv_zero (lo : ℕ) : Inv L I X lo 0 Acc.init where
  zero _ := rfl
  cur h := absurd h (lt_irrefl _)
  cnt h := absurd h (lt_irrefl _)
  sum h := absurd h (lt_irrefl _)
  mx h := absurd h (lt_irrefl _)
  bm r l := by rw [if_neg (fun h => absurd h.1 (lt_irrefl _)), seg_zero, wMean, if_pos rfl]; exact fz_eq
  bx r l := by rw [if_neg (fun h => absurd h.1 (lt_irrefl _)), seg_zero, wMax, if_pos rfl]; exact fz_eq

/-- The segment held is written out: its row of each buffer becomes its mean and its maximum. -/
theorem inv_put {lo n : ℕ} {a : Acc Ideal} (h : Inv L I X lo n a) (hn : 0 < n) (hin : InTile L a.s.cur) (r l : Fin 128) :
    bAt (a.s.putMean L a.m) r l = wMean (vN X l) (seg (dN I) lo n (bs L + r.val))
    ∧ bAt (a.s.putMax L a.x) r l = wMax (vN X l) (seg (dN I) lo n (bs L + r.val)) := by
  have hc : a.s.cur.toNat = dN I (lo + n - 1) := by rw [h.cur hn]
  have hne := seg_last_ne (d := dN I) (lo := lo) hn
  obtain ⟨h1, h2⟩ := hin
  have hr := r.isLt
  unfold RowSt.putMean RowSt.putMax rowOff
  rw [bAt_put8, bAt_put8, h.bm, h.bx]
  by_cases e : r.val = a.s.cur.toNat - bs L
  · rw [if_pos e, if_pos e]
    have e' : bs L + r.val = dN I (lo + n - 1) := by omega
    rw [e', wMean, wMax, if_neg hne, if_neg hne]
    refine ⟨?_, h.mx hn l⟩
    show Ideal.div (a.s.sum (cB l) (cL l)) a.s.cnt = _
    rw [h.sum hn, h.cnt hn]
  · rw [if_neg e, if_neg e, if_neg (fun h => by omega), if_neg (fun h => by omega)]
    exact ⟨rfl, rfl⟩

variable (hd : ∀ i, i < 320000 → dN I i < 4096) (hs : ∀ i j, i ≤ j → j < 320000 → dN I i ≤ dN I j)

include hd hs in
theorem inv_step {lo n : ℕ} {a : Acc Ideal} (hN : lo + n < 320000) (h : Inv L I X lo n a) :
    Inv L I X lo (n + 1) (a.row L (idN I (lo + n)) (valN X (lo + n))) := by
  have hlast : lo + (n + 1) - 1 = lo + n := by omega
  by_cases hsame : 0 < n ∧ idN I (lo + n) = a.s.cur
  · obtain ⟨hn, he⟩ := hsame
    have hdd : dN I (lo + n) = dN I (lo + n - 1) := by unfold dN; rw [he, h.cur hn]
    have hc1 : ¬ (k0_cond1 L a.s.cur (idN I (lo + n)) a.s.some = 1#1) := fun hh => ((cond1_iff _ _ _ _).mp hh).1 he
    have hm : (a.row L (idN I (lo + n)) (valN X (lo + n))).m = a.m := if_neg hc1
    have hx : (a.row L (idN I (lo + n)) (valN X (lo + n))).x = a.x := if_neg hc1
    refine ⟨fun h0 => absurd h0 (Nat.succ_ne_zero _), fun _ => by rw [hlast]; rfl, fun _ => ?_, fun _ l => ?_, fun _ l => ?_, fun r l => ?_, fun r l => ?_⟩
    · rw [hlast, seg_succ_same rfl]
      show Scalar.select _ _ _ = _
      rw [sel_ne, if_neg (not_not.mpr he), hdd]
      unfold sCnt
      rw [Finset.sum_insert (not_mem_seg _ _ _ _)]
      show a.s.cnt + (fo : Ideal .f32) = _
      rw [h.cnt hn, fo_eq, add_comm]; rfl
    · rw [hlast, seg_succ_same rfl]
      show (Scalar.select _ _ _ : FVec Ideal S16 .f32) _ = _
      rw [sel_ne, if_neg (not_not.mpr he), hdd]
      unfold sSum
      rw [Finset.sum_insert (not_mem_seg _ _ _ _)]
      show a.s.sum (cB l) (cL l) + vN X l (lo + n) = _
      rw [h.sum hn, add_comm]; rfl
    · rw [hlast, seg_succ_same rfl]
      show (Scalar.select _ _ _ : FVec Ideal S16 .f32) _ = _
      rw [sel_ne, if_neg (not_not.mpr he), hdd]
      unfold sMx
      rw [Finset.sup_insert]
      show max (a.s.mx (cB l) (cL l)) (vN X l (lo + n)) = _
      rw [h.mx hn, max_comm]; rfl
    · rw [hm, h.bm, hlast, hdd]
      by_cases e : dN I (lo + n - 1) = bs L + r.val
      · rw [if_pos ⟨hn, e⟩, if_pos ⟨by omega, e⟩]
      · rw [if_neg (fun h => e h.2), if_neg (fun h => e h.2), seg_succ_ne (by rw [hdd]; exact e)]
    · rw [hx, h.bx, hlast, hdd]
      by_cases e : dN I (lo + n - 1) = bs L + r.val
      · rw [if_pos ⟨hn, e⟩, if_pos ⟨by omega, e⟩]
      · rw [if_neg (fun h => e h.2), if_neg (fun h => e h.2), seg_succ_ne (by rw [hdd]; exact e)]
  · have hd0 := hd (lo + n) hN
    have hne : idN I (lo + n) ≠ a.s.cur := by
      intro he
      by_cases hn : 0 < n
      · exact hsame ⟨hn, he⟩
      · have h0 : a.s = RowSt.init := h.zero (by omega)
        rw [h0] at he
        have : dN I (lo + n) = 4294967295 := by unfold dN; rw [he]; rfl
        omega
    have hnew : seg (dN I) lo n (dN I (lo + n)) = ∅ := by
      by_cases hn : 0 < n
      · refine seg_new (N := 320000) hs hn hN fun e => hne ?_
        rw [h.cur hn]; exact BitVec.eq_of_toNat_eq e
      · rw [show n = 0 by omega, seg_zero]
    have hseg : seg (dN I) lo (n + 1) (dN I (lo + n)) = {lo + n} := by rw [seg_succ_same rfl, hnew]; rfl
    have hbuf : ∀ r l : Fin 128, bAt (a.row L (idN I (lo + n)) (valN X (lo + n))).m r l = wMean (vN X l) (seg (dN I) lo n (bs L + r.val))
        ∧ bAt (a.row L (idN I (lo + n)) (valN X (lo + n))).x r l = wMax (vN X l) (seg (dN I) lo n (bs L + r.val)) := by
      intro r l
      by_cases hc : k0_cond1 L a.s.cur (idN I (lo + n)) a.s.some = 1#1
      · have hin := ((cond1_iff _ _ _ _).mp hc).2.1
        have hn : 0 < n := by
          by_contra h0
          have h1 : a.s = RowSt.init := h.zero (by omega)
          rw [h1] at hin
          have := hin.2
          have hb := bs_le L
          change 4294967295 < bs L + 128 at this
          omega
        rw [show (a.row L (idN I (lo + n)) (valN X (lo + n))).m = a.s.putMean L a.m from if_pos hc,
          show (a.row L (idN I (lo + n)) (valN X (lo + n))).x = a.s.putMax L a.x from if_pos hc]
        exact inv_put L I X h hn hin r l
      · rw [show (a.row L (idN I (lo + n)) (valN X (lo + n))).m = a.m from if_neg hc,
          show (a.row L (idN I (lo + n)) (valN X (lo + n))).x = a.x from if_neg hc, h.bm, h.bx]
        have hno : ¬ (0 < n ∧ dN I (lo + n - 1) = bs L + r.val) := by
          rintro ⟨hn, e⟩
          have hr := r.isLt
          have hcur : a.s.cur.toNat = dN I (lo + n - 1) := by rw [h.cur hn]
          refine hc ((cond1_iff _ _ _ _).mpr ⟨hne, ⟨by omega, by omega⟩, some_of_pos ?_⟩)
          rw [h.cnt hn]; exact sCnt_pos (seg_last_ne hn)
        rw [if_neg hno, if_neg hno]; exact ⟨rfl, rfl⟩
    refine ⟨fun h0 => absurd h0 (Nat.succ_ne_zero _), fun _ => by rw [hlast]; rfl, fun _ => ?_, fun _ l => ?_, fun _ l => ?_, fun r l => ?_, fun r l => ?_⟩
    · rw [hlast, hseg]
      show Scalar.select _ _ _ = _
      rw [sel_ne, if_pos hne, sCnt, Finset.sum_singleton]; exact fo_eq
    · rw [hlast, hseg]
      show (Scalar.select _ _ _ : FVec Ideal S16 .f32) _ = _
      rw [sel_ne, if_pos hne, sSum, Finset.sum_singleton]
    · rw [hlast, hseg]
      show (Scalar.select _ _ _ : FVec Ideal S16 .f32) _ = _
      rw [sel_ne, if_pos hne, sMx, Finset.sup_singleton]
    · rw [(hbuf r l).1, hlast]
      by_cases e : dN I (lo + n) = bs L + r.val
      · rw [if_pos ⟨by omega, e⟩, ← e, hnew, wMean, if_pos rfl]
      · rw [if_neg (fun h => e h.2), seg_succ_ne e]
    · rw [(hbuf r l).2, hlast]
      by_cases e : dN I (lo + n) = bs L + r.val
      · rw [if_pos ⟨by omega, e⟩, ← e, hnew, wMax, if_pos rfl]
      · rw [if_neg (fun h => e h.2), seg_succ_ne e]

include hd hs in
theorem inv_scan (lo n : ℕ) (hN : lo + n ≤ 320000) : Inv L I X lo n (scan L I X lo Acc.init n) := by
  induction n with
  | zero => exact inv_zero L I X lo
  | succ n ih => exact inv_step L I X hd hs (by omega) (ih (by omega))

include hd hs in
/-- What the subcore leaves after `n` rows from row `lo` on: every segment's mean and maximum over those rows. -/
theorem scan_last (lo n : ℕ) (hN : lo + n ≤ 320000) (r l : Fin 128) :
    bAt ((scan L I X lo Acc.init n).last L).m r l = wMean (vN X l) (seg (dN I) lo n (bs L + r.val))
    ∧ bAt ((scan L I X lo Acc.init n).last L).x r l = wMax (vN X l) (seg (dN I) lo n (bs L + r.val)) := by
  have h := inv_scan L I X hd hs lo n hN
  generalize scan L I X lo Acc.init n = a at h ⊢
  by_cases hc : k0_cond3 L a.s.cur a.s.some = 1#1
  · have hin := ((cond3_iff _ _ _).mp hc).1
    have hn : 0 < n := by
      by_contra h0
      have h1 : a.s = RowSt.init := h.zero (by omega)
      rw [h1] at hin
      have := hin.2
      have hb := bs_le L
      change 4294967295 < bs L + 128 at this
      omega
    rw [show (a.last L).m = a.s.putMean L a.m from if_pos hc, show (a.last L).x = a.s.putMax L a.x from if_pos hc]
    exact inv_put L I X h hn hin r l
  · rw [show (a.last L).m = a.m from if_neg hc, show (a.last L).x = a.x from if_neg hc, h.bm, h.bx]
    have hno : ¬ (0 < n ∧ dN I (lo + n - 1) = bs L + r.val) := by
      rintro ⟨hn, e⟩
      have hr := r.isLt
      have hcur : a.s.cur.toNat = dN I (lo + n - 1) := by rw [h.cur hn]
      refine hc ((cond3_iff _ _ _).mpr ⟨⟨by omega, by omega⟩, some_of_pos ?_⟩)
      rw [h.cnt hn]; exact sCnt_pos (seg_last_ne hn)
    rw [if_neg hno, if_neg hno]; exact ⟨rfl, rfl⟩

end Cert.Proof.SegKernelIdeal

end
-- ==== Proof.SearchVal.lean ====
/-
  Where the search ends on sorted segments, and what a subcore then leaves of each of its segments.
-/
module

public import proofs.«01_k».proof.Proof.FoldVal
public import proofs.«01_k».proof.Proof.Bounds

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

/-! ## The binary search over the rows of sixteen -/

/-- The search on numbers. -/
def nIter (b : ℕ → Bool) : ℕ → ℕ × ℕ
  | 0 => (0, 20000)
  | n + 1 => nStep b (nIter b n)

theorem sIter_nat (t : BitVec 32) (J : S20000x16.Idx → BitVec 32) (n : ℕ) :
    ((sIter t J n).1.toNat, (sIter t J n).2.toNat) = nIter (fun n => (rowJ J n 0).slt t) n := by
  induction n with
  | zero => rfl
  | succ n ih =>
    show ((sStep t J (sIter t J n)).1.toNat, (sStep t J (sIter t J n)).2.toNat) = nStep _ (nIter _ n)
    rw [sStep_nat t J _ (sIter_bnd t J n), ih]

theorem nIter_inv (b : ℕ → Bool) (hb : ∀ i j, i ≤ j → j < 20000 → b j = true → b i = true) (n : ℕ) :
    (nIter b n).1 ≤ (nIter b n).2 ∧ (nIter b n).2 ≤ 20000 ∧ (∀ r, r < (nIter b n).1 → b r = true)
    ∧ (∀ r, (nIter b n).2 ≤ r → r < 20000 → b r = false) ∧ ((nIter b n).2 - (nIter b n).1) * 2 ^ n ≤ 20000 := by
  induction n with
  | zero => exact ⟨Nat.zero_le _, le_refl _, fun r h => absurd h (Nat.not_lt_zero r), fun r h h' => absurd h' (Nat.not_lt.mpr h), le_refl _⟩
  | succ n ih =>
    show (nStep b (nIter b n)).1 ≤ (nStep b (nIter b n)).2 ∧ _
    obtain ⟨h1, h2, h3, h4, h5⟩ := ih
    have hstep : nIter b (n + 1) = nStep b (nIter b n) := rfl
    rw [hstep]
    generalize nIter b n = p at *
    obtain ⟨l, r⟩ := p
    simp only at h1 h2 h3 h4 h5
    unfold nStep
    simp only
    by_cases hl : l < r
    · rw [if_pos hl]
      have hm : (l + r) / 2 < r := by omega
      cases hbm : b ((l + r) / 2)
      · rw [if_neg (by decide)]
        refine ⟨by show l ≤ (l + r) / 2; omega, by show (l + r) / 2 ≤ 20000; omega, h3, fun q hq hq' => ?_, ?_⟩
        · simp only at hq
          cases hbq : b q
          · rfl
          · rw [hb _ _ hq hq' hbq] at hbm; exact absurd hbm (by decide)
        · show ((l + r) / 2 - l) * 2 ^ (n + 1) ≤ 20000
          rw [pow_succ, Nat.mul_comm (2 ^ n), ← Nat.mul_assoc]
          exact le_trans (Nat.mul_le_mul_right _ (by omega)) h5
      · rw [if_pos rfl]
        refine ⟨by show (l + r) / 2 + 1 ≤ r; omega, h2, fun q hq => ?_, h4, ?_⟩
        · simp only at hq
          exact hb q _ (by omega) (by omega : (l + r) / 2 < 20000) hbm
        · show (r - ((l + r) / 2 + 1)) * 2 ^ (n + 1) ≤ 20000
          rw [pow_succ, Nat.mul_comm (2 ^ n), ← Nat.mul_assoc]
          exact le_trans (Nat.mul_le_mul_right _ (by omega)) h5
    · rw [if_neg hl]
      refine ⟨h1, h2, h3, h4, ?_⟩
      show (r - l) * 2 ^ (n + 1) ≤ 20000
      rw [show r - l = 0 by omega, Nat.zero_mul]; exact Nat.zero_le _

/-- How many of the first `n` numbers satisfy a property that is closed downwards. -/
theorem cnt_range (p : ℕ → Bool) (n : ℕ) (hp : ∀ i j, i ≤ j → j < n → p j = true → p i = true) :
    ∀ j, j < n → (p j = true ↔ j < (List.range n).countP p) := by
  induction n with
  | zero => intro j h; exact absurd h (Nat.not_lt_zero j)
  | succ n ih =>
    have ih := ih fun i j h h' => hp i j h (by omega)
    have hle : (List.range n).countP p ≤ n := by
      have := List.countP_le_length (p := p) (l := List.range n); rwa [List.length_range] at this
    intro j hj
    rw [List.range_succ, List.countP_append, List.countP_singleton]
    by_cases hn : p n = true
    · rw [if_pos hn]
      have hge : n ≤ (List.range n).countP p := by
        rcases Nat.eq_zero_or_pos n with h0 | h0
        · omega
        · have := (ih (n - 1) (by omega)).mp (hp _ _ (by omega) (by omega : n < n + 1) hn); omega
      exact ⟨fun _ => by omega, fun _ => hp j n (by omega) (by omega) hn⟩
    · rw [if_neg hn]
      by_cases e : j = n
      · subst e
        exact ⟨fun h => absurd h hn, fun h => by omega⟩
      · have := ih j (by omega)
        rw [this]; omega

/-! ## Where the search ends -/

section
variable (I : S320000.Idx → BitVec 32) (J : S20000x16.Idx → BitVec 32)
variable (hd : ∀ i, i < 320000 → (idN I i).toNat < 4096) (hs : ∀ i j, i ≤ j → j < 320000 → (idN I i).toNat ≤ (idN I j).toNat)
variable (hJ : ∀ (n : ℕ) (j : Fin 16), n < 20000 → rowJ J n j = idN I (16 * n + j.val))

theorem rowL_eq (n : ℕ) : rowL J n = (List.range 16).map fun j => rowJ J n (Fin.ofNat 16 j) := rfl

include hd hs hJ in
/-- The search ends at the number of rows whose segment lies below `t`. -/
theorem lb_spec (t : BitVec 32) (ht : t.toNat ≤ 4096) (i : ℕ) (hi : i < 320000) : (idN I i).toNat < t.toNat ↔ i < lbN t J := by
  have hslt : ∀ n, n < 320000 → (idN I n).slt t = decide ((idN I n).toNat < t.toNat) := fun n hn =>
    slt_small (by have := hd n hn; omega) (by omega)
  have hb0 : ∀ n, n < 20000 → (rowJ J n 0).slt t = decide ((idN I (16 * n)).toNat < t.toNat) := fun n hn => by
    rw [hJ n 0 hn]; exact hslt _ (by omega)
  have hmono : ∀ i j, i ≤ j → j < 20000 → (rowJ J j 0).slt t = true → (rowJ J i 0).slt t = true := fun i j h hj e => by
    rw [hb0 j hj, decide_eq_true_iff] at e
    rw [hb0 i (by omega), decide_eq_true_iff]
    have := hs (16 * i) (16 * j) (by omega) (by omega); omega
  obtain ⟨h1, h2, h3, h4, h5⟩ := nIter_inv _ hmono 16
  rw [← sIter_nat t J 16] at h1 h2 h3 h4 h5
  simp only at h1 h2 h3 h4 h5
  have hb := (sIter_bnd t J 16).1
  have hprev := prevW_toNat hb
  have hl := lbW_toNat t (sIter t J 16).1 (rowL J (prevW (sIter t J 16).1).toNat) hb rfl
  unfold lbN
  rw [hl, hprev]
  generalize (sIter t J 16).1.toNat = r at *
  generalize (sIter t J 16).2.toNat = r' at *
  have hr : r = r' := by omega
  subst hr
  by_cases h0 : r = 0
  · rw [if_pos h0]
    subst h0
    have := h4 0 (le_refl _) (by omega)
    rw [hb0 0 (by omega), decide_eq_false_iff_not] at this
    have hm := hs 0 i (Nat.zero_le _) hi
    simp only [Nat.mul_zero] at this
    constructor <;> intro h <;> omega
  · rw [if_neg h0, rowL_eq, List.countP_map]
    have hlane : ∀ j, j < 16 → ((idN I (16 * (r - 1) + j)).toNat < t.toNat ↔ j < (List.range 16).countP ((fun w => w.slt t) ∘ fun j => rowJ J (r - 1) (Fin.ofNat 16 j))) := by
      have hv : ∀ j, j < 16 → ((fun w => w.slt t) ∘ fun j => rowJ J (r - 1) (Fin.ofNat 16 j)) j = decide ((idN I (16 * (r - 1) + j)).toNat < t.toNat) := fun j hj => by
        show (rowJ J (r - 1) (Fin.ofNat 16 j)).slt t = _
        rw [hJ _ _ (by omega)]
        have : (Fin.ofNat 16 j).val = j := Nat.mod_eq_of_lt hj
        rw [this]; exact hslt _ (by omega)
      intro j hj
      rw [← cnt_range _ 16 (fun a b hab hb' e => by
        rw [hv b hb', decide_eq_true_iff] at e
        rw [hv a (by omega), decide_eq_true_iff]
        have := hs (16 * (r - 1) + a) (16 * (r - 1) + b) (by omega) (by omega); omega) j hj, hv j hj, decide_eq_true_iff]
    have hcle : (List.range 16).countP ((fun w => w.slt t) ∘ fun j => rowJ J (r - 1) (Fin.ofNat 16 j)) ≤ 16 := by
      have := List.countP_le_length (p := (fun w : BitVec 32 => w.slt t) ∘ fun j => rowJ J (r - 1) (Fin.ofNat 16 j)) (l := List.range 16); rwa [List.length_range] at this
    generalize (List.range 16).countP ((fun w => w.slt t) ∘ fun j => rowJ J (r - 1) (Fin.ofNat 16 j)) = c at *
    by_cases ha : i < 16 * (r - 1)
    · have hp := h3 (r - 1) (by omega)
      rw [hb0 _ (by omega), decide_eq_true_iff] at hp
      have := hs i (16 * (r - 1)) (by omega) (by omega)
      constructor <;> intro h <;> omega
    · by_cases hb' : 16 * r ≤ i
      · have hp := h4 r (le_refl _) (by omega)
        rw [hb0 _ (by omega), decide_eq_false_iff_not] at hp
        have := hs (16 * r) i (by omega) (by omega)
        constructor <;> intro h <;> omega
      · have := hlane (i - 16 * (r - 1)) (by omega)
        rw [show 16 * (r - 1) + (i - 16 * (r - 1)) = i by omega] at this
        rw [this]; omega

theorem lbN_le (t : BitVec 32) : lbN t J ≤ 320000 := lbW_le _ _ _ (sIter_bnd t J 16).1 rfl

/-! ## A subcore's window holds every row of its segments -/

/-- The rows of segment `q`. -/
def rowsN (q : ℕ) : Finset ℕ := (Finset.range 320000).filter fun i => (idN I i).toNat = q

include hd hs hJ in
theorem window (L : grid0.Coords) (r : Fin 128) :
    128 * kLoN L J + 128 * kTrN L J ≤ 320000 ∧ seg (dN I) (128 * kLoN L J) (128 * kTrN L J) (bs L + r.val) = rowsN I (bs L + r.val) := by
  have hb := bs_le L
  have hbw := bw_toNat L
  have hr := r.isLt
  have hbw2 : (Scalar.addi (bw L) 128#32).toNat = bs L + 128 := by rw [add_toNat (by rw [hbw]; show bs L + 128 < _; omega), hbw]; rfl
  have s1 := lb_spec I J hd hs hJ (bw L) (by omega)
  have s2 := lb_spec I J hd hs hJ (Scalar.addi (bw L) 128#32) (by omega)
  have l1 := lbN_le J (bw L)
  have l2 := lbN_le J (Scalar.addi (bw L) 128#32)
  unfold kLoN kTrN
  rw [hbw] at s1
  rw [hbw2] at s2
  generalize lbN (bw L) J = lo at *
  generalize lbN (Scalar.addi (bw L) 128#32) J = hi at *
  refine ⟨by omega, ?_⟩
  unfold seg rowsN
  ext i
  rw [Finset.mem_filter, Finset.mem_filter, Finset.mem_Ico, Finset.mem_range]
  constructor
  · rintro ⟨⟨h1, h2⟩, h3⟩; exact ⟨by omega, h3⟩
  · rintro ⟨h1, h3⟩
    have a1 := s1 i h1
    have a2 := s2 i h1
    refine ⟨⟨?_, ?_⟩, h3⟩
    · have : ¬ i < lo := fun h => by have := a1.mpr h; omega
      omega
    · have : i < hi := a2.mp (by omega)
      omega

variable (X : S320000x128.Idx → Ideal .f32)

include hd hs hJ in
/-- A subcore leaves each of its segments' mean and maximum over all rows. -/
theorem tile_val (L : grid0.Coords) (r l : Fin 128) :
    bAt (tileAcc L I J X).m r l = wMean (vN X l) (rowsN I (bs L + r.val))
    ∧ bAt (tileAcc L I J X).x r l = wMax (vN X l) (rowsN I (bs L + r.val)) := by
  obtain ⟨h1, h2⟩ := window I J hd hs hJ L r
  rw [← h2]
  exact scan_last L I X hd hs _ _ h1 r l

end

end Cert.Proof.SegKernelIdeal

end
-- ==== Proof.RefVal.lean ====
/-
  The reference's stages read at an entry, over the extended reals: a segment's count, mean and maximum over its rows, the gathered rows,
  the dense layer as three sums of 128 products, and the unit norm.
-/
module

public import proofs.«01_k».proof.Proof.RefTerm
public import proofs.«01_k».proof.Proof.SearchVal
public import Idealize.ShloMosaic.Lib.Routing.Ops
public import Idealize.ShloMosaic.Lib.Routing.OpsPair
public import Idealize.ShloMosaic.Lib.ReduceAll
public import Idealize.ShloMosaic.Lib.StackMember
public import Idealize.ShloMosaic.Lib.Pointwise
public import Idealize.ShloMosaic.Lib.IdealHost
public import Idealize.ShloMosaic.PureOps.Ideal.Laws

@[expose] public section

noncomputable section

namespace Cert.Proof.SegRef

open Cert.ReferenceIdeal Cert.ReferenceIdeal.Gen Idealize.ShloMosaic Idealize.ShloMosaic.Routing
open Idealize.ShloMosaic.ValueIdx (hostDivf_apply hostReduceAdd_apply)
open Idealize.ShloMosaic.Ideal (zero_div)
open Idealize.ShloMosaic.StackMember (dotGeneral_plain_apply)
open Cert.Proof.SegKernelIdeal (dN vN sCnt sSum sMx wMean wMax rowsN idN sCnt_pos)

/-! ## Sums over the rows of a segment -/

/-- Row `i` of a scatter of rows lands on row `q` when its index word is `q`. -/
theorem lands_row {R C N : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (i : Fin N) (c : Fin C) (q : Fin R) (y : Fin C) :
    d.resultIdx? (ix2 i c) idx = some (ix2 q y) ↔ (idx (ix2 i (0 : Fin 1))).toInt = (q.val : ℤ) ∧ c = y := by
  obtain ⟨uw, iw, sd, iv, wf⟩ := d
  simp only at huw hiw hsd hivd
  subst huw hiw hsd hivd
  refine (resultIdx?_ix2 _ _ _ _ _).trans ?_
  have e1 : (ScatterDims.mk [1] [0] [0] 1 wf : ScatterDims (shape2 R C) (shape2 N 1) (shape2 N C)).start (ix2 i c) idx 0 = (idx (ix2 i (0 : Fin 1))).toInt := by
    unfold ScatterDims.start
    rw [dif_pos (List.mem_singleton.2 rfl)]
    refine congrArg (fun k => (idx k).toInt) (funext fun b => Fin.ext ?_)
    match b with
    | ⟨0, _⟩ => rfl
    | ⟨1, _⟩ => rfl
  have e2 : (ScatterDims.mk [1] [0] [0] 1 wf : ScatterDims (shape2 R C) (shape2 N 1) (shape2 N C)).start (ix2 i c) idx 1 = 0 := by
    unfold ScatterDims.start
    rw [dif_neg fun h => Nat.one_ne_zero (congrArg Fin.val (List.mem_singleton.1 h))]
  have e3 : (ScatterDims.mk [1] [0] [0] 1 wf : ScatterDims (shape2 R C) (shape2 N 1) (shape2 N C)).window (ix2 i c) 0 = 0 := rfl
  have e4 : (ScatterDims.mk [1] [0] [0] 1 wf : ScatterDims (shape2 R C) (shape2 N 1) (shape2 N C)).window (ix2 i c) 1 = c.val := rfl
  refine (and_congr (Iff.of_eq (congrArg₂ (fun a b => a + b = _) e1 (congrArg Nat.cast e3))) (Iff.of_eq (congrArg₂ (fun a b => a + b = _) e2 (congrArg Nat.cast e4)))).trans ?_
  rw [Fin.ext_iff]
  omega

/-- A scatter of rows into zero: an entry is the sum over the rows whose index word is its row. -/
theorem scatter_rows {R C : ℕ} (d : ScatterDims (shape2 R C) (shape2 320000 1) (shape2 320000 C)) (huw : d.updateWindowDims = [1])
    (hiw : d.insertedWindowDims = [0]) (hsd : d.scatterDimsToOperandDims = [0]) (hivd : d.indexVectorDim = 1)
    (x0 : (shape2 R C).Idx → Ideal .f32) (idx : IVec (shape2 320000 1) 32) (upd : (shape2 320000 C).Idx → Ideal .f32) (I : IVec S320000 32)
    (hI : ∀ i : Fin 320000, idx (ix2 i (0 : Fin 1)) = I (ix1 i)) (hd : ∀ i, (I i).toNat < 4096) (q : Fin R) (y : Fin C) (v : ℕ → EReal)
    (hv : ∀ i : Fin 320000, upd (ix2 i y) = v i.val) (h0 : x0 (ix2 q y) = 0) :
    Host.scatterAdd d x0 idx upd (ix2 q y) = ∑ i ∈ rowsN I q.val, v i := by
  show Ideal.hostScatterAdd d x0 idx upd (ix2 q y) = _
  unfold Ideal.hostScatterAdd
  rw [h0, zero_add, Finset.sum_filter, Idealize.ShloMosaic.sum_idx2]
  unfold rowsN
  rw [Finset.sum_filter, Finset.sum_range]
  refine Finset.sum_congr rfl fun i _ => ?_
  have hi := hd (ix1 i)
  have e : (idN I i.val).toNat = (I (ix1 i)).toNat := by unfold idN; rw [dif_pos i.isLt]
  have ht : (I (ix1 i)).toInt = ((I (ix1 i)).toNat : ℤ) := BitVec.toInt_eq_toNat_of_lt (by omega)
  rw [Finset.sum_eq_single y]
  · refine if_congr ?_ (hv i) rfl
    rw [lands_row d huw hiw hsd hivd, hI, ht, e]
    exact ⟨fun h => by exact_mod_cast h.1, fun h => ⟨by exact_mod_cast h, rfl⟩⟩
  · intro c _ hc
    exact if_neg fun h => hc ((lands_row d huw hiw hsd hivd idx i c q y).1 h).2
  · intro h; exact absurd (Finset.mem_univ y) h

theorem ids_apply (I : IVec S320000 32) (i : Fin 320000) :
    broadcastInDim S320000x1 ![0] bcast_S320000_S320000x1_0 I (ix2 i (0 : Fin 1)) = I (ix1 i) := by pointwise

theorem vN_apply (X : FVec Ideal S320000x128 .f32) (k : Fin 320000) (l : Fin 128) : vN X l k.val = X (ix2 k l) := by
  unfold vN SegKernelIdeal.valN
  rw [dif_pos k.isLt]
  exact congrArg X (congrArg (ix2 k) (Fin.ext (show 16 * (l.val / 16) + l.val % 16 = l.val by omega)))

section
variable (X : FVec Ideal S320000x128 .f32) (I : IVec S320000 32) (hd : ∀ i, (I i).toNat < 4096)

include hd in
theorem counts_apply (q : Fin 4096) : counts (F := Ideal) I (ix2 q (0 : Fin 1)) = sCnt (rowsN I q.val) :=
  scatter_rows scatter_S4096x1_S320000x1_S320000x1_1_0_0_1 rfl rfl rfl rfl _ _ _ I
    (ids_apply I) hd q 0 (fun _ => 1) (fun _ => Ideal.ofBits_one_f32) Ideal.ofBits_zero_f32

include hd in
theorem sums_apply (q : Fin 4096) (l : Fin 128) : sums (F := Ideal) X I (ix2 q l) = sSum (vN X l) (rowsN I q.val) :=
  scatter_rows scatter_S4096x128_S320000x1_S320000x128_1_0_0_1 rfl rfl rfl rfl _ _ _ I
    (ids_apply I) hd q l (vN X l) (fun i => (vN_apply X i l).symm) Ideal.ofBits_zero_f32

theorem one_le_sCnt {A : Finset ℕ} (h : A ≠ ∅) : (1 : EReal) ≤ sCnt A := by
  obtain ⟨a, ha⟩ := Finset.nonempty_iff_ne_empty.2 h
  exact Finset.single_le_sum (f := fun _ => (1 : EReal)) (fun _ _ => zero_le_one) ha

include hd in
theorem means_apply (q : Fin 4096) (l : Fin 128) : means (F := Ideal) X I (ix2 q l) = wMean (vN X l) (rowsN I q.val) := by
  have e : means (F := Ideal) X I (ix2 q l) = Ideal.div (sums (F := Ideal) X I (ix2 q l)) (max (counts (F := Ideal) I (ix2 q (0 : Fin 1))) (Ideal.ofBits .f32 0x3F800000#32)) := by
    unfold means
    rw [hostDivf_apply]
    refine congrArg (Ideal.div _) ?_
    pointwise
  rw [e, sums_apply X I hd, counts_apply I hd, Ideal.ofBits_one_f32]
  unfold wMean
  by_cases h : rowsN I q.val = ∅
  · rw [if_pos h, h]
    show Ideal.div (∑ i ∈ (∅ : Finset ℕ), _) (max (∑ _i ∈ (∅ : Finset ℕ), (1 : EReal)) 1) = 0
    rw [Finset.sum_empty, Finset.sum_empty, max_eq_right zero_le_one]
    exact zero_div one_ne_zero
  · rw [if_neg h, max_eq_left (one_le_sCnt h)]

theorem pos_cmp {x : EReal} (h : 0 < x) : FloatOps.cmpf (F := Ideal) (φ := .f32) .ogt x (0 : EReal) = 1#1 := by
  show BitVec.ofBool (decide ((0 : EReal) < x)) = 1#1
  rw [decide_eq_true h]; rfl

theorem neg_inf : Ideal.ofBits .f32 0xFF800000#32 = (⊥ : EReal) := by simp [Ideal.ofBits, Ideal.ieee]

theorem fold_sup (n : ℕ) (f : Fin n → EReal) : (Finset.univ : Finset (Fin n)).fold (FloatOps.maximumf (F := Ideal) (φ := .f32)) (⊥ : EReal) f = Finset.univ.sup f := rfl

theorem masked_apply (q : Fin 4096) (k : Fin 320000) (l : Fin 128) :
    masked (F := Ideal) X I (ix3 q k l) = Scalar.select (IntOp.cmpi .eq (I (ix1 k)) (BitVec.ofNat 32 q.val)) (X (ix2 k l)) (Ideal.ofBits .f32 0xFF800000#32) := by
  unfold masked hits
  pointwise
  rfl

include hd in
theorem maxima_apply (q : Fin 4096) (l : Fin 128) : maxima (F := Ideal) X I (ix2 q l) = wMax (vN X l) (rowsN I q.val) := by
  have e : maxima (F := Ideal) X I (ix2 q l)
      = Scalar.select (FloatOps.cmpf (F := Ideal) (φ := .f32) .ogt (counts (F := Ideal) I (ix2 q (0 : Fin 1))) (Ideal.ofBits .f32 0x00000000#32))
          (Host.reduce (FloatOps.maximumf (F := Ideal) (φ := .f32)) (masked (F := Ideal) X I) (constant S_ .f32 0xFF800000#32) reducesTo_S4096x320000x128_S4096x128_d1 h_S_ (ix2 q l))
          (Ideal.ofBits .f32 0x00000000#32) := by
    unfold maxima
    pointwise
  rw [e, counts_apply I hd, Ideal.ofBits_zero_f32]
  unfold wMax
  by_cases h : rowsN I q.val = ∅
  · rw [if_pos h, h]
    have : FloatOps.cmpf (F := Ideal) (φ := .f32) .ogt (sCnt ∅) (0 : EReal) = 0#1 := by
      show BitVec.ofBool (decide ((0 : EReal) < sCnt ∅)) = 0#1
      rw [decide_eq_false (by unfold sCnt; rw [Finset.sum_empty]; exact lt_irrefl _)]; rfl
    rw [this]; rfl
  · rw [if_neg h]
    have : FloatOps.cmpf (F := Ideal) (φ := .f32) .ogt (sCnt (rowsN I q.val)) (0 : EReal) = 1#1 := by
      exact pos_cmp (lt_of_lt_of_le zero_lt_one (one_le_sCnt h))
    rw [this]
    refine (ValueIdx.select_one _ _).trans ?_
    refine (Host.reduce_eq_fold _ _ _ _ _ _).trans ?_
    refine (Shape.ReducesTo.fold_fiber_r3_a1 _ _ _ _ _).trans ?_
    have hb : Ideal.ofBits .f32 0xFF800000#32 = (⊥ : EReal) := neg_inf
    refine (congrArg (fun z => Finset.fold _ z _ _) hb).trans ?_
    refine (fold_sup _ _).trans ?_
    show Finset.univ.sup (fun k : Fin 320000 => masked (F := Ideal) X I (ix3 q k l)) = sMx _ _
    have hm : ∀ k : Fin 320000, masked (F := Ideal) X I (ix3 q k l) = if (idN I k.val).toNat = q.val then vN X l k.val else ⊥ := fun k => by
      rw [masked_apply]
      have hq := q.isLt
      have e1 : idN I k.val = I (ix1 k) := by unfold idN; rw [dif_pos k.isLt]
      have e2 : vN X l k.val = X (ix2 k l) := vN_apply X k l
      rw [e1, e2, hb.symm]
      by_cases hk : (I (ix1 k)).toNat = q.val
      · have : I (ix1 k) = BitVec.ofNat 32 q.val := BitVec.eq_of_toNat_eq (by rw [BitVec.toNat_ofNat, Nat.mod_eq_of_lt (by omega)]; exact hk)
        rw [if_pos hk, this]
        have : IntOp.cmpi .eq (BitVec.ofNat 32 q.val) (BitVec.ofNat 32 q.val) = 1#1 := by simp [IntOp.cmpi]
        rw [this]; rfl
      · have hne : ¬ I (ix1 k) = BitVec.ofNat 32 q.val := fun h => hk (by rw [h, BitVec.toNat_ofNat, Nat.mod_eq_of_lt (by omega)])
        have : IntOp.cmpi .eq (I (ix1 k)) (BitVec.ofNat 32 q.val) = 0#1 := by
          show BitVec.ofBool (I (ix1 k) == BitVec.ofNat 32 q.val) = 0#1
          rw [beq_eq_false_iff_ne.2 hne]; rfl
        rw [if_neg hk, this]; rfl
    unfold sMx
    apply le_antisymm
    · refine Finset.sup_le fun k _ => ?_
      rw [hm]
      by_cases hk : (idN I k.val).toNat = q.val
      · rw [if_pos hk]
        exact Finset.le_sup (f := vN X l) (by unfold rowsN; rw [Finset.mem_filter, Finset.mem_range]; exact ⟨k.isLt, hk⟩)
      · rw [if_neg hk]; exact bot_le
    · refine Finset.sup_le fun i hi => ?_
      unfold rowsN at hi
      rw [Finset.mem_filter, Finset.mem_range] at hi
      have := Finset.le_sup (f := fun k : Fin 320000 => masked (F := Ideal) X I (ix3 q k l)) (Finset.mem_univ (⟨i, hi.1⟩ : Fin 320000))
      rw [hm, if_pos hi.2] at this
      exact this

end

/-! ## The gathered rows -/

theorem ixOf_apply (K : IVec S4096 32) (n : BitVec 32) (q : Fin 4096) (h : (K (ix1 q)).toNat < 2 ^ 31) : ixOf K n (ix2 q (0 : Fin 1)) = K (ix1 q) := by
  have e : ixOf K n (ix2 q (0 : Fin 1)) = Scalar.select (IntOp.cmpi .slt (K (ix1 q)) 0#32) (K (ix1 q) + n) (K (ix1 q)) := by
    unfold ixOf
    pointwise
    rfl
  rw [e]; exact wrap_of_lt _ _ h

theorem word_ok (x n : BitVec 32) (hx : x.toNat ≤ n.toNat) (hn : n.toNat < 2 ^ 31) : IntOp.andi (IntOp.cmpi .sge x 0#32) (IntOp.cmpi .sle x n) = 1#1 := by
  have h1 : IntOp.cmpi .sge x 0#32 = 1#1 := by
    simp only [IntOp.cmpi]
    rw [show BitVec.sle 0#32 x = true by rw [BitVec.sle_iff_toInt_le, BitVec.toInt_eq_toNat_of_lt (x := x) (by omega)]; exact Int.natCast_nonneg _]; rfl
  have h2 : IntOp.cmpi .sle x n = 1#1 := by
    simp only [IntOp.cmpi]
    rw [show BitVec.sle x n = true by rw [BitVec.sle_iff_toInt_le, BitVec.toInt_eq_toNat_of_lt (x := x) (by omega), BitVec.toInt_eq_toNat_of_lt (x := n) (by omega)]; exact_mod_cast hx]; rfl
  rw [h1, h2]; rfl

theorem okOf_one (J : IVec S4096x1 32) (n : BitVec 32) (hn : n.toNat < 2 ^ 31) (h : ∀ i, (J i).toNat ≤ n.toNat) (j : S4096.Idx) : okOf J n j = 1#1 :=
  Host.reduce_andi_one _ _ _ _ _ rfl fun i => word_ok (J i) n (h i) hn

theorem ok_ix (K : IVec S4096 32) (n k : BitVec 32) (hk : k.toNat < 2 ^ 31) (h : ∀ q, (K q).toNat ≤ k.toNat) (j : S4096.Idx) : okOf (ixOf K n) k j = 1#1 := by
  refine okOf_one _ _ hk (fun i => ?_) j
  have e : i = ix2 (n0 := 4096) (n1 := 1) (i 0) 0 := funext fun a => match a with | ⟨0, _⟩ => rfl | ⟨1, _⟩ => Fin.fin_one_eq_zero (i 1)
  have e' : ixOf K n i = K (ix1 (n0 := 4096) (i 0)) := (congrArg (ixOf K n) e).trans (ixOf_apply K n (i 0) (lt_of_le_of_lt (h _) hk))
  rw [e']; exact h _

theorem roots_apply (X : FVec Ideal S320000x128 .f32) (R : IVec S4096 32) (hR : ∀ q, (R q).toNat < 320000) (q : Fin 4096) (l : Fin 128) :
    roots (F := Ideal) X R (ix2 q l) = X (ix2 ⟨(R (ix1 q)).toNat, hR _⟩ l) := by
  unfold roots
  rw [ValueIdx.select_apply]
  have : broadcastInDim S4096x128 ![0] bcast_S4096_S4096x128_0 (okOf (ixOf R 320000#32) 319999#32) (ix2 q l) = 1#1 :=
    ok_ix R _ _ (by decide) (fun q => by have := hR q; show _ ≤ 319999; omega) _
  rw [this, ValueIdx.select_one]
  exact gather_row gather_S320000x128_S4096x1_S4096x128_1_0_n_n_0_1_1128 rfl rfl rfl rfl rfl X (ixOf R 320000#32) q l ⟨(R (ix1 q)).toNat, hR _⟩
    ((ixOf_apply R _ q (by have := hR (ix1 q); omega)).trans (by simp)) (by decide)

theorem taken_apply (Y : FVec Ideal S4096x256 .f32) (K : IVec S4096 32) (hK : ∀ j : S4096.Idx, K j = BitVec.ofNat 32 (j 0).val) (q : Fin 4096) (l : Fin 256) :
    taken (F := Ideal) Y K (ix2 q l) = Y (ix2 q l) := by
  have hK' : ∀ j : S4096.Idx, (K j).toNat = (j 0).val := fun j => by
    have h : (j 0).val < 4096 := (j 0).isLt
    rw [hK j, BitVec.toNat_ofNat, Nat.mod_eq_of_lt (by omega)]
  unfold taken
  rw [ValueIdx.select_apply]
  have : broadcastInDim S4096x256 ![0] bcast_S4096_S4096x256_0 (okOf (ixOf K 4096#32) 4095#32) (ix2 q l) = 1#1 :=
    ok_ix K _ _ (by decide) (fun j => by rw [hK']; have h : (j 0).val < 4096 := (j 0).isLt; show _ ≤ 4095; omega) _
  rw [this, ValueIdx.select_one]
  exact gather_row gather_S4096x256_S4096x1_S4096x256_1_0_n_n_0_1_1256 rfl rfl rfl rfl rfl Y (ixOf K 4096#32) q l q
    ((ixOf_apply K _ q (by rw [hK']; have := q.isLt; show q.val < _; omega)).trans (hK _)) (by decide)

/-! ## The dense layer and the unit norm -/

/-- An entry of the dense layer: three sums of 128 products, and the bias. -/
def rowX (A B C : Fin 4096 → Fin 128 → EReal) (W : S384x128.Idx → EReal) (b : Fin 128 → EReal) (q : Fin 4096) (l : Fin 128) : EReal :=
  (∑ c : Fin 128, A q c * W (ix2 ⟨c.val, by have := c.isLt; omega⟩ l)) + (∑ c : Fin 128, B q c * W (ix2 ⟨128 + c.val, by have := c.isLt; omega⟩ l))
    + (∑ c : Fin 128, C q c * W (ix2 ⟨256 + c.val, by have := c.isLt; omega⟩ l)) + b l

/-- The unit norm of a row. -/
def rowU (x : Fin 128 → EReal) (l : Fin 128) : EReal := Ideal.div (x l) (Ideal.ofBits .f32 0x33D6BF95#32 + Ideal.sqrt (∑ k : Fin 128, x k * x k))

theorem sum_384 (f : Fin 384 → EReal) : ∑ c, f c = (∑ c : Fin 128, f ⟨c.val, by have := c.isLt; omega⟩) + (∑ c : Fin 128, f ⟨128 + c.val, by have := c.isLt; omega⟩)
    + ∑ c : Fin 128, f ⟨256 + c.val, by have := c.isLt; omega⟩ := by
  rw [show (∑ c, f c) = ∑ c : Fin (256 + 128), f c from rfl, Fin.sum_univ_add, show (∑ c : Fin 256, f (Fin.castAdd 128 c)) = ∑ c : Fin (128 + 128), f (Fin.castAdd 128 c) from rfl, Fin.sum_univ_add]
  rfl

theorem dense_apply (M Q C : FVec Ideal S4096x128 .f32) (W : FVec Ideal S384x128 .f32) (b : FVec Ideal S128 .f32) (T : FVec Ideal S4096x256 .f32)
    (hT : ∀ (q : Fin 4096) (l : Fin 256), T (ix2 q l) = table M Q (ix2 q l)) (q : Fin 4096) (l : Fin 128) :
    dense (F := Ideal) (embs T C) W b (ix2 q l) = rowX (fun q l => M (ix2 q l)) (fun q l => Q (ix2 q l)) (fun q l => C (ix2 q l)) W (fun l => b (ix1 l)) q l := by
  unfold dense rowX
  rw [ValueIdx.addf_apply]
  have hb : broadcastInDim S4096x128 ![0, 1] bcast_S1x128_S4096x128_0_1 (broadcastInDim S1x128 ![1] bcast_S128_S1x128_1 b) (ix2 q l) = b (ix1 l) := by
    pointwise
  rw [hb]
  refine congrArg (· + b (ix1 l)) ?_
  refine (dotGeneral_plain_apply (m := 4096) (n := 128) (k := 384) none (embs T C) W q l).trans ?_
  rw [sum_384]
  have eL : ∀ c : Fin 256, embs T C (ix2 q ⟨c.val, by have := c.isLt; omega⟩) = T (ix2 q c) := fun c =>
    concatenate_pair_apply_left (t := S4096x384) (s₁ := S4096x256) (s₂ := S4096x128) 1 T C concatenates_S4096x256_S4096x128_S4096x384_d1 _ rfl (ix2 q c)
      (fun a => match a with | ⟨0, _⟩ => rfl | ⟨1, _⟩ => rfl)
  have eR : ∀ c : Fin 128, embs T C (ix2 q ⟨256 + c.val, by have := c.isLt; omega⟩) = C (ix2 q c) := fun c =>
    concatenate_pair_apply_right (t := S4096x384) (s₁ := S4096x256) (s₂ := S4096x128) 1 T C concatenates_S4096x256_S4096x128_S4096x384_d1 _ rfl rfl (ix2 q c)
      (fun a => match a with | ⟨0, _⟩ => fun _ => rfl | ⟨1, _⟩ => fun h => absurd rfl h) (Nat.add_comm _ _)
  have tL : ∀ c : Fin 128, table M Q (ix2 q ⟨c.val, by have := c.isLt; omega⟩) = M (ix2 q c) := fun c =>
    concatenate_pair_apply_left (t := S4096x256) (s₁ := S4096x128) (s₂ := S4096x128) 1 M Q concatenates_S4096x128_S4096x128_S4096x256_d1 _ rfl (ix2 q c)
      (fun a => match a with | ⟨0, _⟩ => rfl | ⟨1, _⟩ => rfl)
  have tR : ∀ c : Fin 128, table M Q (ix2 q ⟨128 + c.val, by have := c.isLt; omega⟩) = Q (ix2 q c) := fun c =>
    concatenate_pair_apply_right (t := S4096x256) (s₁ := S4096x128) (s₂ := S4096x128) 1 M Q concatenates_S4096x128_S4096x128_S4096x256_d1 _ rfl rfl (ix2 q c)
      (fun a => match a with | ⟨0, _⟩ => fun _ => rfl | ⟨1, _⟩ => fun h => absurd rfl h) (Nat.add_comm _ _)
  congr 1
  · congr 1
    · refine Finset.sum_congr rfl fun c _ => ?_
      exact congrArg (· * W _) ((eL ⟨c.val, by have := c.isLt; omega⟩).trans ((hT _ _).trans (tL c)))
    · refine Finset.sum_congr rfl fun c _ => ?_
      exact congrArg (· * W _) ((eL ⟨128 + c.val, by have := c.isLt; omega⟩).trans ((hT _ _).trans (tR c)))
  · refine Finset.sum_congr rfl fun c _ => ?_
    exact congrArg (· * W _) (eR c)

theorem unit_apply (x : FVec Ideal S4096x128 .f32) (q : Fin 4096) (l : Fin 128) : unit (F := Ideal) x (ix2 q l) = rowU (fun k => x (ix2 q k)) l := by
  unfold unit rowU
  rw [hostDivf_apply]
  refine congrArg (Ideal.div _) ?_
  have e : broadcastInDim S4096x128 ![0, 1] bcast_S4096x1_S4096x128_0_1 (addf (broadcastInDim S4096x1 ![] bcast_S_S4096x1 (constant (F := Ideal) S_ .f32 0x33D6BF95#32))
      (Host.sqrt (broadcastInDim S4096x1 ![0] bcast_S4096_S4096x1_0 (Host.reduceAdd (mulf x x) (constant S_ .f32 0x00000000#32) reducesTo_S4096x128_S4096_d1 h_S_)))) (ix2 q l)
      = Ideal.ofBits .f32 0x33D6BF95#32 + Ideal.sqrt (Host.reduceAdd (mulf x x) (constant (F := Ideal) S_ .f32 0x00000000#32) reducesTo_S4096x128_S4096_d1 h_S_ (ix1 q)) := by
    pointwise
  rw [e]
  refine congrArg (fun z => _ + Ideal.sqrt z) ?_
  rw [hostReduceAdd_apply, Ideal.hostReduceAdd_r2_a1]
  have h0 : (constant (F := Ideal) S_ .f32 0x00000000#32) (Shape.Idx.first h_S_) = 0 := Ideal.ofBits_zero_f32
  rw [h0, zero_add]
  rfl

/-- The reference's result at an entry. -/
theorem refOut_apply (X : FVec Ideal S320000x128 .f32) (I : IVec S320000 32) (R K : IVec S4096 32) (W : FVec Ideal S384x128 .f32) (b : FVec Ideal S128 .f32)
    (hd : ∀ i, (I i).toNat < 4096) (hR : ∀ q, (R q).toNat < 320000) (hK : ∀ j : S4096.Idx, K j = BitVec.ofNat 32 (j 0).val) (q : Fin 4096) (l : Fin 128) :
    refOut (F := Ideal) X I R K W b (ix2 q l)
      = rowU (fun k => rowX (fun q l => wMean (vN X l) (rowsN I q.val)) (fun q l => wMax (vN X l) (rowsN I q.val))
          (fun q l => X (ix2 ⟨(R (ix1 q)).toNat, hR _⟩ l)) W (fun l => b (ix1 l)) q k) l := by
  unfold refOut
  rw [unit_apply]
  refine congrArg (fun f => rowU f l) (funext fun k => ?_)
  rw [dense_apply (means (F := Ideal) X I) (maxima (F := Ideal) X I) _ W b _ (fun q l => taken_apply _ K hK q l)]
  simp only [means_apply X I hd, maxima_apply X I hd, roots_apply X R hR]

end Cert.Proof.SegRef

end
-- ==== Proof.DenseEnt.lean ====
/-
  The kernel's dense layer read at an entry, over the extended reals: three sums of 128 products, the bias, and the unit norm.
-/
module

public import proofs.«01_k».proof.Proof.DenseVal
public import proofs.«01_k».proof.Proof.RefVal
public import Idealize.ShloMosaic.Lib.MatmulPlain
public import Idealize.ShloMosaic.Lib.Pointwise

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

open Cert.Proof.SegRef (rowX rowU)

/-! ## The dense layer's arithmetic at an entry -/

/-- A block of rows of the weights, read at an entry. -/
theorem ld_apply (W : S384x128.Idx → Elt Ideal .f32) (o : ℕ) (inb : ∀ a : Fin 2, (![o, 0] : Fin 2 → ℕ) a + (![128, 128] : Fin 2 → ℕ) a ≤ S384x128.size a)
    (c l : Fin 128) (h : o + c.val < 384) :
    (View.ld (Val := Elt Ideal) W (Rect.unit (s := S384x128) ![o, 0] ![128, 128] inb)) (ix2 c l) = W (ix2 ⟨o + c.val, h⟩ l) := by
  refine congrArg W (funext fun a => Fin.ext ?_)
  match a with
  | ⟨0, _⟩ => exact congrArg (o + ·) (Nat.one_mul c.val)
  | ⟨1, _⟩ => exact (Nat.zero_add _).trans (Nat.one_mul l.val)

/-- A block of 128 rows of the weights. -/
abbrev wB (W : S384x128.Idx → Elt Ideal .f32) (o : ℕ) (inb : ∀ a : Fin 2, (![o, 0] : Fin 2 → ℕ) a + (![128, 128] : Fin 2 → ℕ) a ≤ S384x128.size a) :
    FVec Ideal S128x128 .f32 := View.ld (Val := Elt Ideal) W (Rect.unit (s := S384x128) ![o, 0] ![128, 128] inb)

/-- A matrix cast to its own shape. -/
theorem cast_self (A : FVec Ideal S4096x128 .f32) : shapeCast S4096x128 A shapeCasts_S4096x128_S4096x128 = A :=
  funext fun j => shapeCast_apply A _ j j rfl

/-- A product of 4096 rows with a 128 by 128 block. -/
theorem mm_apply (A : FVec Ideal S4096x128 .f32) (W : FVec Ideal S128x128 .f32) (q : Fin 4096) (l : Fin 128) :
    matmul dot_S4096x128_S128x128_S4096x128_1_0_0_1_n_n (some .fp32) (shapeCast S4096x128 A shapeCasts_S4096x128_S4096x128) W
      (constant (F := Ideal) S4096x128 .f32 0x00000000#32) (ix2 q l) = ∑ c : Fin 128, A (ix2 q c) * W (ix2 c l) := by
  rw [cast_self]
  refine (Ideal.matmul_plain_apply (M := 4096) (K := 128) (N := 128) (some .fp32) A W (constant (F := Ideal) S4096x128 .f32 0x00000000#32) q l).trans ?_
  refine (congrArg (fun z : EReal => z + ∑ c : Fin 128, A (ix2 q c) * W (ix2 c l)) Ideal.ofBits_zero_f32).trans ?_
  exact zero_add _

/-- The dense layer before the unit norm. -/
def pre (A : FVec Ideal S4096x128 .f32) (W0 : FVec Ideal S128x128 .f32) (B : FVec Ideal S4096x128 .f32) (W1 : FVec Ideal S128x128 .f32)
    (C : FVec Ideal S4096x128 .f32) (W2 : FVec Ideal S128x128 .f32) (b : FVec Ideal S1x128 .f32) : FVec Ideal S4096x128 .f32 :=
  addf (addf (addf
    (matmul dot_S4096x128_S128x128_S4096x128_1_0_0_1_n_n (some .fp32) (shapeCast S4096x128 A shapeCasts_S4096x128_S4096x128) W0 (constant S4096x128 .f32 0x00000000#32))
    (matmul dot_S4096x128_S128x128_S4096x128_1_0_0_1_n_n (some .fp32) (shapeCast S4096x128 B shapeCasts_S4096x128_S4096x128) W1 (constant S4096x128 .f32 0x00000000#32)))
    (matmul dot_S4096x128_S128x128_S4096x128_1_0_0_1_n_n (some .fp32) (shapeCast S4096x128 C shapeCasts_S4096x128_S4096x128) W2 (constant S4096x128 .f32 0x00000000#32)))
    (broadcastTo S4096x128 (shapeCast S1x128 b shapeCasts_S1x128_S1x128) broadcasts_S1x128_S4096x128)

theorem bias_apply (b : FVec Ideal S1x128 .f32) (q : Fin 4096) (l : Fin 128) :
    broadcastTo S4096x128 (shapeCast S1x128 b shapeCasts_S1x128_S1x128) broadcasts_S1x128_S4096x128 (ix2 q l) = b (ix2 (0 : Fin 1) l) := by
  refine (broadcastTo_apply _ _ (ix2 q l) (ix2 (0 : Fin 1) l) fun a => ?_).trans (shapeCast_apply b _ _ _ rfl)
  match a with
  | ⟨0, _⟩ => rfl
  | ⟨1, _⟩ => rfl

theorem pre_apply (A : FVec Ideal S4096x128 .f32) (B C : FVec Ideal S4096x128 .f32) (W : FVec Ideal S384x128 .f32) (b : FVec Ideal S1x128 .f32) (q : Fin 4096) (l : Fin 128) :
    pre A (wB W 0 inb_S384x128_S128x128_0_0) B
      (wB W 128 inb_S384x128_S128x128_128_0) C
      (wB W 256 inb_S384x128_S128x128_256_0) b (ix2 q l)
      = rowX (fun q l => A (ix2 q l)) (fun q l => B (ix2 q l)) (fun q l => C (ix2 q l)) W (fun l => b (ix2 (0 : Fin 1) l)) q l := by
  unfold pre rowX
  refine congrArg₂ (fun x y : EReal => x + y) (congrArg₂ (fun x y : EReal => x + y) (congrArg₂ (fun x y : EReal => x + y) ?_ ?_) ?_) (bias_apply b q l)
  · refine (mm_apply A _ q l).trans (Finset.sum_congr rfl fun c _ => ?_)
    refine congrArg (fun z : EReal => A (ix2 q c) * z) ?_
    refine (ld_apply W 0 _ c l (by have := c.isLt; omega)).trans (congrArg (fun k => W (ix2 k l)) (Fin.ext (Nat.zero_add _)))
  · refine (mm_apply B _ q l).trans (Finset.sum_congr rfl fun c _ => ?_)
    exact congrArg (fun z : EReal => B (ix2 q c) * z) (ld_apply W 128 _ c l (by have := c.isLt; omega))
  · refine (mm_apply C _ q l).trans (Finset.sum_congr rfl fun c _ => ?_)
    exact congrArg (fun z : EReal => C (ix2 q c) * z) (ld_apply W 256 _ c l (by have := c.isLt; omega))

/-- The unit norm of a matrix's rows. -/
def unitK (x : FVec Ideal S4096x128 .f32) : FVec Ideal S4096x128 .f32 :=
  divf x (broadcastTo S4096x128 (addf (broadcast S4096x1 (Scalar.ofBits (F := Ideal) .f32 0x33D6BF95#32))
    (sqrt (shapeCast S4096x1 (multiReduction .add [1] S4096 (mulf x x) 0x00000000#32 reduces_S4096x128_S4096 (.inl rfl) rfl) shapeCasts_S4096_S4096x1)))
    broadcasts_S4096x1_S4096x128)

theorem unitK_apply (x : FVec Ideal S4096x128 .f32) (q : Fin 4096) (l : Fin 128) : unitK x (ix2 q l) = rowU (fun k => x (ix2 q k)) l := by
  unfold unitK rowU
  refine congrArg (Ideal.div (x (ix2 q l))) ?_
  refine (broadcastTo_apply _ _ (ix2 q l) (ix2 q (0 : Fin 1)) fun a => ?_).trans ?_
  · match a with
    | ⟨0, _⟩ => rfl
    | ⟨1, _⟩ => rfl
  · refine congrArg (fun z : EReal => Ideal.ofBits .f32 0x33D6BF95#32 + Ideal.sqrt z) ?_
    refine (shapeCast_apply _ _ (ix2 q (0 : Fin 1)) (ix1 q) ?_).trans ?_
    · rw [Shape.rowMajor_val_one, Shape.rowMajor_val_two]
      show q.val = q.val * 1 + 0
      omega
    · refine (multiReduction_add_apply _ _ _ _ _ _).trans ?_
      exact Ideal.reduceAdd_r2_a1 _ (mulf x x) (ix1 q)

theorem k1_pay1_eq (A B C : FVec Ideal S4096x128 .f32) (W0 W1 W2 : FVec Ideal S128x128 .f32) (b : FVec Ideal S1x128 .f32) :
    k1_pay1 (F := Ideal) A W0 B W1 C W2 b = unitK (pre A W0 B W1 C W2 b) := rfl

/-- The kernel's dense layer at an entry. -/
theorem pay_apply (A B C : FVec Ideal S4096x128 .f32) (W : FVec Ideal S384x128 .f32) (b : FVec Ideal S1x128 .f32) (q : Fin 4096) (l : Fin 128) :
    k1_pay1 (F := Ideal) A (wB W 0 inb_S384x128_S128x128_0_0) B
      (wB W 128 inb_S384x128_S128x128_128_0) C
      (wB W 256 inb_S384x128_S128x128_256_0) b (ix2 q l)
      = rowU (fun k => rowX (fun q l => A (ix2 q l)) (fun q l => B (ix2 q l)) (fun q l => C (ix2 q l)) W (fun l => b (ix2 (0 : Fin 1) l)) q k) l := by
  rw [k1_pay1_eq, unitK_apply]
  exact congrArg (fun f => rowU f l) (funext fun k => pre_apply A B C W b q k)

end Cert.Proof.SegKernelIdeal

end
-- ==== Proof.KVal.lean ====
/-
  The kernel's result read at an entry, over the extended reals: from arguments whose segment ids are sorted it is the dense layer, with the
  unit norm, of each segment's mean and maximum over its rows and of the gathered root rows.
-/
module

public import proofs.«01_k».proof.Proof.DenseEnt
public import proofs.«01_k».proof.Proof.Launch

@[expose] public section

noncomputable section

namespace Cert.Proof.SegKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

open Cert.Proof.SegRef (rowX rowU)

/-! ## The arrays the dense layer is given, at an entry -/

section
variable (I : S320000.Idx → BitVec 32) (J : S20000x16.Idx → BitVec 32) (X : S320000x128.Idx → Ideal .f32)
variable (hd : ∀ i, i < 320000 → (idN I i).toNat < 4096) (hs : ∀ i j, i ≤ j → j < 320000 → (idN I i).toNat ≤ (idN I j).toNat)
variable (hJ : ∀ (n : ℕ) (j : Fin 16), n < 20000 → rowJ J n j = idN I (16 * n + j.val))

theorem flat_lt (q : Fin 4096) (l : Fin 128) : 128 * q.val + l.val < 524288 := by have := q.isLt; have := l.isLt; omega

theorem bs_Lw {w : ℕ} (h : w < 32) : bs (Lw w) = 128 * w := by
  show 256 * (w / 2 % 16) + 128 * (w % 2) = 128 * w
  omega

theorem flat_ix (q : Fin 4096) (l : Fin 128) (h : (128 * q.val + l.val) % 16384 < 16384) :
    (ix1 ⟨(128 * q.val + l.val) % 16384, h⟩ : S16384.Idx) = ix1 ⟨128 * (q.val % 128) + l.val, by have := l.isLt; omega⟩ :=
  congrArg ix1 (Fin.ext (show (128 * q.val + l.val) % 16384 = 128 * (q.val % 128) + l.val by have := l.isLt; omega))

include hd hs hJ in
theorem meanOut_apply (q : Fin 4096) (l : Fin 128) : meanOut I J X (ix1 ⟨128 * q.val + l.val, flat_lt q l⟩) = wMean (vN X l) (rowsN I q.val) := by
  have hq := q.isLt
  have hl := l.isLt
  have e := (tile_val I J hd hs hJ X (Lw (q.val / 128)) ⟨q.val % 128, Nat.mod_lt _ (by decide)⟩ l).1
  rw [bs_Lw (by omega)] at e
  have e1 : 128 * (q.val / 128) + q.val % 128 = q.val := by omega
  have e2 : (128 * q.val + l.val) / 16384 = q.val / 128 := by omega
  refine Eq.trans ?_ (e.trans (congrArg (fun k => wMean (vN X l) (rowsN I k)) e1))
  show (tileAcc (Lw ((128 * q.val + l.val) / 16384)) I J X).m (ix1 ⟨(128 * q.val + l.val) % 16384, _⟩) = _
  rw [e2]
  exact congrArg (tileAcc (Lw (q.val / 128)) I J X).m (flat_ix q l _)

include hd hs hJ in
theorem maxOut_apply (q : Fin 4096) (l : Fin 128) : maxOut I J X (ix1 ⟨128 * q.val + l.val, flat_lt q l⟩) = wMax (vN X l) (rowsN I q.val) := by
  have hq := q.isLt
  have hl := l.isLt
  have e := (tile_val I J hd hs hJ X (Lw (q.val / 128)) ⟨q.val % 128, Nat.mod_lt _ (by decide)⟩ l).2
  rw [bs_Lw (by omega)] at e
  have e1 : 128 * (q.val / 128) + q.val % 128 = q.val := by omega
  have e2 : (128 * q.val + l.val) / 16384 = q.val / 128 := by omega
  refine Eq.trans ?_ (e.trans (congrArg (fun k => wMax (vN X l) (rowsN I k)) e1))
  show (tileAcc (Lw ((128 * q.val + l.val) / 16384)) I J X).x (ix1 ⟨(128 * q.val + l.val) % 16384, _⟩) = _
  rw [e2]
  exact congrArg (tileAcc (Lw (q.val / 128)) I J X).x (flat_ix q l _)
end

/-- A vector of 524288 as 4096 rows. -/
theorem rows_apply (Y : FVec Ideal S524288 .f32) (q : Fin 4096) (l : Fin 128) :
    shapeCast S4096x128 Y shapeCasts_S524288_S4096x128 (ix2 q l) = Y (ix1 ⟨128 * q.val + l.val, flat_lt q l⟩) := by
  refine shapeCast_apply Y _ _ _ ?_
  rw [Shape.rowMajor_val_one, Shape.rowMajor_val_two]
  show 128 * q.val + l.val = q.val * 128 + l.val
  omega

theorem row1_apply (Y : FVec Ideal S128 .f32) (l : Fin 128) : shapeCast S1x128 Y shapeCasts_S128_S1x128 (ix2 (0 : Fin 1) l) = Y (ix1 l) := by
  refine shapeCast_apply Y _ _ _ ?_
  rw [Shape.rowMajor_val_one, Shape.rowMajor_val_two]
  show l.val = 0 * 128 + l.val
  omega

theorem idrow_apply (Y : IVec S320000 32) (n : ℕ) (j : Fin 16) (h : n < 20000) :
    rowJ (shapeCast S20000x16 Y shapeCasts_S320000_S20000x16) n j = idN Y (16 * n + j.val) := by
  have hj := j.isLt
  unfold rowJ idN
  rw [dif_pos h, dif_pos (show 16 * n + j.val < 320000 by omega)]
  refine shapeCast_apply Y _ _ _ ?_
  rw [Shape.rowMajor_val_one, Shape.rowMajor_val_two]
  show 16 * n + j.val = n * 16 + j.val
  omega

variable (m : (ℓ : Loc nD τ sig) → Buf (Elt Ideal) ℓ)

theorem jv_eq (d : Dev nD) : jv m d = shapeCast S20000x16 (m (lI d)) shapeCasts_S320000_S20000x16 :=
  StableHlo.reshape_result main_arg1 main_v0 _ _ _ _ _

theorem V3_v2 (d : Dev nD) : V3 m d r2' = shapeCast S4096x128 (gMean m d) shapeCasts_S524288_S4096x128 := by
  unfold V3
  rw [(op4 (F := Ideal)).result_of_not_mem _ (by decide), (op3 (F := Ideal)).result_of_not_mem _ (by decide)]
  exact (StableHlo.reshape_result main_v1_0 main_v2 _ _ _ _ _).trans (congrArg (fun Y => shapeCast S4096x128 Y shapeCasts_S524288_S4096x128) (V2_M m d))

theorem V3_v3 (d : Dev nD) : V3 m d r3' = shapeCast S4096x128 (gMax m d) shapeCasts_S524288_S4096x128 := by
  unfold V3
  rw [(op4 (F := Ideal)).result_of_not_mem _ (by decide)]
  refine (StableHlo.reshape_result main_v1_1 main_v3 _ _ _ _ _).trans (congrArg (fun Y => shapeCast S4096x128 Y shapeCasts_S524288_S4096x128) ?_)
  exact ((op2 (F := Ideal)).result_of_not_mem _ (by decide)).trans (V2_X m d)

theorem V3_v4 (d : Dev nD) : V3 m d r4' = shapeCast S1x128 (m (d, a5')) shapeCasts_S128_S1x128 := by
  unfold V3
  refine (StableHlo.reshape_result main_arg5 main_v4 _ _ _ _ _).trans (congrArg (fun Y => shapeCast S1x128 Y shapeCasts_S128_S1x128) ?_)
  refine ((op3 (F := Ideal)).result_of_not_mem _ (by decide)).trans (((op2 (F := Ideal)).result_of_not_mem _ (by decide)).trans ?_)
  exact (V2_ne m d (by decide) (by decide) (by decide)).trans (V1_ne m d (by decide))

theorem V3_root (d : Dev nD) : V3 m d rR' = gRoot m d :=
  (V3_ne m d (by decide) (by decide) (by decide)).trans (V2_R m d)

theorem V3_W (d : Dev nD) : V3 m d a4' = m (d, a4') :=
  (V3_ne m d (by decide) (by decide) (by decide)).trans ((V2_ne m d (by decide) (by decide) (by decide)).trans (V1_ne m d (by decide)))

theorem rootRow_apply (R : S4096.Idx → BitVec 32) (X : S320000x128.Idx → Ideal .f32) (hR : ∀ q, (R q).toNat < 320000) (q : Fin 4096) (l : Fin 128) :
    rootRow R X (ix2 q l) = X (ix2 ⟨(R (ix1 q)).toNat, hR _⟩ l) := dif_pos (hR _)

/-- The program's result at an entry, from arguments whose segment ids are sorted. -/
theorem outcome_apply (d : Dev nD) (X : FVec Ideal S320000x128 .f32) (I : IVec S320000 32) (R : IVec S4096 32) (W : FVec Ideal S384x128 .f32) (b : FVec Ideal S128 .f32)
    (eX : m (lX d) = X) (eI : m (lI d) = I) (eR : m (lR d) = R) (eW : m (d, a4') = W) (eb : m (d, a5') = b)
    (hd : ∀ i, i < 320000 → (idN I i).toNat < 4096) (hs : ∀ i j, i ≤ j → j < 320000 → (idN I i).toNat ≤ (idN I j).toNat)
    (hR : ∀ q, (R q).toNat < 320000) (q : Fin 4096) (l : Fin 128) :
    outcome m d (ix2 q l)
      = rowU (fun k => rowX (fun q l => wMean (vN X l) (rowsN I q.val)) (fun q l => wMax (vN X l) (rowsN I q.val))
          (fun q l => X (ix2 ⟨(R (ix1 q)).toNat, hR _⟩ l)) W (fun l => b (ix1 l)) q k) l := by
  subst eX eI eR eW eb
  have hJ : ∀ (n : ℕ) (j : Fin 16), n < 20000 → rowJ (jv m d) n j = idN (m (lI d)) (16 * n + j.val) := fun n j h => by
    rw [jv_eq]; exact idrow_apply _ n j h
  unfold outcome
  rw [outAt_eq]
  refine (pay_apply _ _ _ _ _ q l).trans ?_
  have e1 : ∀ (q : Fin 4096) (l : Fin 128), V3 m d r2' (ix2 q l) = wMean (vN (m (lX d)) l) (rowsN (m (lI d)) q.val) := fun q l => by
    rw [V3_v2]; exact (rows_apply _ q l).trans (meanOut_apply _ _ _ hd hs hJ q l)
  have e2 : ∀ (q : Fin 4096) (l : Fin 128), V3 m d r3' (ix2 q l) = wMax (vN (m (lX d)) l) (rowsN (m (lI d)) q.val) := fun q l => by
    rw [V3_v3]; exact (rows_apply _ q l).trans (maxOut_apply _ _ _ hd hs hJ q l)
  have e3 : ∀ (q : Fin 4096) (l : Fin 128), V3 m d rR' (ix2 q l) = m (lX d) (ix2 ⟨(m (lR d) (ix1 q)).toNat, hR _⟩ l) := fun q l => by
    rw [V3_root]; exact rootRow_apply _ _ hR q l
  have e4 : ∀ l : Fin 128, V3 m d r4' (ix2 (0 : Fin 1) l) = m (d, a5') (ix1 l) := fun l => by
    rw [V3_v4]; exact row1_apply _ l
  refine congrArg (fun f => rowU f l) (funext fun k => ?_)
  have f1 : (fun (q : Fin 4096) (l : Fin 128) => V3 m d r2' (ix2 q l)) = fun q l => wMean (vN (m (lX d)) l) (rowsN (m (lI d)) q.val) := funext fun q => funext fun l => e1 q l
  have f2 : (fun (q : Fin 4096) (l : Fin 128) => V3 m d r3' (ix2 q l)) = fun q l => wMax (vN (m (lX d)) l) (rowsN (m (lI d)) q.val) := funext fun q => funext fun l => e2 q l
  have f3 : (fun (q : Fin 4096) (l : Fin 128) => V3 m d rR' (ix2 q l)) = fun q l => m (lX d) (ix2 ⟨(m (lR d) (ix1 q)).toNat, hR _⟩ l) := funext fun q => funext fun l => e3 q l
  have f4 : (fun l : Fin 128 => V3 m d r4' (ix2 (0 : Fin 1) l)) = fun l => m (d, a5') (ix1 l) := funext fun l => e4 l
  refine Eq.trans ?_ (congrFun (congrArg (fun w => rowX _ _ _ w _ q) (V3_W m d)) k)
  refine Eq.trans ?_ (congrArg (fun g => rowX _ _ _ _ g q k) f4)
  refine Eq.trans ?_ (congrArg (fun g => rowX _ _ g _ _ q k) f3)
  refine Eq.trans ?_ (congrArg (fun g => rowX _ g _ _ _ q k) f2)
  exact congrArg (fun g => rowX g _ _ _ _ q k) f1

end Cert.Proof.SegKernelIdeal

end
-- ==== Proof.Algebraic.lean ====
/-
  The algebraic claim: over the extended reals the kernel and the reference return the same values, from segment ids that are sorted and name
  segments, roots that name rows, and root indices that count from zero.
-/
module

public import proofs.«01_k».proof.Proof.Frames
public import proofs.«01_k».proof.Proof.PreSorted
public import proofs.«01_k».proof.Proof.KVal

@[expose] public section

noncomputable section

namespace Cert.Proof

open Idealize.ShloMosaic Idealize.SL.Sem

/-- Each id is at most the next: so the ids never fall. -/
theorem mono_of_next (f : ℕ → ℕ) (N : ℕ) (h : ∀ i, i + 1 < N → f i ≤ f (i + 1)) (i j : ℕ) (hij : i ≤ j) (hj : j < N) : f i ≤ f j := by
  induction j with
  | zero => rw [Nat.le_zero.1 hij]
  | succ k ih =>
    rcases Nat.lt_or_ge i (k + 1) with hk | hk
    · exact (ih (by omega) (by omega)).trans (h k hj)
    · rw [show i = k + 1 by omega]

/-- The kernel's result and the reference's, from one set of arguments. -/
theorem outcome_eq (m : (ℓ : Loc Cert.KernelIdeal.nD Cert.KernelIdeal.τ Cert.KernelIdeal.sig) → Buf (Elt Ideal) ℓ) (d : Dev Cert.KernelIdeal.nD)
    (X : FVec Ideal Cert.KernelIdeal.S320000x128 .f32) (I : IVec Cert.KernelIdeal.S320000 32) (R K : IVec Cert.KernelIdeal.S4096 32)
    (W : FVec Ideal Cert.KernelIdeal.S384x128 .f32) (b : FVec Ideal Cert.KernelIdeal.S128 .f32)
    (eX : m (SegKernelIdeal.lX d) = X) (eI : m (SegKernelIdeal.lI d) = I) (eR : m (SegKernelIdeal.lR d) = R)
    (eW : m (d, SegKernelIdeal.a4') = W) (eb : m (d, SegKernelIdeal.a5') = b) (h : Pre.Sorted I R K) :
    SegKernelIdeal.outcome m d = SegRef.refOut (F := Ideal) X I R K W b := by
  have hI : ∀ i (hi : i < 320000), SegKernelIdeal.idN I i = I (ix1 ⟨i, hi⟩) := fun i hi => by unfold SegKernelIdeal.idN; rw [dif_pos hi]
  have hd : ∀ i, i < 320000 → (SegKernelIdeal.idN I i).toNat < 4096 := fun i hi => by rw [hI i hi]; exact h.ids _
  have hs : ∀ i j, i ≤ j → j < 320000 → (SegKernelIdeal.idN I i).toNat ≤ (SegKernelIdeal.idN I j).toNat :=
    mono_of_next (fun i => (SegKernelIdeal.idN I i).toNat) 320000 fun i hi => by
      show (SegKernelIdeal.idN I i).toNat ≤ (SegKernelIdeal.idN I (i + 1)).toNat
      rw [hI i (by omega), hI (i + 1) hi]
      exact h.sorted ⟨i, by omega⟩
  funext y
  have ey : y = ix2 (n0 := 4096) (n1 := 128) (y 0) (y 1) := funext fun a => match a with | ⟨0, _⟩ => rfl | ⟨1, _⟩ => rfl
  rw [ey]
  exact (SegKernelIdeal.outcome_apply m d X I R W b eX eI eR eW eb hd hs h.roots (y 0) (y 1)).trans
    (SegRef.refOut_apply X I R K W b h.ids h.roots h.arange (y 0) (y 1)).symm

theorem frame_PI_sorted : Cert.quiescent_KernelIdeal_pre_sorted_segments := fun m g hpre =>
  (θ_run Cert.KernelIdeal.defs _ _).mono (fun _ h => ⟨fun c => (h.1 c).2, h.2⟩) (frame_of (F := Ideal) m g fun d j => (Pre.sorted (hpre d)).roots j)

theorem frame_RI_sorted : Cert.quiescent_ReferenceIdeal_pre_sorted_segments := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel and the reference return the same values. -/
theorem algebraic : Cert.algebraic_KernelIdeal_ReferenceIdeal_pre_sorted_segments := fun m g m' g' hpre hm =>
  ⟨fun c => SegKernelIdeal.outcome m c,
    (θ_run Cert.KernelIdeal.defs _ _).mono (fun _ h => h.1) (frame_of (F := Ideal) m g fun d j => (Pre.sorted (hpre d)).roots j),
    (θ_run Cert.ReferenceIdeal.defs _ _).mono (fun r h c => by
      obtain ⟨e0, e1, e2, e3, e4, e5⟩ := hm c
      refine ⟨(h c).1.trans ?_, (h c).2⟩
      refine (SegRef.res_eq m' c).trans ?_
      rw [e0, e1, e2, e3, e4, e5]
      exact (outcome_eq m c _ _ _ _ _ _ rfl rfl rfl rfl rfl (Pre.sorted (hpre c))).symm)
      (Cert.ReferenceIdeal.Value.run (F := Ideal) m' g')⟩

end Cert.Proof

end
-- ==== Proof.lean ====
/- The claims about the segment kernel: its frames, what its idealization preserves, and its equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_roots_in_range
public import proofs.«01_k».proof.Proof.Gen.Pre_sorted_segments
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_roots_in_range.Gen.facts,
    Cert.Pre_sorted_segments.Gen.facts, frame_P, frame_PI, frame_PI_sorted, frame_RI, frame_RI_sorted, trivial, algebraic⟩

end Cert.Proof

end
